-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)) (v3 : (c : Dev Cert.KernelIdeal.nD) → Buf (Elt Ideal) ((c.tc : Thread Cert.KernelIdeal.nD Cert.KernelIdeal.τ).loc Cert.KernelIdeal.main_v7_2)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)) (v6 : (c : Dev Cert.KernelIdeal.nD) → Buf (Elt Ideal) ((c.tc : Thread Cert.KernelIdeal.nD Cert.KernelIdeal.τ).loc Cert.KernelIdeal.main_v11)) (v7 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_v7_2) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_v11) = v6 c
          ∧ r.2.mem ((c.tc : Thread Cert.KernelIdeal.nD Cert.KernelIdeal.τ).loc Cert.KernelIdeal.main_v13) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_v9) = v5 c
          ∧ r.2.mem ((c.tc : Thread Cert.ReferenceIdeal.nD Cert.ReferenceIdeal.τ).loc Cert.ReferenceIdeal.main_v10) = v6 c
          ∧ r.2.mem ((c.tc : Thread Cert.ReferenceIdeal.nD Cert.ReferenceIdeal.τ).loc Cert.ReferenceIdeal.main_v11) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x896 : Shape := ⟨3, ![1, 256, 896]⟩
abbrev S896x4864 : Shape := ⟨2, ![896, 4864]⟩
abbrev S4864 : Shape := ⟨1, ![4864]⟩
abbrev S4864x896 : Shape := ⟨2, ![4864, 896]⟩
abbrev S896 : Shape := ⟨1, ![896]⟩
abbrev S256x896 : Shape := ⟨2, ![256, 896]⟩
abbrev S1x4864 : Shape := ⟨2, ![1, 4864]⟩
abbrev S1x896 : Shape := ⟨2, ![1, 896]⟩
abbrev S256x1 : Shape := ⟨2, ![256, 1]⟩
abbrev S256x14 : Shape := ⟨2, ![256, 14]⟩
abbrev S256x4864 : Shape := ⟨2, ![256, 4864]⟩
abbrev S256x128 : Shape := ⟨2, ![256, 128]⟩
abbrev S896x256 : Shape := ⟨2, ![896, 256]⟩
abbrev S1x256 : Shape := ⟨2, ![1, 256]⟩
abbrev S256x256 : Shape := ⟨2, ![256, 256]⟩
abbrev S256 : Shape := ⟨1, ![256]⟩
abbrev S1x256x14 : Shape := ⟨3, ![1, 256, 14]⟩
abbrev S1x256x4864 : Shape := ⟨3, ![1, 256, 4864]⟩
abbrev S256x76 : Shape := ⟨2, ![256, 76]⟩
abbrev S1x256x76 : Shape := ⟨3, ![1, 256, 76]⟩

abbrev nBuf : Space → Nat
  | .hbm => 38
  | .vmem => 68
  | .smem => 0
  | _ => 0

abbrev bufTy : (tb : Table) → Fin (tcTables nBuf tb) → BufTy
  | .hbm, ⟨0, _⟩ => ⟨S1x256x896, .bf16⟩
  | .hbm, ⟨1, _⟩ => ⟨S1x256x896, .bf16⟩
  | .hbm, ⟨2, _⟩ => ⟨S1x256x896, .bf16⟩
  | .hbm, ⟨3, _⟩ => ⟨S896x4864, .i8⟩
  | .hbm, ⟨4, _⟩ => ⟨S4864, .f32⟩
  | .hbm, ⟨5, _⟩ => ⟨S896x4864, .f32⟩
  | .hbm, ⟨6, _⟩ => ⟨S896x4864, .i8⟩
  | .hbm, ⟨7, _⟩ => ⟨S4864, .f32⟩
  | .hbm, ⟨8, _⟩ => ⟨S896x4864, .f32⟩
  | .hbm, ⟨9, _⟩ => ⟨S4864x896, .i8⟩
  | .hbm, ⟨10, _⟩ => ⟨S896, .f32⟩
  | .hbm, ⟨11, _⟩ => ⟨S4864x896, .f32⟩
  | .hbm, ⟨12, _⟩ => ⟨S256x896, .bf16⟩
  | .hbm, ⟨13, _⟩ => ⟨S256x896, .bf16⟩
  | .hbm, ⟨14, _⟩ => ⟨S256x896, .bf16⟩
  | .hbm, ⟨15, _⟩ => ⟨S1x4864, .f32⟩
  | .hbm, ⟨16, _⟩ => ⟨S1x4864, .f32⟩
  | .hbm, ⟨17, _⟩ => ⟨S1x896, .f32⟩
  | .hbm, ⟨18, _⟩ => ⟨S256x1, .f32⟩
  | .hbm, ⟨19, _⟩ => ⟨S256x896, .i8⟩
  | .hbm, ⟨20, _⟩ => ⟨S256x14, .f32⟩
  | .hbm, ⟨21, _⟩ => ⟨S256x4864, .i8⟩
  | .hbm, ⟨22, _⟩ => ⟨S256x128, .f32⟩
  | .hbm, ⟨23, _⟩ => ⟨S256x896, .bf16⟩
  | .hbm, ⟨24, _⟩ => ⟨S256x4864, .f32⟩
  | .hbm, ⟨25, _⟩ => ⟨S256x4864, .f32⟩
  | .hbm, ⟨26, _⟩ => ⟨S256x4864, .bf16⟩
  | .hbm, ⟨27, _⟩ => ⟨S256x896, .bf16⟩
  | .hbm, ⟨28, _⟩ => ⟨S256x896, .bf16⟩
  | .hbm, ⟨29, _⟩ => ⟨S896x4864, .f32⟩
  | .hbm, ⟨30, _⟩ => ⟨S896x4864, .f32⟩
  | .hbm, ⟨31, _⟩ => ⟨S4864x896, .f32⟩
  | .hbm, ⟨32, _⟩ => ⟨S1x256, .f32⟩
  | .hbm, ⟨33, _⟩ => ⟨S1x256x896, .i8⟩
  | .hbm, ⟨34, _⟩ => ⟨S1x256x14, .f32⟩
  | .hbm, ⟨35, _⟩ => ⟨S1x256x4864, .i8⟩
  | .hbm, ⟨36, _⟩ => ⟨S256x76, .f32⟩
  | .hbm, ⟨37, _⟩ => ⟨S1x256x76, .f32⟩
  | .local _ .vmem, ⟨0, _⟩ => ⟨S256x896, .bf16⟩
  | .local _ .vmem, ⟨1, _⟩ => ⟨S256x896, .bf16⟩
  | .local _ .vmem, ⟨2, _⟩ => ⟨S256x896, .bf16⟩
  | .local _ .vmem, ⟨3, _⟩ => ⟨S1x896, .f32⟩
  | .local _ .vmem, ⟨4, _⟩ => ⟨S896x256, .i8⟩
  | .local _ .vmem, ⟨5, _⟩ => ⟨S896x256, .i8⟩
  | .local _ .vmem, ⟨6, _⟩ => ⟨S896x256, .f32⟩
  | .local _ .vmem, ⟨7, _⟩ => ⟨S896x256, .f32⟩
  | .local _ .vmem, ⟨8, _⟩ => ⟨S1x256, .f32⟩
  | .local _ .vmem, ⟨9, _⟩ => ⟨S1x256, .f32⟩
  | .local _ .vmem, ⟨10, _⟩ => ⟨S896x256, .i8⟩
  | .local _ .vmem, ⟨11, _⟩ => ⟨S896x256, .i8⟩
  | .local _ .vmem, ⟨12, _⟩ => ⟨S896x256, .f32⟩
  | .local _ .vmem, ⟨13, _⟩ => ⟨S896x256, .f32⟩
  | .local _ .vmem, ⟨14, _⟩ => ⟨S1x256, .f32⟩
  | .local _ .vmem, ⟨15, _⟩ => ⟨S1x256, .f32⟩
  | .local _ .vmem, ⟨16, _⟩ => ⟨S256x896, .i8⟩
  | .local _ .vmem, ⟨17, _⟩ => ⟨S256x896, .i8⟩
  | .local _ .vmem, ⟨18, _⟩ => ⟨S256x896, .f32⟩
  | .local _ .vmem, ⟨19, _⟩ => ⟨S256x896, .f32⟩
  | .local _ .vmem, ⟨20, _⟩ => ⟨S256x1, .f32⟩
  | .local _ .vmem, ⟨21, _⟩ => ⟨S256x896, .i8⟩
  | .local _ .vmem, ⟨22, _⟩ => ⟨S256x14, .f32⟩
  | .local _ .vmem, ⟨23, _⟩ => ⟨S256x256, .i8⟩
  | .local _ .vmem, ⟨24, _⟩ => ⟨S256x256, .i8⟩
  | .local _ .vmem, ⟨25, _⟩ => ⟨S256x128, .f32⟩
  | .local _ .vmem, ⟨26, _⟩ => ⟨S256x896, .bf16⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .bf16⟩
  | .local _ .vmem, ⟨32, _⟩ => ⟨S256x256, .bf16⟩
  | .local _ .vmem, ⟨33, _⟩ => ⟨S256x896, .bf16⟩
  | .local _ .vmem, ⟨34, _⟩ => ⟨S256x896, .bf16⟩
  | .local _ .vmem, ⟨35, _⟩ => ⟨S256x896, .f32⟩
  | .local _ .vmem, ⟨36, _⟩ => ⟨S256x896, .bf16⟩
  | .local _ .vmem, ⟨37, _⟩ => ⟨S256x896, .bf16⟩
  | .local _ .vmem, ⟨38, _⟩ => ⟨S256x896, .bf16⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .bf16⟩
  | .local _ .vmem, ⟨44, _⟩ => ⟨S256x256, .bf16⟩
  | .local _ .vmem, ⟨45, _⟩ => ⟨S1x896, .f32⟩
  | .local _ .vmem, ⟨46, _⟩ => ⟨S896x256, .i8⟩
  | .local _ .vmem, ⟨47, _⟩ => ⟨S896x256, .i8⟩
  | .local _ .vmem, ⟨48, _⟩ => ⟨S896x256, .f32⟩
  | .local _ .vmem, ⟨49, _⟩ => ⟨S896x256, .f32⟩
  | .local _ .vmem, ⟨50, _⟩ => ⟨S1x256, .f32⟩
  | .local _ .vmem, ⟨51, _⟩ => ⟨S1x256, .f32⟩
  | .local _ .vmem, ⟨52, _⟩ => ⟨S896x256, .i8⟩
  | .local _ .vmem, ⟨53, _⟩ => ⟨S896x256, .i8⟩
  | .local _ .vmem, ⟨54, _⟩ => ⟨S896x256, .f32⟩
  | .local _ .vmem, ⟨55, _⟩ => ⟨S896x256, .f32⟩
  | .local _ .vmem, ⟨56, _⟩ => ⟨S1x256, .f32⟩
  | .local _ .vmem, ⟨57, _⟩ => ⟨S1x256, .f32⟩
  | .local _ .vmem, ⟨58, _⟩ => ⟨S256x896, .i8⟩
  | .local _ .vmem, ⟨59, _⟩ => ⟨S256x896, .i8⟩
  | .local _ .vmem, ⟨60, _⟩ => ⟨S256x896, .f32⟩
  | .local _ .vmem, ⟨61, _⟩ => ⟨S256x896, .f32⟩
  | .local _ .vmem, ⟨62, _⟩ => ⟨S896x256, .f32⟩
  | .local _ .vmem, ⟨63, _⟩ => ⟨S896x256, .f32⟩
  | .local _ .vmem, ⟨64, _⟩ => ⟨S896x256, .f32⟩
  | .local _ .vmem, ⟨65, _⟩ => ⟨S896x256, .f32⟩
  | .local _ .vmem, ⟨66, _⟩ => ⟨S256x896, .f32⟩
  | .local _ .vmem, ⟨67, _⟩ => ⟨S256x896, .f32⟩
  | _, _ => ⟨S1x256x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v6_8 : Ref sig .tc := ⟨.hbm, 26, rfl⟩
abbrev main_v6_9 : Ref sig .tc := ⟨.hbm, 27, rfl⟩
abbrev main_v6_10 : Ref sig .tc := ⟨.hbm, 28, rfl⟩
abbrev main_v7_0 : Ref sig .tc := ⟨.hbm, 29, rfl⟩
abbrev main_v7_1 : Ref sig .tc := ⟨.hbm, 30, rfl⟩
abbrev main_v7_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg22_0 : Ref sig .tc := ⟨.vmem, 34, rfl⟩
abbrev cc0_scratch0 : Ref sig .tc := ⟨.vmem, 35, rfl⟩
abbrev cc1_stg0_0 : Ref sig .tc := ⟨.vmem, 36, rfl⟩
abbrev cc1_stg1_0 : Ref sig .tc := ⟨.vmem, 37, rfl⟩
abbrev cc1_stg2_0 : Ref sig .tc := ⟨.vmem, 38, rfl⟩
abbrev cc1_stg3_0 : Ref sig .tc := ⟨.vmem, 39, rfl⟩
abbrev cc1_stg3_1 : Ref sig .tc := ⟨.vmem, 40, rfl⟩
abbrev cc1_stg4_0 : Ref sig .tc := ⟨.vmem, 41, rfl⟩
abbrev cc1_stg4_1 : Ref sig .tc := ⟨.vmem, 42, rfl⟩
abbrev cc1_stg5_0 : Ref sig .tc := ⟨.vmem, 43, rfl⟩
abbrev cc1_stg5_1 : Ref sig .tc := ⟨.vmem, 44, rfl⟩
abbrev cc1_stg6_0 : Ref sig .tc := ⟨.vmem, 45, rfl⟩
abbrev cc1_stg7_0 : Ref sig .tc := ⟨.vmem, 46, rfl⟩
abbrev cc1_stg7_1 : Ref sig .tc := ⟨.vmem, 47, rfl⟩
abbrev cc1_stg8_0 : Ref sig .tc := ⟨.vmem, 48, rfl⟩
abbrev cc1_stg8_1 : Ref sig .tc := ⟨.vmem, 49, rfl⟩
abbrev cc1_stg9_0 : Ref sig .tc := ⟨.vmem, 50, rfl⟩
abbrev cc1_stg9_1 : Ref sig .tc := ⟨.vmem, 51, rfl⟩
abbrev cc1_stg10_0 : Ref sig .tc := ⟨.vmem, 52, rfl⟩
abbrev cc1_stg10_1 : Ref sig .tc := ⟨.vmem, 53, rfl⟩
abbrev cc1_stg11_0 : Ref sig .tc := ⟨.vmem, 54, rfl⟩
abbrev cc1_stg11_1 : Ref sig .tc := ⟨.vmem, 55, rfl⟩
abbrev cc1_stg12_0 : Ref sig .tc := ⟨.vmem, 56, rfl⟩
abbrev cc1_stg12_1 : Ref sig .tc := ⟨.vmem, 57, rfl⟩
abbrev cc1_stg13_0 : Ref sig .tc := ⟨.vmem, 58, rfl⟩
abbrev cc1_stg13_1 : Ref sig .tc := ⟨.vmem, 59, rfl⟩
abbrev cc1_stg14_0 : Ref sig .tc := ⟨.vmem, 60, rfl⟩
abbrev cc1_stg14_1 : Ref sig .tc := ⟨.vmem, 61, rfl⟩
abbrev cc1_stg15_0 : Ref sig .tc := ⟨.vmem, 62, rfl⟩
abbrev cc1_stg15_1 : Ref sig .tc := ⟨.vmem, 63, rfl⟩
abbrev cc1_stg16_0 : Ref sig .tc := ⟨.vmem, 64, rfl⟩
abbrev cc1_stg16_1 : Ref sig .tc := ⟨.vmem, 65, rfl⟩
abbrev cc1_stg17_0 : Ref sig .tc := ⟨.vmem, 66, rfl⟩
abbrev cc1_stg17_1 : Ref sig .tc := ⟨.vmem, 67, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem22_0 : DmaSem sig := 34
abbrev cc1_sem0_0 : DmaSem sig := 35
abbrev cc1_sem1_0 : DmaSem sig := 36
abbrev cc1_sem2_0 : DmaSem sig := 37
abbrev cc1_sem3_0 : DmaSem sig := 38
abbrev cc1_sem3_1 : DmaSem sig := 39
abbrev cc1_sem4_0 : DmaSem sig := 40
abbrev cc1_sem4_1 : DmaSem sig := 41
abbrev cc1_sem5_0 : DmaSem sig := 42
abbrev cc1_sem5_1 : DmaSem sig := 43
abbrev cc1_sem6_0 : DmaSem sig := 44
abbrev cc1_sem7_0 : DmaSem sig := 45
abbrev cc1_sem7_1 : DmaSem sig := 46
abbrev cc1_sem8_0 : DmaSem sig := 47
abbrev cc1_sem8_1 : DmaSem sig := 48
abbrev cc1_sem9_0 : DmaSem sig := 49
abbrev cc1_sem9_1 : DmaSem sig := 50
abbrev cc1_sem10_0 : DmaSem sig := 51
abbrev cc1_sem10_1 : DmaSem sig := 52
abbrev cc1_sem11_0 : DmaSem sig := 53
abbrev cc1_sem11_1 : DmaSem sig := 54
abbrev cc1_sem12_0 : DmaSem sig := 55
abbrev cc1_sem12_1 : DmaSem sig := 56
abbrev cc1_sem13_0 : DmaSem sig := 57
abbrev cc1_sem13_1 : DmaSem sig := 58
abbrev cc1_sem14_0 : DmaSem sig := 59
abbrev cc1_sem14_1 : DmaSem sig := 60
abbrev cc1_sem15_0 : DmaSem sig := 61
abbrev cc1_sem15_1 : DmaSem sig := 62
abbrev cc1_sem16_0 : DmaSem sig := 63
abbrev cc1_sem16_1 : DmaSem sig := 64
abbrev cc1_sem17_0 : DmaSem sig := 65
abbrev cc1_sem17_1 : DmaSem sig := 66

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v184 : BitVec 1 := Scalar.cmpi .eq arg0 c18_i32
  let v185 : BitVec 32 := Scalar.extui v184
  let c0_i32_80 : BitVec 32 := 0#32
  let v186 : BitVec 1 := Scalar.cmpi .ne v185 c0_i32_80
  v186

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S896x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S896x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S896x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S896x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x896 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x896 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x896 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x14 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x256 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x896 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S256x896 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x896 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev grid1 : Pipeline.Grid := ⟨1, ![19], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x896 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x896 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x896 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x896 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S896x256 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S896x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S896x256 .i8 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S896x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x896 .i8 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x896 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S896x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S896x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S256x896 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== ReferenceIdeal.lean ====
abbrev S1x256x896 : Shape := ⟨3, ![1, 256, 896]⟩
abbrev S896x4864 : Shape := ⟨2, ![896, 4864]⟩
abbrev S4864 : Shape := ⟨1, ![4864]⟩
abbrev S4864x896 : Shape := ⟨2, ![4864, 896]⟩
abbrev S896 : Shape := ⟨1, ![896]⟩
abbrev S256x896 : Shape := ⟨2, ![256, 896]⟩
abbrev S1x4864 : Shape := ⟨2, ![1, 4864]⟩
abbrev S1x896 : Shape := ⟨2, ![1, 896]⟩
abbrev S256x1 : Shape := ⟨2, ![256, 1]⟩
abbrev S256x14 : Shape := ⟨2, ![256, 14]⟩
abbrev S256x4864 : Shape := ⟨2, ![256, 4864]⟩
abbrev S256x76 : Shape := ⟨2, ![256, 76]⟩
abbrev S256x14x64 : Shape := ⟨3, ![256, 14, 64]⟩
abbrev S256x14x1 : Shape := ⟨3, ![256, 14, 1]⟩
abbrev S256x76x64 : Shape := ⟨3, ![256, 76, 64]⟩
abbrev S256x76x1 : Shape := ⟨3, ![256, 76, 1]⟩
abbrev S256 : Shape := ⟨1, ![256]⟩
abbrev S1x256 : Shape := ⟨2, ![1, 256]⟩
abbrev S1x256x14 : Shape := ⟨3, ![1, 256, 14]⟩
abbrev S1x256x4864 : Shape := ⟨3, ![1, 256, 4864]⟩
abbrev S1x256x76 : Shape := ⟨3, ![1, 256, 76]⟩

abbrev nBuf : Space → Nat
  | .hbm => 31
  | .vmem => 20
  | .smem => 0
  | _ => 0

abbrev bufTy : (tb : Table) → Fin (tcTables nBuf tb) → BufTy
  | .hbm, ⟨0, _⟩ => ⟨S1x256x896, .bf16⟩
  | .hbm, ⟨1, _⟩ => ⟨S1x256x896, .bf16⟩
  | .hbm, ⟨2, _⟩ => ⟨S1x256x896, .bf16⟩
  | .hbm, ⟨3, _⟩ => ⟨S896x4864, .i8⟩
  | .hbm, ⟨4, _⟩ => ⟨S4864, .f32⟩
  | .hbm, ⟨5, _⟩ => ⟨S896x4864, .f32⟩
  | .hbm, ⟨6, _⟩ => ⟨S896x4864, .i8⟩
  | .hbm, ⟨7, _⟩ => ⟨S4864, .f32⟩
  | .hbm, ⟨8, _⟩ => ⟨S896x4864, .f32⟩
  | .hbm, ⟨9, _⟩ => ⟨S4864x896, .i8⟩
  | .hbm, ⟨10, _⟩ => ⟨S896, .f32⟩
  | .hbm, ⟨11, _⟩ => ⟨S4864x896, .f32⟩
  | .hbm, ⟨12, _⟩ => ⟨S256x896, .bf16⟩
  | .hbm, ⟨13, _⟩ => ⟨S256x896, .bf16⟩
  | .hbm, ⟨14, _⟩ => ⟨S256x896, .bf16⟩
  | .hbm, ⟨15, _⟩ => ⟨S1x4864, .f32⟩
  | .hbm, ⟨16, _⟩ => ⟨S1x4864, .f32⟩
  | .hbm, ⟨17, _⟩ => ⟨S1x896, .f32⟩
  | .hbm, ⟨18, _⟩ => ⟨S256x1, .f32⟩
  | .hbm, ⟨19, _⟩ => ⟨S896x4864, .f32⟩
  | .hbm, ⟨20, _⟩ => ⟨S896x4864, .f32⟩
  | .hbm, ⟨21, _⟩ => ⟨S4864x896, .f32⟩
  | .hbm, ⟨22, _⟩ => ⟨S256x896, .i8⟩
  | .hbm, ⟨23, _⟩ => ⟨S256x14, .f32⟩
  | .hbm, ⟨24, _⟩ => ⟨S256x4864, .i8⟩
  | .hbm, ⟨25, _⟩ => ⟨S256x76, .f32⟩
  | .hbm, ⟨26, _⟩ => ⟨S1x256, .f32⟩
  | .hbm, ⟨27, _⟩ => ⟨S1x256x896, .i8⟩
  | .hbm, ⟨28, _⟩ => ⟨S1x256x14, .f32⟩
  | .hbm, ⟨29, _⟩ => ⟨S1x256x4864, .i8⟩
  | .hbm, ⟨30, _⟩ => ⟨S1x256x76, .f32⟩
  | .local _ .vmem, ⟨0, _⟩ => ⟨S256x896, .bf16⟩
  | .local _ .vmem, ⟨1, _⟩ => ⟨S256x896, .bf16⟩
  | .local _ .vmem, ⟨2, _⟩ => ⟨S256x896, .bf16⟩
  | .local _ .vmem, ⟨3, _⟩ => ⟨S896x4864, .i8⟩
  | .local _ .vmem, ⟨4, _⟩ => ⟨S1x4864, .f32⟩
  | .local _ .vmem, ⟨5, _⟩ => ⟨S896x4864, .f32⟩
  | .local _ .vmem, ⟨6, _⟩ => ⟨S896x4864, .i8⟩
  | .local _ .vmem, ⟨7, _⟩ => ⟨S1x4864, .f32⟩
  | .local _ .vmem, ⟨8, _⟩ => ⟨S896x4864, .f32⟩
  | .local _ .vmem, ⟨9, _⟩ => ⟨S4864x896, .i8⟩
  | .local _ .vmem, ⟨10, _⟩ => ⟨S1x896, .f32⟩
  | .local _ .vmem, ⟨11, _⟩ => ⟨S4864x896, .f32⟩
  | .local _ .vmem, ⟨12, _⟩ => ⟨S256x1, .f32⟩
  | .local _ .vmem, ⟨13, _⟩ => ⟨S896x4864, .f32⟩
  | .local _ .vmem, ⟨14, _⟩ => ⟨S896x4864, .f32⟩
  | .local _ .vmem, ⟨15, _⟩ => ⟨S4864x896, .f32⟩
  | .local _ .vmem, ⟨16, _⟩ => ⟨S256x896, .i8⟩
  | .local _ .vmem, ⟨17, _⟩ => ⟨S256x14, .f32⟩
  | .local _ .vmem, ⟨18, _⟩ => ⟨S256x4864, .i8⟩
  | .local _ .vmem, ⟨19, _⟩ => ⟨S256x76, .f32⟩
  | _, _ => ⟨S1x256x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S256x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S896x4864 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4864 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S896x4864 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S896x4864 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4864 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S896x4864 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4864x896 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4864x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S896x4864 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S896x4864 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4864x896 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x896 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x14 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x4864 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x76 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Kernel.FwdVals.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the forward kernel's body leaves in its buffers, as functions of what it reads

Generic in the float instance: compositions of the printed payloads, one name per buffer. -/

/-- The lane number of every element of a 128-lane slice. -/
def lanes : IVec S256x128 32 := iota .tc S256x128 32 [1] iota_S256x128_d1_w32

/-- Lane slice `c` of the token block: columns `128 c … 128 c + 127`. -/
def xsl0 (x : Vec F S256x896 .bf16) : Vec F S256x128 .bf16 := View.ld x (Rect.unit (s := S256x896) ![0, 0] S256x128.size inb_S256x896_S256x128_0_0)
def xsl1 (x : Vec F S256x896 .bf16) : Vec F S256x128 .bf16 := View.ld x (Rect.unit (s := S256x896) ![0, 128] S256x128.size inb_S256x896_S256x128_0_128)
def xsl2 (x : Vec F S256x896 .bf16) : Vec F S256x128 .bf16 := View.ld x (Rect.unit (s := S256x896) ![0, 256] S256x128.size inb_S256x896_S256x128_0_256)
def xsl3 (x : Vec F S256x896 .bf16) : Vec F S256x128 .bf16 := View.ld x (Rect.unit (s := S256x896) ![0, 384] S256x128.size inb_S256x896_S256x128_0_384)
def xsl4 (x : Vec F S256x896 .bf16) : Vec F S256x128 .bf16 := View.ld x (Rect.unit (s := S256x896) ![0, 512] S256x128.size inb_S256x896_S256x128_0_512)
def xsl5 (x : Vec F S256x896 .bf16) : Vec F S256x128 .bf16 := View.ld x (Rect.unit (s := S256x896) ![0, 640] S256x128.size inb_S256x896_S256x128_0_640)
def xsl6 (x : Vec F S256x896 .bf16) : Vec F S256x128 .bf16 := View.ld x (Rect.unit (s := S256x896) ![0, 768] S256x128.size inb_S256x896_S256x128_0_768)

/-- The codes of the quantised tokens, slice by slice. -/
def XQ (x : Vec F S256x896 .bf16) : Vec F S256x896 .i8 :=
  View.canon [⟨Rect.unit (s := S256x896) ![0, 768] S256x128.size inb_S256x896_S256x128_0_768, k0_pay59 k0_pay63 (k0_pay52 (xsl6 x)) (k0_pay54 k0_pay63 (xsl6 x)) (k0_pay55 k0_pay63 (xsl6 x))⟩,
    ⟨Rect.unit (s := S256x896) ![0, 640] S256x128.size inb_S256x896_S256x128_0_640, k0_pay50 (k0_pay43 (xsl5 x)) (k0_pay44 k0_pay63 (xsl5 x)) (k0_pay45 k0_pay63 (xsl5 x)) k0_pay46⟩,
    ⟨Rect.unit (s := S256x896) ![0, 512] S256x128.size inb_S256x896_S256x128_0_512, k0_pay41 (k0_pay38 k0_pay63 (xsl4 x))⟩,
    ⟨Rect.unit (s := S256x896) ![0, 384] S256x128.size inb_S256x896_S256x128_0_384, k0_pay34 (k0_pay32 k0_pay63 (xsl3 x))⟩,
    ⟨Rect.unit (s := S256x896) ![0, 256] S256x128.size inb_S256x896_S256x128_0_256, k0_pay28 k0_pay63 (xsl2 x)⟩,
    ⟨Rect.unit (s := S256x896) ![0, 128] S256x128.size inb_S256x896_S256x128_0_128, k0_pay22 k0_pay63 (xsl1 x)⟩,
    ⟨Rect.unit (s := S256x896) ![0, 0] S256x128.size inb_S256x896_S256x128_0_0, k0_pay14 k0_pay63 (xsl0 x)⟩]

/-- The dequantised tokens, slice by slice. -/
def XH (x : Vec F S256x896 .bf16) : Vec F S256x896 .bf16 :=
  View.canon [⟨Rect.unit (s := S256x896) ![0, 768] S256x128.size inb_S256x896_S256x128_0_768, k0_pay58 k0_pay63 (k0_pay52 (xsl6 x)) (k0_pay54 k0_pay63 (xsl6 x)) (k0_pay55 k0_pay63 (xsl6 x))⟩,
    ⟨Rect.unit (s := S256x896) ![0, 640] S256x128.size inb_S256x896_S256x128_0_640, k0_pay49 (k0_pay43 (xsl5 x)) (k0_pay44 k0_pay63 (xsl5 x)) (k0_pay45 k0_pay63 (xsl5 x)) k0_pay46⟩,
    ⟨Rect.unit (s := S256x896) ![0, 512] S256x128.size inb_S256x896_S256x128_0_512, k0_pay40 (k0_pay37 k0_pay63 (xsl4 x)) (k0_pay38 k0_pay63 (xsl4 x))⟩,
    ⟨Rect.unit (s := S256x896) ![0, 384] S256x128.size inb_S256x896_S256x128_0_384, k0_pay33 (k0_pay31 k0_pay63 (xsl3 x)) (k0_pay32 k0_pay63 (xsl3 x))⟩,
    ⟨Rect.unit (s := S256x896) ![0, 256] S256x128.size inb_S256x896_S256x128_0_256, k0_pay27 k0_pay63 (xsl2 x)⟩,
    ⟨Rect.unit (s := S256x896) ![0, 128] S256x128.size inb_S256x896_S256x128_0_128, k0_pay21 k0_pay63 (xsl1 x)⟩,
    ⟨Rect.unit (s := S256x896) ![0, 0] S256x128.size inb_S256x896_S256x128_0_0, k0_pay13 k0_pay63 (xsl0 x)⟩]

/-- The scales gathered after slices `0 … 1`, `… 2`, and so on. -/
def xsc1 (x : Vec F S256x896 .bf16) : FVec F S256x128 .f32 := k0_pay17 lanes k0_pay9 (k0_pay11 k0_pay63 (xsl0 x)) (k0_pay15 lanes) (k0_pay16 k0_pay63 (xsl0 x))
def xsc2 (x : Vec F S256x896 .bf16) : FVec F S256x128 .f32 := k0_pay23 lanes (xsc1 x) (k0_pay19 k0_pay63 (xsl1 x))
def xsc3 (x : Vec F S256x896 .bf16) : FVec F S256x128 .f32 := k0_pay29 lanes (xsc2 x) (k0_pay25 k0_pay63 (xsl2 x))
def xsc4 (x : Vec F S256x896 .bf16) : FVec F S256x128 .f32 := k0_pay35 lanes (xsc3 x) (k0_pay31 k0_pay63 (xsl3 x))
def xsc5 (x : Vec F S256x896 .bf16) : FVec F S256x128 .f32 := k0_pay42 lanes (xsc4 x) (k0_pay37 k0_pay63 (xsl4 x))
def xsc6 (x : Vec F S256x896 .bf16) : FVec F S256x128 .f32 := k0_pay51 lanes (xsc5 x) (k0_pay44 k0_pay63 (xsl5 x)) (k0_pay45 k0_pay63 (xsl5 x)) k0_pay46
/-- The scales of the quantised tokens. -/
def XS (x : Vec F S256x896 .bf16) : Vec F S256x14 .f32 := k0_pay60 lanes k0_pay63 (xsc6 x) (k0_pay54 k0_pay63 (xsl6 x)) (k0_pay55 k0_pay63 (xsl6 x))

/-- The gate projection of one tile of columns. -/
def GP (x4 : Vec F S896x256 .i8) (x5 : Vec F S896x256 .f32) (x6 : Vec F S1x256 .f32) (xh : Vec F S256x896 .bf16) : Vec F S256x256 .f32 := k0_pay68 (k0_pay64 x4 x5) xh x6
/-- The up projection of one tile of columns. -/
def UP (x7 : Vec F S896x256 .i8) (x8 : Vec F S896x256 .f32) (x9 : Vec F S1x256 .f32) (xh : Vec F S256x896 .bf16) : Vec F S256x256 .f32 := k0_pay69 (k0_pay65 x7 x8) xh x9
/-- The codes of the quantised activation of one tile. -/
def AQ (gp up : Vec F S256x256 .f32) : Vec F S256x256 .i8 :=
  View.canon [⟨Rect.unit (s := S256x256) ![0, 128] S256x128.size inb_S256x256_S256x128_0_128, k0_pay82 k0_pay63 (k0_pay70 gp up)⟩,
    ⟨Rect.unit (s := S256x256) ![0, 0] S256x128.size inb_S256x256_S256x128_0_0, k0_pay76 k0_pay63 gp up⟩]
/-- The dequantised activation of one tile. -/
def AH (gp up : Vec F S256x256 .f32) : Vec F S256x256 .bf16 :=
  View.canon [⟨Rect.unit (s := S256x256) ![0, 128] S256x128.size inb_S256x256_S256x128_0_128, k0_pay81 k0_pay63 (k0_pay70 gp up)⟩,
    ⟨Rect.unit (s := S256x256) ![0, 0] S256x128.size inb_S256x256_S256x128_0_0, k0_pay75 k0_pay63 gp up⟩]
/-- The activation scales after the point at grid coordinates `i`, from those before it. -/
def SC (i : grid0.Coords) (sc : Vec F S256x128 .f32) (gp up : Vec F S256x256 .f32) : Vec F S256x128 .f32 :=
  k0_pay1 (BitVec.ofNat 32 (i 0).val) lanes (k0_pay77 lanes (k0_pay71 sc) (k0_pay73 k0_pay63 gp up) (Scalar.muli (BitVec.ofNat 32 (i 0).val) 4#32)) (k0_pay79 k0_pay63 (k0_pay70 gp up))
/-- The block output's running sum after a point, from that before it. -/
def YH (x10 : Vec F S256x896 .i8) (x11 : Vec F S256x896 .f32) (yh : Vec F S256x896 .f32) (ah : Vec F S256x256 .bf16) : Vec F S256x896 .f32 := k0_pay2 (k0_pay66 x10 x11) yh ah

/-! ## Reading and owning whole buffers -/

/-- A load of a whole buffer reads its contents. -/
theorem readAt_whole {sp : Space} {s : Shape} {e : EltTy} {v : View sig .tc sp s e} {f : v.ty.Contents (Elt F)} {x : s.Idx → Elt F e}
    (hf : v.read (Elt F) f = x) {off : Fin s.rank → ℕ} (h : off = fun _ => 0) (inb : ∀ a, off a + s.size a ≤ s.size a) :
    v.readAt (Elt F) (Rect.unit off s.size inb).toLoadRect f = x :=
  (View.ld_unit_zero h inb (v.read (Elt F) f)).trans hf

/-- A load of part of a buffer reads that part of its contents. -/
theorem readAt_part {sp : Space} {s : Shape} {e : EltTy} {v : View sig .tc sp s e} {f : v.ty.Contents (Elt F)} {x : s.Idx → Elt F e}
    (hf : v.read (Elt F) f = x) (r : Rect s) : v.readAt (Elt F) r.toLoadRect f = View.ld x r := by
  subst hf; rfl

/-- A load of a whole buffer that earlier stores cover reads what they left. -/
theorem readCov_whole {sp : Space} {s : Shape} {e : EltTy} (v : View sig .tc sp s e) (L : List (View.Piece (Elt F) s e))
    (hc : ∀ y, ∃ p ∈ L, y ∈ p.1.set) {off : Fin s.rank → ℕ} (h : off = fun _ => 0) (inb : ∀ a, off a + s.size a ≤ s.size a) :
    v.readCov L (Rect.unit off s.size inb).toLoadRect = View.canon L :=
  (View.readCov_eq_canon_ld v L _ hc).trans (View.ld_unit_zero h inb _)

/-- A buffer stored whole last reads what was stored. -/
theorem readWrites_whole {sp : Space} {s : Shape} {e : EltTy} (v : View sig .tc sp s e) (f : v.ty.Contents (Elt F)) {off : Fin s.rank → ℕ}
    (h : off = fun _ => 0) (inb : ∀ a, off a + s.size a ≤ s.size a) (y : s.Idx → Elt F e) (L : List (View.Piece (Elt F) s e)) :
    v.read (Elt F) (v.writes (Elt F) f (⟨Rect.unit off s.size inb, y⟩ :: L)) = y :=
  View.read_writes_full v f inb y L

/-- A buffer that reads `x` is owned at `x`. -/
theorem owns_of_read (c : Dev nD) {sp : Space} {s : Shape} {e : EltTy} (a : Memref sig .tc sp s e) (f : a.view.ty.Contents (Elt F)) (x : s.Idx → Elt F e)
    (h : a.view.read (Elt F) f = x) :
    (a.view.loc (c : Thread nD τ) ↦[a.view.set]{fullShare} f : sProp 𝕄) ⊢ owns (c : Thread nD τ) a fullShare x := by
  unfold owns; iintro H; iexists f; isplitr
  · ipureintro; exact h
  · iexact H

end Cert.Kernel.Gen
-- ==== Proof.Kernel.FwdRunA.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.FwdVals

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S1x896 .f32) (harg4 : arg4.IsWhole) (arg5 : Memref sig .tc .vmem S896x256 .i8) (harg5 : arg5.IsWhole) (arg6 : Memref sig .tc .vmem S896x256 .f32) (harg6 : arg6.IsWhole) (arg7 : Memref sig .tc .vmem S1x256 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S256x896 .i8) (harg11 : arg11.IsWhole) (arg12 : Memref sig .tc .vmem S256x896 .f32) (harg12 : arg12.IsWhole) (arg13 : Memref sig .tc .vmem S256x1 .f32) (harg13 : arg13.IsWhole) (arg14 : Memref sig .tc .vmem S256x896 .i8) (harg14 : arg14.IsWhole) (arg15 : Memref sig .tc .vmem S256x14 .f32) (harg15 : arg15.IsWhole) (arg16 : Memref sig .tc .vmem S256x256 .i8) (harg16 : arg16.IsWhole) (arg17 : Memref sig .tc .vmem S256x128 .f32) (harg17 : arg17.IsWhole) (arg18 : Memref sig .tc .vmem S256x896 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .bf16) (harg21 : arg21.IsWhole) (arg22 : Memref sig .tc .vmem S256x896 .bf16) (harg22 : arg22.IsWhole) (arg23 : Memref sig .tc .vmem S256x896 .bf16) (harg23 : arg23.IsWhole) (arg24 : Memref sig .tc .vmem S256x896 .f32) (harg24 : arg24.IsWhole)
variable (x0 : Vec F S256x896 .bf16) (x1 : Vec F S256x896 .bf16) (x2 : Vec F S256x896 .bf16) (x3 : Vec F S1x896 .f32) (x4 : Vec F S896x256 .i8) (x5 : Vec F S896x256 .f32) (x6 : Vec F S1x256 .f32) (x7 : Vec F S896x256 .i8) (x8 : Vec F S896x256 .f32) (x9 : Vec F S1x256 .f32) (x10 : Vec F S256x896 .i8) (x11 : Vec F S256x896 .f32)

set_option maxHeartbeats 8000000 in
/-- The forward body at the first point: the tokens quantised, the sums started. Every buffer in, every buffer out at its named contents, and `P` whatever these give. -/
theorem run_A (c : Dev nD) (i : grid0.Coords) (hc0 : k0_cond1 i = 1#1) (hc1 : ¬k0_cond2 i = 1#1)
    (o12 : Vec F S256x1 .f32) (o21 : Vec F S256x896 .bf16) (o22 : Vec F S256x896 .bf16) (E : Set ℕ) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ owns (c : Thread nD τ) arg14 fullShare (XQ x0) ∗ owns (c : Thread nD τ) arg15 fullShare (XS x0) ∗ owns (c : Thread nD τ) arg16 fullShare (AQ (GP x4 x5 x6 (XH x0)) (UP x7 x8 x9 (XH x0))) ∗ owns (c : Thread nD τ) arg17 fullShare (SC i k0_pay62 (GP x4 x5 x6 (XH x0)) (UP x7 x8 x9 (XH x0))) ∗ owns (c : Thread nD τ) arg18 fullShare (XH x0) ∗ owns (c : Thread nD τ) arg19 fullShare (GP x4 x5 x6 (XH x0)) ∗ owns (c : Thread nD τ) arg20 fullShare (UP x7 x8 x9 (XH x0)) ∗ owns (c : Thread nD τ) arg21 fullShare (AH (GP x4 x5 x6 (XH x0)) (UP x7 x8 x9 (XH x0))) ∗ owns (c : Thread nD τ) arg22 fullShare o21 ∗ owns (c : Thread nD τ) arg23 fullShare o22 ∗ owns (c : Thread nD τ) arg24 fullShare (YH x10 x11 k0_pay61 (AH (GP x4 x5 x6 (XH x0)) (UP x7 x8 x9 (XH x0))))) ⊢ P) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare o21 ∗ owns (c : Thread nD τ) arg23 fullShare o22 ∗ (∃ d, owns (c : Thread nD τ) arg24 fullShare d)
        ∗ (P -∗ K ⟨⟩))
      ⊢ wp frame (wpE (defs₀ (F := F)) Variants.none c none) E (cc0_brecq_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz : (![0, 0] : Fin 2 → ℕ) = fun _ => 0 := by decide
  simp only [cc0_brecq_fwd_eq_skeleton]; unfold cc0_brecq_fwd_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%d23, %f23, -, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg22.eq_unread hf21; obtain rfl := harg23.eq_unread hf22
  sl_exec (disch := first | sl_exact hc0 | sl_exact hc1)
  sl_step
  iapply Hk
  iapply hP
  isplitl [H0]
  · iapply owns_of_read c arg1 _ _ hf0; iexact H0
  isplitl [H1]
  · iapply owns_of_read c arg2 _ _ hf1; iexact H1
  isplitl [H2]
  · iapply owns_of_read c arg3 _ _ hf2; iexact H2
  isplitl [H3]
  · iapply owns_of_read c arg4 _ _ hf3; iexact H3
  isplitl [H4]
  · iapply owns_of_read c arg5 _ _ hf4; iexact H4
  isplitl [H5]
  · iapply owns_of_read c arg6 _ _ hf5; iexact H5
  isplitl [H6]
  · iapply owns_of_read c arg7 _ _ hf6; iexact H6
  isplitl [H7]
  · iapply owns_of_read c arg8 _ _ hf7; iexact H7
  isplitl [H8]
  · iapply owns_of_read c arg9 _ _ hf8; iexact H8
  isplitl [H9]
  · iapply owns_of_read c arg10 _ _ hf9; iexact H9
  isplitl [H10]
  · iapply owns_of_read c arg11 _ _ hf10; iexact H10
  isplitl [H11]
  · iapply owns_of_read c arg12 _ _ hf11; iexact H11
  isplitl [H12]
  · iapply owns_of_read c arg13 _ _ hf12; iexact H12
  isplitl [H13]
  · iapply owns_of_read c arg14 _ _ ?h13
    all_goals try iexact H13
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v13).trans ?w13; case v13 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rfl
  isplitl [H14]
  · iapply owns_of_read c arg15 _ _ ?h14
    all_goals try iexact H14
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rfl
  isplitl [H15]
  · iapply owns_of_read c arg16 _ _ ?h15
    all_goals try iexact H15
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v15).trans ?w15; case v15 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1815 hz]; case carg1815 => exact View.cover_of_tiledL _ S256x128.size (by sl_kernel_rfl)
    rfl
  isplitl [H16]
  · iapply owns_of_read c arg17 _ _ ?h16
    all_goals try iexact H16
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1816 hz]; case carg1816 => exact View.cover_of_tiledL _ S256x128.size (by sl_kernel_rfl)
    rw [readCov_whole arg17.view _ ?carg1716 hz]; case carg1716 => exact View.cover_of_tiledL _ S256x128.size (by sl_kernel_rfl)
    rw [View.canon_unit_zero hz]
    rfl
  isplitl [H17]
  · iapply owns_of_read c arg18 _ _ ?h17
    all_goals try iexact H17
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v17).trans ?w17; case v17 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rfl
  isplitl [H18]
  · iapply owns_of_read c arg19 _ _ ?h18
    all_goals try iexact H18
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1818 hz]; case carg1818 => exact View.cover_of_tiledL _ S256x128.size (by sl_kernel_rfl)
    rfl
  isplitl [H19]
  · iapply owns_of_read c arg20 _ _ ?h19
    all_goals try iexact H19
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1819 hz]; case carg1819 => exact View.cover_of_tiledL _ S256x128.size (by sl_kernel_rfl)
    rfl
  isplitl [H20]
  · iapply owns_of_read c arg21 _ _ ?h20
    all_goals try iexact H20
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v20).trans ?w20; case v20 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1820 hz]; case carg1820 => exact View.cover_of_tiledL _ S256x128.size (by sl_kernel_rfl)
    rfl
  isplitl [H21]
  · iapply owns_of_read c arg22 _ _ hf21; iexact H21
  isplitl [H22]
  · iapply owns_of_read c arg23 _ _ hf22; iexact H22
  · iapply owns_of_read c arg24 _ _ ?h23
    all_goals try iexact H23
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg24.view _ ?carg2423 hz]; case carg2423 => exact View.cover_of_tiledL _ S256x896.size (by sl_kernel_rfl)
    rw [View.canon_unit_zero hz]
    rw [readCov_whole arg18.view _ ?carg1823 hz]; case carg1823 => exact View.cover_of_tiledL _ S256x128.size (by sl_kernel_rfl)
    rw [readCov_whole arg21.view _ ?carg2123 hz]; case carg2123 => exact View.cover_of_tiledL _ S256x128.size (by sl_kernel_rfl)
    rfl

end Cert.Kernel.Gen
-- ==== Proof.Kernel.FwdRunB.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.FwdVals

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S1x896 .f32) (harg4 : arg4.IsWhole) (arg5 : Memref sig .tc .vmem S896x256 .i8) (harg5 : arg5.IsWhole) (arg6 : Memref sig .tc .vmem S896x256 .f32) (harg6 : arg6.IsWhole) (arg7 : Memref sig .tc .vmem S1x256 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S256x896 .i8) (harg11 : arg11.IsWhole) (arg12 : Memref sig .tc .vmem S256x896 .f32) (harg12 : arg12.IsWhole) (arg13 : Memref sig .tc .vmem S256x1 .f32) (harg13 : arg13.IsWhole) (arg14 : Memref sig .tc .vmem S256x896 .i8) (harg14 : arg14.IsWhole) (arg15 : Memref sig .tc .vmem S256x14 .f32) (harg15 : arg15.IsWhole) (arg16 : Memref sig .tc .vmem S256x256 .i8) (harg16 : arg16.IsWhole) (arg17 : Memref sig .tc .vmem S256x128 .f32) (harg17 : arg17.IsWhole) (arg18 : Memref sig .tc .vmem S256x896 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .bf16) (harg21 : arg21.IsWhole) (arg22 : Memref sig .tc .vmem S256x896 .bf16) (harg22 : arg22.IsWhole) (arg23 : Memref sig .tc .vmem S256x896 .bf16) (harg23 : arg23.IsWhole) (arg24 : Memref sig .tc .vmem S256x896 .f32) (harg24 : arg24.IsWhole)
variable (x0 : Vec F S256x896 .bf16) (x1 : Vec F S256x896 .bf16) (x2 : Vec F S256x896 .bf16) (x3 : Vec F S1x896 .f32) (x4 : Vec F S896x256 .i8) (x5 : Vec F S896x256 .f32) (x6 : Vec F S1x256 .f32) (x7 : Vec F S896x256 .i8) (x8 : Vec F S896x256 .f32) (x9 : Vec F S1x256 .f32) (x10 : Vec F S256x896 .i8) (x11 : Vec F S256x896 .f32)

set_option maxHeartbeats 8000000 in
/-- The forward body at a middle point. Every buffer in, every buffer out at its named contents, and `P` whatever these give. -/
theorem run_B (c : Dev nD) (i : grid0.Coords) (hc0 : ¬k0_cond1 i = 1#1) (hc1 : ¬k0_cond2 i = 1#1)
    (o12 : Vec F S256x1 .f32) (xq : Vec F S256x896 .i8) (xs : Vec F S256x14 .f32) (sc : Vec F S256x128 .f32) (xh : Vec F S256x896 .bf16) (o21 : Vec F S256x896 .bf16) (o22 : Vec F S256x896 .bf16) (yh : Vec F S256x896 .f32) (E : Set ℕ) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ owns (c : Thread nD τ) arg14 fullShare xq ∗ owns (c : Thread nD τ) arg15 fullShare xs ∗ owns (c : Thread nD τ) arg16 fullShare (AQ (GP x4 x5 x6 xh) (UP x7 x8 x9 xh)) ∗ owns (c : Thread nD τ) arg17 fullShare (SC i sc (GP x4 x5 x6 xh) (UP x7 x8 x9 xh)) ∗ owns (c : Thread nD τ) arg18 fullShare xh ∗ owns (c : Thread nD τ) arg19 fullShare (GP x4 x5 x6 xh) ∗ owns (c : Thread nD τ) arg20 fullShare (UP x7 x8 x9 xh) ∗ owns (c : Thread nD τ) arg21 fullShare (AH (GP x4 x5 x6 xh) (UP x7 x8 x9 xh)) ∗ owns (c : Thread nD τ) arg22 fullShare o21 ∗ owns (c : Thread nD τ) arg23 fullShare o22 ∗ owns (c : Thread nD τ) arg24 fullShare (YH x10 x11 yh (AH (GP x4 x5 x6 xh) (UP x7 x8 x9 xh)))) ⊢ P) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ owns (c : Thread nD τ) arg14 fullShare xq ∗ owns (c : Thread nD τ) arg15 fullShare xs ∗ (∃ d, owns (c : Thread nD τ) arg16 fullShare d) ∗ owns (c : Thread nD τ) arg17 fullShare sc ∗ owns (c : Thread nD τ) arg18 fullShare xh ∗ (∃ d, owns (c : Thread nD τ) arg19 fullShare d) ∗ (∃ d, owns (c : Thread nD τ) arg20 fullShare d) ∗ (∃ d, owns (c : Thread nD τ) arg21 fullShare d) ∗ owns (c : Thread nD τ) arg22 fullShare o21 ∗ owns (c : Thread nD τ) arg23 fullShare o22 ∗ owns (c : Thread nD τ) arg24 fullShare yh
        ∗ (P -∗ K ⟨⟩))
      ⊢ wp frame (wpE (defs₀ (F := F)) Variants.none c none) E (cc0_brecq_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz : (![0, 0] : Fin 2 → ℕ) = fun _ => 0 := by decide
  simp only [cc0_brecq_fwd_eq_skeleton]; unfold cc0_brecq_fwd_skel
  simp only [k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%f21, %hf21, H21⟩, ⟨%f22, %hf22, H22⟩, ⟨%f23, %hf23, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hf17; obtain rfl := harg22.eq_unread hf21; obtain rfl := harg23.eq_unread hf22; obtain rfl := harg24.eq_unread hf23
  sl_exec (disch := first | sl_exact hc0 | sl_exact hc1)
  sl_step
  iapply Hk
  iapply hP
  isplitl [H0]
  · iapply owns_of_read c arg1 _ _ hf0; iexact H0
  isplitl [H1]
  · iapply owns_of_read c arg2 _ _ hf1; iexact H1
  isplitl [H2]
  · iapply owns_of_read c arg3 _ _ hf2; iexact H2
  isplitl [H3]
  · iapply owns_of_read c arg4 _ _ hf3; iexact H3
  isplitl [H4]
  · iapply owns_of_read c arg5 _ _ hf4; iexact H4
  isplitl [H5]
  · iapply owns_of_read c arg6 _ _ hf5; iexact H5
  isplitl [H6]
  · iapply owns_of_read c arg7 _ _ hf6; iexact H6
  isplitl [H7]
  · iapply owns_of_read c arg8 _ _ hf7; iexact H7
  isplitl [H8]
  · iapply owns_of_read c arg9 _ _ hf8; iexact H8
  isplitl [H9]
  · iapply owns_of_read c arg10 _ _ hf9; iexact H9
  isplitl [H10]
  · iapply owns_of_read c arg11 _ _ hf10; iexact H10
  isplitl [H11]
  · iapply owns_of_read c arg12 _ _ hf11; iexact H11
  isplitl [H12]
  · iapply owns_of_read c arg13 _ _ hf12; iexact H12
  isplitl [H13]
  · iapply owns_of_read c arg14 _ _ hf13; iexact H13
  isplitl [H14]
  · iapply owns_of_read c arg15 _ _ hf14; iexact H14
  isplitl [H15]
  · iapply owns_of_read c arg16 _ _ ?h15
    all_goals try iexact H15
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (View.read_writes_eq_canon (Val := Elt F) _ _ _ ?v15).trans ?w15; case v15 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H16]
  · iapply owns_of_read c arg17 _ _ ?h16
    all_goals try iexact H16
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H17]
  · iapply owns_of_read c arg18 _ _ hf17; iexact H17
  isplitl [H18]
  · iapply owns_of_read c arg19 _ _ ?h18
    all_goals try iexact H18
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H19]
  · iapply owns_of_read c arg20 _ _ ?h19
    all_goals try iexact H19
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H20]
  · iapply owns_of_read c arg21 _ _ ?h20
    all_goals try iexact H20
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (View.read_writes_eq_canon (Val := Elt F) _ _ _ ?v20).trans ?w20; case v20 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H21]
  · iapply owns_of_read c arg22 _ _ hf21; iexact H21
  isplitl [H22]
  · iapply owns_of_read c arg23 _ _ hf22; iexact H22
  · iapply owns_of_read c arg24 _ _ ?h23
    all_goals try iexact H23
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rw [readCov_whole arg21.view _ ?carg2123 hz]; case carg2123 => exact View.cover_of_tiledL _ S256x128.size (by sl_kernel_rfl)
    rfl

end Cert.Kernel.Gen
-- ==== Proof.Kernel.FwdRunC.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.FwdVals

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S1x896 .f32) (harg4 : arg4.IsWhole) (arg5 : Memref sig .tc .vmem S896x256 .i8) (harg5 : arg5.IsWhole) (arg6 : Memref sig .tc .vmem S896x256 .f32) (harg6 : arg6.IsWhole) (arg7 : Memref sig .tc .vmem S1x256 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S256x896 .i8) (harg11 : arg11.IsWhole) (arg12 : Memref sig .tc .vmem S256x896 .f32) (harg12 : arg12.IsWhole) (arg13 : Memref sig .tc .vmem S256x1 .f32) (harg13 : arg13.IsWhole) (arg14 : Memref sig .tc .vmem S256x896 .i8) (harg14 : arg14.IsWhole) (arg15 : Memref sig .tc .vmem S256x14 .f32) (harg15 : arg15.IsWhole) (arg16 : Memref sig .tc .vmem S256x256 .i8) (harg16 : arg16.IsWhole) (arg17 : Memref sig .tc .vmem S256x128 .f32) (harg17 : arg17.IsWhole) (arg18 : Memref sig .tc .vmem S256x896 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .bf16) (harg21 : arg21.IsWhole) (arg22 : Memref sig .tc .vmem S256x896 .bf16) (harg22 : arg22.IsWhole) (arg23 : Memref sig .tc .vmem S256x896 .bf16) (harg23 : arg23.IsWhole) (arg24 : Memref sig .tc .vmem S256x896 .f32) (harg24 : arg24.IsWhole)
variable (x0 : Vec F S256x896 .bf16) (x1 : Vec F S256x896 .bf16) (x2 : Vec F S256x896 .bf16) (x3 : Vec F S1x896 .f32) (x4 : Vec F S896x256 .i8) (x5 : Vec F S896x256 .f32) (x6 : Vec F S1x256 .f32) (x7 : Vec F S896x256 .i8) (x8 : Vec F S896x256 .f32) (x9 : Vec F S1x256 .f32) (x10 : Vec F S256x896 .i8) (x11 : Vec F S256x896 .f32)

set_option maxHeartbeats 8000000 in
/-- The forward body at the last point: the loss and its gradient stored. Every buffer in, every buffer out at its named contents, and `P` whatever these give. -/
theorem run_C (c : Dev nD) (i : grid0.Coords) (hc0 : ¬k0_cond1 i = 1#1) (hc1 : k0_cond2 i = 1#1)
    (xq : Vec F S256x896 .i8) (xs : Vec F S256x14 .f32) (sc : Vec F S256x128 .f32) (xh : Vec F S256x896 .bf16) (yh : Vec F S256x896 .f32) (E : Set ℕ) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k0_pay5 (YH x10 x11 yh (AH (GP x4 x5 x6 xh) (UP x7 x8 x9 xh))) x3 x1 x2) ∗ owns (c : Thread nD τ) arg14 fullShare xq ∗ owns (c : Thread nD τ) arg15 fullShare xs ∗ owns (c : Thread nD τ) arg16 fullShare (AQ (GP x4 x5 x6 xh) (UP x7 x8 x9 xh)) ∗ owns (c : Thread nD τ) arg17 fullShare (SC i sc (GP x4 x5 x6 xh) (UP x7 x8 x9 xh)) ∗ owns (c : Thread nD τ) arg18 fullShare xh ∗ owns (c : Thread nD τ) arg19 fullShare (GP x4 x5 x6 xh) ∗ owns (c : Thread nD τ) arg20 fullShare (UP x7 x8 x9 xh) ∗ owns (c : Thread nD τ) arg21 fullShare (AH (GP x4 x5 x6 xh) (UP x7 x8 x9 xh)) ∗ owns (c : Thread nD τ) arg22 fullShare (k0_pay7 (YH x10 x11 yh (AH (GP x4 x5 x6 xh) (UP x7 x8 x9 xh))) x3 x1 x2) ∗ owns (c : Thread nD τ) arg23 fullShare (k0_pay8 (YH x10 x11 yh (AH (GP x4 x5 x6 xh) (UP x7 x8 x9 xh))) x3 x1 x2 x3) ∗ owns (c : Thread nD τ) arg24 fullShare (YH x10 x11 yh (AH (GP x4 x5 x6 xh) (UP x7 x8 x9 xh)))) ⊢ P) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xq ∗ owns (c : Thread nD τ) arg15 fullShare xs ∗ (∃ d, owns (c : Thread nD τ) arg16 fullShare d) ∗ owns (c : Thread nD τ) arg17 fullShare sc ∗ owns (c : Thread nD τ) arg18 fullShare xh ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare yh
        ∗ (P -∗ K ⟨⟩))
      ⊢ wp frame (wpE (defs₀ (F := F)) Variants.none c none) E (cc0_brecq_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz : (![0, 0] : Fin 2 → ℕ) = fun _ => 0 := by decide
  simp only [cc0_brecq_fwd_eq_skeleton]; unfold cc0_brecq_fwd_skel
  simp only [k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg17.eq_unread hf16; obtain rfl := harg18.eq_unread hf17; obtain rfl := harg24.eq_unread hf23
  sl_exec (disch := first | sl_exact hc0 | sl_exact hc1)
  sl_step
  iapply Hk
  iapply hP
  isplitl [H0]
  · iapply owns_of_read c arg1 _ _ hf0; iexact H0
  isplitl [H1]
  · iapply owns_of_read c arg2 _ _ hf1; iexact H1
  isplitl [H2]
  · iapply owns_of_read c arg3 _ _ hf2; iexact H2
  isplitl [H3]
  · iapply owns_of_read c arg4 _ _ hf3; iexact H3
  isplitl [H4]
  · iapply owns_of_read c arg5 _ _ hf4; iexact H4
  isplitl [H5]
  · iapply owns_of_read c arg6 _ _ hf5; iexact H5
  isplitl [H6]
  · iapply owns_of_read c arg7 _ _ hf6; iexact H6
  isplitl [H7]
  · iapply owns_of_read c arg8 _ _ hf7; iexact H7
  isplitl [H8]
  · iapply owns_of_read c arg9 _ _ hf8; iexact H8
  isplitl [H9]
  · iapply owns_of_read c arg10 _ _ hf9; iexact H9
  isplitl [H10]
  · iapply owns_of_read c arg11 _ _ hf10; iexact H10
  isplitl [H11]
  · iapply owns_of_read c arg12 _ _ hf11; iexact H11
  isplitl [H12]
  · iapply owns_of_read c arg13 _ _ ?h12
    all_goals try iexact H12
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg24.view _ ?carg2412 hz]; case carg2412 => exact View.cover_of_tiledL _ S256x896.size (by sl_kernel_rfl)
    rw [View.canon_unit_zero hz]
    rw [readCov_whole arg21.view _ ?carg2112 hz]; case carg2112 => exact View.cover_of_tiledL _ S256x128.size (by sl_kernel_rfl)
    rfl
  isplitl [H13]
  · iapply owns_of_read c arg14 _ _ hf13; iexact H13
  isplitl [H14]
  · iapply owns_of_read c arg15 _ _ hf14; iexact H14
  isplitl [H15]
  · iapply owns_of_read c arg16 _ _ ?h15
    all_goals try iexact H15
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (View.read_writes_eq_canon (Val := Elt F) _ _ _ ?v15).trans ?w15; case v15 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H16]
  · iapply owns_of_read c arg17 _ _ ?h16
    all_goals try iexact H16
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H17]
  · iapply owns_of_read c arg18 _ _ hf17; iexact H17
  isplitl [H18]
  · iapply owns_of_read c arg19 _ _ ?h18
    all_goals try iexact H18
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H19]
  · iapply owns_of_read c arg20 _ _ ?h19
    all_goals try iexact H19
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H20]
  · iapply owns_of_read c arg21 _ _ ?h20
    all_goals try iexact H20
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (View.read_writes_eq_canon (Val := Elt F) _ _ _ ?v20).trans ?w20; case v20 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H21]
  · iapply owns_of_read c arg22 _ _ ?h21
    all_goals try iexact H21
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg24.view _ ?carg2421 hz]; case carg2421 => exact View.cover_of_tiledL _ S256x896.size (by sl_kernel_rfl)
    rw [View.canon_unit_zero hz]
    rw [readCov_whole arg21.view _ ?carg2121 hz]; case carg2121 => exact View.cover_of_tiledL _ S256x128.size (by sl_kernel_rfl)
    rfl
  isplitl [H22]
  · iapply owns_of_read c arg23 _ _ ?h22
    all_goals try iexact H22
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg24.view _ ?carg2422 hz]; case carg2422 => exact View.cover_of_tiledL _ S256x896.size (by sl_kernel_rfl)
    rw [View.canon_unit_zero hz]
    rw [readCov_whole arg21.view _ ?carg2122 hz]; case carg2122 => exact View.cover_of_tiledL _ S256x128.size (by sl_kernel_rfl)
    rfl
  · iapply owns_of_read c arg24 _ _ ?h23
    all_goals try iexact H23
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg21.view _ ?carg2123 hz]; case carg2123 => exact View.cover_of_tiledL _ S256x128.size (by sl_kernel_rfl)
    rfl

end Cert.Kernel.Gen
-- ==== Proof.Kernel.FwdDat.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.FwdRunA
public import proofs.«01_k».proof.Proof.Kernel.FwdRunB
public import proofs.«01_k».proof.Proof.Kernel.FwdRunC
public import proofs.«01_k».proof.Proof.Gen.Kernel.Launch
public import proofs.«01_k».proof.Proof.Gen.Kernel.Points
public import Idealize.ShloMosaic.Lib.Pipeline.RegionsLoop
public import Idealize.ShloMosaic.Lib.Pipeline.FrameSuffix
public import Idealize.ShloMosaic.Lib.Ring
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The forward kernel's pipeline: its blocks, what it carries from point to point, its proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first branch is taken at the first point only. -/
theorem hcond0_0 : ∀ t : Fin cfg0.N, k0_cond1 (grid0.coords t) = 1#1 ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [k0_cond1, e0]
    word_cmp
   : ∀ t : Fin grid0.N, k0_cond1 (grid0.coords t) = 1#1 ↔ t.val % 19 = 0)

/-- The second branch is taken at the last point only. -/
theorem hcond0_1 : ∀ t : Fin cfg0.N, k0_cond2 (grid0.coords t) = 1#1 ↔ t.val % 19 = 18 :=
  (fun t => by
    have ht : t.val < 19 := Nat.lt_of_lt_of_eq t.isLt N_0
    have e0 : (grid0.coords t 0).val = t.val / 1 % 19 := Pipeline.Grid.coords_val t 0 (by decide) rfl
    simp only [k0_cond2, e0]
    word_cmp
   : ∀ t : Fin grid0.N, k0_cond2 (grid0.coords t) = 1#1 ↔ t.val % 19 = 18)

/-- The first and the last point. -/
abbrev pt0 : Fin cfg0.N := ⟨0, by rw [show cfg0.N = 19 from N_0]; decide⟩
abbrev ptL : Fin cfg0.N := ⟨18, by rw [show cfg0.N = 19 from N_0]; decide⟩

/-! ## What the kernel computes, point by point -/

/-- The quantised tokens: codes, scales, dequantised. -/
def fXQ (c : Dev nD) : Vec F S256x896 .i8 := XQ (iblk0 V c 0 pt0)
def fXS (c : Dev nD) : Vec F S256x14 .f32 := XS (iblk0 V c 0 pt0)
def fXH (c : Dev nD) : Vec F S256x896 .bf16 := XH (iblk0 V c 0 pt0)
/-- The two projections of the tile of point `t`. -/
def fGP (c : Dev nD) (t : Fin cfg0.N) : Vec F S256x256 .f32 := GP (iblk0 V c 4 t) (iblk0 V c 5 t) (iblk0 V c 6 t) (fXH V c)
def fUP (c : Dev nD) (t : Fin cfg0.N) : Vec F S256x256 .f32 := UP (iblk0 V c 7 t) (iblk0 V c 8 t) (iblk0 V c 9 t) (fXH V c)
/-- The quantised activation of the tile of point `t`. -/
def fAQ (c : Dev nD) (t : Fin cfg0.N) : Vec F S256x256 .i8 := AQ (fGP V c t) (fUP V c t)
def fAH (c : Dev nD) (t : Fin cfg0.N) : Vec F S256x256 .bf16 := AH (fGP V c t) (fUP V c t)
/-- The activation scales after point `n`. -/
def fSC (c : Dev nD) : (n : ℕ) → n < cfg0.N → Vec F S256x128 .f32
  | 0, h => SC (grid0.coords ⟨0, h⟩) k0_pay62 (fGP V c ⟨0, h⟩) (fUP V c ⟨0, h⟩)
  | n + 1, h => SC (grid0.coords ⟨n + 1, h⟩) (fSC c n (Nat.lt_of_succ_lt h)) (fGP V c ⟨n + 1, h⟩) (fUP V c ⟨n + 1, h⟩)
/-- The block output's running sum after point `n`. -/
def fYH (c : Dev nD) : (n : ℕ) → n < cfg0.N → Vec F S256x896 .f32
  | 0, h => YH (iblk0 V c 10 ⟨0, h⟩) (iblk0 V c 11 ⟨0, h⟩) k0_pay61 (fAH V c ⟨0, h⟩)
  | n + 1, h => YH (iblk0 V c 10 ⟨n + 1, h⟩) (iblk0 V c 11 ⟨n + 1, h⟩) (fYH c n (Nat.lt_of_succ_lt h)) (fAH V c ⟨n + 1, h⟩)
/-- The loss and its gradient, of the last running sum. -/
def fLO (c : Dev nD) (t : Fin cfg0.N) : Vec F S256x1 .f32 := k0_pay5 (fYH V c t.val t.isLt) (iblk0 V c 3 t) (iblk0 V c 1 t) (iblk0 V c 2 t)
def fDY (c : Dev nD) (t : Fin cfg0.N) : Vec F S256x896 .bf16 := k0_pay7 (fYH V c t.val t.isLt) (iblk0 V c 3 t) (iblk0 V c 1 t) (iblk0 V c 2 t)
def fDS (c : Dev nD) (t : Fin cfg0.N) : Vec F S256x896 .bf16 := k0_pay8 (fYH V c t.val t.isLt) (iblk0 V c 3 t) (iblk0 V c 1 t) (iblk0 V c 2 t) (iblk0 V c 3 t)

theorem fSC_pos (c : Dev nD) (t : Fin cfg0.N) (ht : t.val ≠ 0) :
    fSC V c t.val t.isLt = SC (grid0.coords t) (fSC V c (t.val - 1) (Nat.lt_of_le_of_lt (Nat.sub_le _ _) t.isLt)) (fGP V c t) (fUP V c t) := by
  obtain ⟨n, hn⟩ := t; cases n with
  | zero => exact absurd rfl ht
  | succ n => rfl
theorem fYH_pos (c : Dev nD) (t : Fin cfg0.N) (ht : t.val ≠ 0) :
    fYH V c t.val t.isLt = YH (iblk0 V c 10 t) (iblk0 V c 11 t) (fYH V c (t.val - 1) (Nat.lt_of_le_of_lt (Nat.sub_le _ _) t.isLt)) (fAH V c t) := by
  obtain ⟨n, hn⟩ := t; cases n with
  | zero => exact absurd rfl ht
  | succ n => rfl
theorem fSC_zero (c : Dev nD) (t : Fin cfg0.N) (ht : t.val = 0) :
    fSC V c t.val t.isLt = SC (grid0.coords t) k0_pay62 (fGP V c t) (fUP V c t) := by
  obtain ⟨n, hn⟩ := t; subst ht; rfl
theorem fYH_zero (c : Dev nD) (t : Fin cfg0.N) (ht : t.val = 0) :
    fYH V c t.val t.isLt = YH (iblk0 V c 10 t) (iblk0 V c 11 t) k0_pay61 (fAH V c t) := by
  obtain ⟨n, hn⟩ := t; subst ht; rfl

/-! ## The invariant: the scratch buffer holds the running sum -/

/-- The running sum's scratch buffer. -/
abbrev scM0_0 : Memref sig .tc .vmem S256x896 .f32 := Memref.whole cc0_scratch0

theorem PhiA0_eq (c : Dev nD) : (Pipeline.ΦA spec0 c : sProp 𝕄) = iprop(((∃ d, owns (c : Thread nD τ) scM0_0 fullShare d) ∗ Pipeline.scopedRestBut spec0 c [cc0_scratch0]) ∗ (∃ r, prngReg c r)) := by
  unfold Pipeline.ΦA; rw [scopedRest0_split]; simp only [scM0_0, owns_whole]; try rfl

def PhiS (c : Dev nD) : (n : ℕ) → n ≤ cfg0.N → sProp 𝕄
  | 0, _ => Pipeline.ΦA spec0 c
  | n + 1, hn => iprop(owns (c : Thread nD τ) scM0_0 fullShare (fYH V c n hn) ∗ Pipeline.scopedRestBut spec0 c [cc0_scratch0] ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop(owns (c : Thread nD τ) scM0_0 fullShare (fYH V c (n - 1) (by omega)) ∗ Pipeline.scopedRestBut spec0 c [cc0_scratch0] ∗ (∃ r, prngReg c r)) := by
  cases n with
  | zero => exact absurd rfl hz
  | succ n => rfl

/-! ## The proof data -/

/-- Arrays as the region finds them; inputs left in place; every output at its contents after point `t`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => fLO V c t
    | ⟨13, _⟩ => fXQ V c
    | ⟨14, _⟩ => fXS V c
    | ⟨15, _⟩ => fAQ V c t
    | ⟨16, _⟩ => fSC V c t.val t.isLt
    | ⟨17, _⟩ => fXH V c
    | ⟨18, _⟩ => fGP V c t
    | ⟨19, _⟩ => fUP V c t
    | ⟨20, _⟩ => fAH V c t
    | ⟨21, _⟩ => fDY V c t
    | ⟨22, _⟩ => fDS V c t
    | ⟨_ + 23, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) : (dat0 V c).Φ t.castSucc = PhiS V c t.val (Nat.le_of_lt t.isLt) := by
  dsimp only [dat0]; exact Pipeline.Dat.Φ_castSucc (PhiS V c) t

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = fLO V c t := by dsimp only [dat0]
theorem after0_13 (c : Dev nD) (t : Fin cfg0.N) : (dat0 V c).after 13 t = fXQ V c := by dsimp only [dat0]
theorem after0_14 (c : Dev nD) (t : Fin cfg0.N) : (dat0 V c).after 14 t = fXS V c := by dsimp only [dat0]
theorem after0_15 (c : Dev nD) (t : Fin cfg0.N) : (dat0 V c).after 15 t = fAQ V c t := by dsimp only [dat0]
theorem after0_16 (c : Dev nD) (t : Fin cfg0.N) : (dat0 V c).after 16 t = fSC V c t.val t.isLt := by dsimp only [dat0]
theorem after0_17 (c : Dev nD) (t : Fin cfg0.N) : (dat0 V c).after 17 t = fXH V c := by dsimp only [dat0]
theorem after0_18 (c : Dev nD) (t : Fin cfg0.N) : (dat0 V c).after 18 t = fGP V c t := by dsimp only [dat0]
theorem after0_19 (c : Dev nD) (t : Fin cfg0.N) : (dat0 V c).after 19 t = fUP V c t := by dsimp only [dat0]
theorem after0_20 (c : Dev nD) (t : Fin cfg0.N) : (dat0 V c).after 20 t = fAH V c t := by dsimp only [dat0]
theorem after0_21 (c : Dev nD) (t : Fin cfg0.N) : (dat0 V c).after 21 t = fDY V c t := by dsimp only [dat0]
theorem after0_22 (c : Dev nD) (t : Fin cfg0.N) : (dat0 V c).after 22 t = fDS V c t := by dsimp only [dat0]

/-- Each input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)

/-- The scales' buffer holds, after the first point, what the point before left. -/
theorem before0_16 (c : Dev nD) (t : Fin cfg0.N) (ht : t.val ≠ 0) (d) :
    (dat0 V c).before 16 t d = fSC V c (t.val - 1) (Nat.lt_of_le_of_lt (Nat.sub_le _ _) t.isLt) := by
  have hN : t.val < 19 := lt_of_lt_of_eq t.isLt (show cfg0.N = 19 from N_0)
  rw [Dat.before_out_kept _ 16 rfl t ht (Bool.eq_false_iff.mpr fun h => by have := (flush0_16 _).mp h; dsimp only at this; omega)
    (fun _ => rfl) (fun _ _ => rfl)]
  dsimp only [dat0]

/-! ## Where the outputs stored at one point only are idle -/

theorem idle0_12 : ∀ t : Fin cfg0.N, ¬k0_cond2 (grid0.coords t) = 1#1 → cfg0.idle 12 (grid0.coords t) = true := by decide +kernel
theorem live0_12 : ∀ t : Fin cfg0.N, k0_cond2 (grid0.coords t) = 1#1 → cfg0.idle 12 (grid0.coords t) = false := by decide +kernel
theorem noFlush0_12 (t : Fin cfg0.N) (h1 : ¬t.val % 19 = 18) : (cfg0.win 12).flush t = false :=
  Bool.eq_false_iff.mpr fun h => h1 ((flush0_12 t).mp h)
theorem idle0_21 : ∀ t : Fin cfg0.N, ¬k0_cond2 (grid0.coords t) = 1#1 → cfg0.idle 21 (grid0.coords t) = true := by decide +kernel
theorem live0_21 : ∀ t : Fin cfg0.N, k0_cond2 (grid0.coords t) = 1#1 → cfg0.idle 21 (grid0.coords t) = false := by decide +kernel
theorem noFlush0_21 (t : Fin cfg0.N) (h1 : ¬t.val % 19 = 18) : (cfg0.win 21).flush t = false :=
  Bool.eq_false_iff.mpr fun h => h1 ((flush0_21 t).mp h)
theorem idle0_22 : ∀ t : Fin cfg0.N, ¬k0_cond2 (grid0.coords t) = 1#1 → cfg0.idle 22 (grid0.coords t) = true := by decide +kernel
theorem live0_22 : ∀ t : Fin cfg0.N, k0_cond2 (grid0.coords t) = 1#1 → cfg0.idle 22 (grid0.coords t) = false := by decide +kernel
theorem noFlush0_22 (t : Fin cfg0.N) (h1 : ¬t.val % 19 = 18) : (cfg0.win 22).flush t = false :=
  Bool.eq_false_iff.mpr fun h => h1 ((flush0_22 t).mp h)
theorem idle0_13 : ∀ t : Fin cfg0.N, ¬k0_cond1 (grid0.coords t) = 1#1 → cfg0.idle 13 (grid0.coords t) = true := by decide +kernel
theorem live0_13 : ∀ t : Fin cfg0.N, k0_cond1 (grid0.coords t) = 1#1 → cfg0.idle 13 (grid0.coords t) = false := by decide +kernel
theorem noFlush0_13 (t : Fin cfg0.N) (h1 : ¬t.val % 19 = 18) : (cfg0.win 13).flush t = false :=
  Bool.eq_false_iff.mpr fun h => h1 ((flush0_13 t).mp h)
/-- After the first point it holds what the first point stored. -/
theorem before0_13 (c : Dev nD) : ∀ (n : ℕ) (hn : n + 1 < cfg0.N) (d), (dat0 V c).before 13 ⟨n + 1, hn⟩ d = fXQ V c
  | 0, hn, d => by
    rw [Dat.before_of_pos _ 13 ⟨1, hn⟩ (by dsimp only; omega) rfl d]
    rw [noFlush0_13 _ (by dsimp only; omega), if_neg Bool.false_ne_true]
    unfold Dat.left; rw [live0_13 _ ((hcond0_0 _).mpr (by dsimp only))]
    dsimp only
    unfold Dat.kept
    rw [Pipeline.fill_of_clip_none 13 _ (fun _ => rfl) d ((dat0 V c).after 13 _), Window.fill_cut, after0_13]
  | n + 1, hn, d => by
    have hN : n + 2 < 19 := lt_of_lt_of_eq hn (show cfg0.N = 19 from N_0)
    rw [Dat.before_of_pos _ 13 ⟨n + 2, hn⟩ (by dsimp only; omega) rfl d]
    rw [noFlush0_13 _ (by dsimp only; omega), if_neg Bool.false_ne_true]
    unfold Dat.left; rw [idle0_13 _ (fun h => by have := (hcond0_0 _).mp h; dsimp only at this; omega)]
    exact before0_13 c n (Nat.lt_of_succ_lt hn) d
theorem idle0_14 : ∀ t : Fin cfg0.N, ¬k0_cond1 (grid0.coords t) = 1#1 → cfg0.idle 14 (grid0.coords t) = true := by decide +kernel
theorem live0_14 : ∀ t : Fin cfg0.N, k0_cond1 (grid0.coords t) = 1#1 → cfg0.idle 14 (grid0.coords t) = false := by decide +kernel
theorem noFlush0_14 (t : Fin cfg0.N) (h1 : ¬t.val % 19 = 18) : (cfg0.win 14).flush t = false :=
  Bool.eq_false_iff.mpr fun h => h1 ((flush0_14 t).mp h)
/-- After the first point it holds what the first point stored. -/
theorem before0_14 (c : Dev nD) : ∀ (n : ℕ) (hn : n + 1 < cfg0.N) (d), (dat0 V c).before 14 ⟨n + 1, hn⟩ d = fXS V c
  | 0, hn, d => by
    rw [Dat.before_of_pos _ 14 ⟨1, hn⟩ (by dsimp only; omega) rfl d]
    rw [noFlush0_14 _ (by dsimp only; omega), if_neg Bool.false_ne_true]
    unfold Dat.left; rw [live0_14 _ ((hcond0_0 _).mpr (by dsimp only))]
    dsimp only
    unfold Dat.kept
    rw [Pipeline.fill_of_clip_none 14 _ (fun _ => rfl) d ((dat0 V c).after 14 _), Window.fill_cut, after0_14]
  | n + 1, hn, d => by
    have hN : n + 2 < 19 := lt_of_lt_of_eq hn (show cfg0.N = 19 from N_0)
    rw [Dat.before_of_pos _ 14 ⟨n + 2, hn⟩ (by dsimp only; omega) rfl d]
    rw [noFlush0_14 _ (by dsimp only; omega), if_neg Bool.false_ne_true]
    unfold Dat.left; rw [idle0_14 _ (fun h => by have := (hcond0_0 _).mp h; dsimp only at this; omega)]
    exact before0_14 c n (Nat.lt_of_succ_lt hn) d
theorem idle0_17 : ∀ t : Fin cfg0.N, ¬k0_cond1 (grid0.coords t) = 1#1 → cfg0.idle 17 (grid0.coords t) = true := by decide +kernel
theorem live0_17 : ∀ t : Fin cfg0.N, k0_cond1 (grid0.coords t) = 1#1 → cfg0.idle 17 (grid0.coords t) = false := by decide +kernel
theorem noFlush0_17 (t : Fin cfg0.N) (h1 : ¬t.val % 19 = 18) : (cfg0.win 17).flush t = false :=
  Bool.eq_false_iff.mpr fun h => h1 ((flush0_17 t).mp h)
/-- After the first point it holds what the first point stored. -/
theorem before0_17 (c : Dev nD) : ∀ (n : ℕ) (hn : n + 1 < cfg0.N) (d), (dat0 V c).before 17 ⟨n + 1, hn⟩ d = fXH V c
  | 0, hn, d => by
    rw [Dat.before_of_pos _ 17 ⟨1, hn⟩ (by dsimp only; omega) rfl d]
    rw [noFlush0_17 _ (by dsimp only; omega), if_neg Bool.false_ne_true]
    unfold Dat.left; rw [live0_17 _ ((hcond0_0 _).mpr (by dsimp only))]
    dsimp only
    unfold Dat.kept
    rw [Pipeline.fill_of_clip_none 17 _ (fun _ => rfl) d ((dat0 V c).after 17 _), Window.fill_cut, after0_17]
  | n + 1, hn, d => by
    have hN : n + 2 < 19 := lt_of_lt_of_eq hn (show cfg0.N = 19 from N_0)
    rw [Dat.before_of_pos _ 17 ⟨n + 2, hn⟩ (by dsimp only; omega) rfl d]
    rw [noFlush0_17 _ (by dsimp only; omega), if_neg Bool.false_ne_true]
    unfold Dat.left; rw [idle0_17 _ (fun h => by have := (hcond0_0 _).mp h; dsimp only at this; omega)]
    exact before0_17 c n (Nat.lt_of_succ_lt hn) d

end Cert.Kernel.Gen
-- ==== Proof.Kernel.FwdBody.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.FwdDat

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The forward body at every point, as the pipeline runs it -/

/-- Each window's current staging buffer at point `t`, and its wholeness. -/
abbrev ms0_0 (t : Fin cfg0.N) : Memref sig .tc .vmem S256x896 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x896 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x896 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x896 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S896x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S896x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S896x256 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S896x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x896 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x896 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x896 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x14 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x256 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x896 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x896 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x896 .bf16 := win0_22.stage (cfg0.slots t 22)
abbrev hs0_22 (t : Fin cfg0.N) : (ms0_22 t).IsWhole := hstage0_22 ((cfg0.slots t 22).cast nbuf0_22)

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d)))
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t
    ∗ (dat0 V c).leavesExact 19 t
    ∗ (dat0 V c).leavesExact 20 t
    ∗ (dat0 V c).leavesExact 21 t
    ∗ (dat0 V c).leavesExact 22 t)

/-- A window that is not idle at a point is left at what the body leaves. -/
theorem leaves_live (c : Dev nD) (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]
/-- A window that is idle at a point which writes it back too. -/
theorem leaves_flush (c : Dev nD) (w : Fin cfg0.W) (t : Fin cfg0.N) (h : cfg0.idle w (cfg0.grid.coords t) = true) (hf : (cfg0.win w).flush t = true) :
    (dat0 V c).leavesExact w t = owns (c : Thread nD τ) ((cfg0.win w).stage (cfg0.slots t w)) fullShare ((dat0 V c).after w t) := by
  unfold Dat.leavesExact; rw [h, hf]

set_option maxHeartbeats 4000000 in
/-- At the first point. -/
theorem sound_body0_A (c : Dev nD) (t : Fin cfg0.N) (h0 : t.val % 19 = 0) (h1 : ¬t.val % 19 = 18) :
    bodyPre0 V c t ⊢ wp frame (wpE (defs₀ (F := F)) Variants.none c none) Set.univ (bodyAt0 t) (fun _ => bodyPost0 V c t) := by
  have hN : t.val < 19 := lt_of_lt_of_eq t.isLt (show cfg0.N = 19 from N_0)
  have hz : t.val = 0 := by omega
  have ht : t = pt0 := Fin.ext hz
  unfold bodyPre0 bodyPost0 bodyAt0
  simp only [before0_0, before0_1, before0_2, before0_3, before0_4, before0_5, before0_6, before0_7, before0_8, before0_9, before0_10, before0_11]
  rw [show (dat0 V c).owesAt () t.succ = (dat0 V c).owesAt () t.castSucc from rfl,
    show (dat0 V c).Φ t.succ = iprop(owns (c : Thread nD τ) scM0_0 fullShare (fYH V c t.val t.isLt) ∗ Pipeline.scopedRestBut spec0 c [cc0_scratch0] ∗ (∃ r, prngReg c r)) from rfl,
    PhiS_castSucc V c t, PhiS_zero V c _ _ hz, PhiA0_eq]
  rw [leaves_live V c 0 t rfl, after0_0]
  rw [leaves_live V c 1 t rfl, after0_1]
  rw [leaves_live V c 2 t rfl, after0_2]
  rw [leaves_live V c 3 t rfl, after0_3]
  rw [leaves_live V c 4 t rfl, after0_4]
  rw [leaves_live V c 5 t rfl, after0_5]
  rw [leaves_live V c 6 t rfl, after0_6]
  rw [leaves_live V c 7 t rfl, after0_7]
  rw [leaves_live V c 8 t rfl, after0_8]
  rw [leaves_live V c 9 t rfl, after0_9]
  rw [leaves_live V c 10 t rfl, after0_10]
  rw [leaves_live V c 11 t rfl, after0_11]
  rw [Dat.leavesExact_idle (dat0 V c) 12 t (idle0_12 t (fun h => h1 ((hcond0_1 t).mp h))) (noFlush0_12 t h1)]
  rw [leaves_live V c 13 t (live0_13 t ((hcond0_0 t).mpr h0)), after0_13]
  rw [leaves_live V c 14 t (live0_14 t ((hcond0_0 t).mpr h0)), after0_14]
  rw [leaves_live V c 15 t rfl, after0_15]
  rw [leaves_live V c 16 t rfl, after0_16]
  rw [leaves_live V c 17 t (live0_17 t ((hcond0_0 t).mpr h0)), after0_17]
  rw [leaves_live V c 18 t rfl, after0_18]
  rw [leaves_live V c 19 t rfl, after0_19]
  rw [leaves_live V c 20 t rfl, after0_20]
  rw [Dat.leavesExact_idle (dat0 V c) 21 t (idle0_21 t (fun h => h1 ((hcond0_1 t).mp h))) (noFlush0_21 t h1)]
  rw [Dat.leavesExact_idle (dat0 V c) 22 t (idle0_22 t (fun h => h1 ((hcond0_1 t).mp h))) (noFlush0_22 t h1)]
  iintro ⟨⟨⟨⟨%d23, H23⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_A (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) c (grid0.coords t) ((hcond0_0 t).mpr h0) (fun h => h1 ((hcond0_1 t).mp h)) ((dat0 V c).before 12 t d12) ((dat0 V c).before 21 t d21) ((dat0 V c).before 22 t d22) Set.univ _ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ owns (c : Thread nD τ) (ms0_7 t) fullShare (iblk0 V c 7 t) ∗ owns (c : Thread nD τ) (ms0_8 t) fullShare (iblk0 V c 8 t) ∗ owns (c : Thread nD τ) (ms0_9 t) fullShare (iblk0 V c 9 t) ∗ owns (c : Thread nD τ) (ms0_10 t) fullShare (iblk0 V c 10 t) ∗ owns (c : Thread nD τ) (ms0_11 t) fullShare (iblk0 V c 11 t) ∗ owns (c : Thread nD τ) (ms0_12 t) fullShare (((dat0 V c).before 12 t d12)) ∗ owns (c : Thread nD τ) (ms0_13 t) fullShare (fXQ V c) ∗ owns (c : Thread nD τ) (ms0_14 t) fullShare (fXS V c) ∗ owns (c : Thread nD τ) (ms0_15 t) fullShare (fAQ V c t) ∗ owns (c : Thread nD τ) (ms0_16 t) fullShare (fSC V c t.val t.isLt) ∗ owns (c : Thread nD τ) (ms0_17 t) fullShare (fXH V c) ∗ owns (c : Thread nD τ) (ms0_18 t) fullShare (fGP V c t) ∗ owns (c : Thread nD τ) (ms0_19 t) fullShare (fUP V c t) ∗ owns (c : Thread nD τ) (ms0_20 t) fullShare (fAH V c t) ∗ owns (c : Thread nD τ) (ms0_21 t) fullShare (((dat0 V c).before 21 t d21)) ∗ owns (c : Thread nD τ) (ms0_22 t) fullShare (((dat0 V c).before 22 t d22)) ∗ owns (c : Thread nD τ) scM0_0 fullShare (fYH V c t.val t.isLt))) (by
    rw [fYH_zero V c t hz, fSC_zero V c t hz]; subst ht; exact .rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [H23 HR Hg]
  · isplitl [H23]; · iexact H23
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists d21; iexact H21
  iexists d22; iexact H22

set_option maxHeartbeats 4000000 in
/-- At a middle point. -/
theorem sound_body0_B (c : Dev nD) (t : Fin cfg0.N) (h0 : ¬t.val % 19 = 0) (h1 : ¬t.val % 19 = 18) :
    bodyPre0 V c t ⊢ wp frame (wpE (defs₀ (F := F)) Variants.none c none) Set.univ (bodyAt0 t) (fun _ => bodyPost0 V c t) := by
  have hN : t.val < 19 := lt_of_lt_of_eq t.isLt (show cfg0.N = 19 from N_0)
  have hz : t.val ≠ 0 := by omega
  have b13 : ∀ d, (dat0 V c).before 13 t d = fXQ V c := fun d => by
    have := before0_13 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b14 : ∀ d, (dat0 V c).before 14 t d = fXS V c := fun d => by
    have := before0_14 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b17 : ∀ d, (dat0 V c).before 17 t d = fXH V c := fun d => by
    have := before0_17 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  unfold bodyPre0 bodyPost0 bodyAt0
  simp only [before0_0, before0_1, before0_2, before0_3, before0_4, before0_5, before0_6, before0_7, before0_8, before0_9, before0_10, before0_11, before0_16 V c t hz, b13, b14, b17]
  rw [show (dat0 V c).owesAt () t.succ = (dat0 V c).owesAt () t.castSucc from rfl,
    show (dat0 V c).Φ t.succ = iprop(owns (c : Thread nD τ) scM0_0 fullShare (fYH V c t.val t.isLt) ∗ Pipeline.scopedRestBut spec0 c [cc0_scratch0] ∗ (∃ r, prngReg c r)) from rfl,
    PhiS_castSucc V c t, PhiS_pos V c _ _ hz]
  rw [leaves_live V c 0 t rfl, after0_0]
  rw [leaves_live V c 1 t rfl, after0_1]
  rw [leaves_live V c 2 t rfl, after0_2]
  rw [leaves_live V c 3 t rfl, after0_3]
  rw [leaves_live V c 4 t rfl, after0_4]
  rw [leaves_live V c 5 t rfl, after0_5]
  rw [leaves_live V c 6 t rfl, after0_6]
  rw [leaves_live V c 7 t rfl, after0_7]
  rw [leaves_live V c 8 t rfl, after0_8]
  rw [leaves_live V c 9 t rfl, after0_9]
  rw [leaves_live V c 10 t rfl, after0_10]
  rw [leaves_live V c 11 t rfl, after0_11]
  rw [Dat.leavesExact_idle (dat0 V c) 12 t (idle0_12 t (fun h => h1 ((hcond0_1 t).mp h))) (noFlush0_12 t h1)]
  rw [Dat.leavesExact_idle (dat0 V c) 13 t (idle0_13 t (fun h => h0 ((hcond0_0 t).mp h))) (noFlush0_13 t h1)]
  rw [Dat.leavesExact_idle (dat0 V c) 14 t (idle0_14 t (fun h => h0 ((hcond0_0 t).mp h))) (noFlush0_14 t h1)]
  rw [leaves_live V c 15 t rfl, after0_15]
  rw [leaves_live V c 16 t rfl, after0_16]
  rw [Dat.leavesExact_idle (dat0 V c) 17 t (idle0_17 t (fun h => h0 ((hcond0_0 t).mp h))) (noFlush0_17 t h1)]
  rw [leaves_live V c 18 t rfl, after0_18]
  rw [leaves_live V c 19 t rfl, after0_19]
  rw [leaves_live V c 20 t rfl, after0_20]
  rw [Dat.leavesExact_idle (dat0 V c) 21 t (idle0_21 t (fun h => h1 ((hcond0_1 t).mp h))) (noFlush0_21 t h1)]
  rw [Dat.leavesExact_idle (dat0 V c) 22 t (idle0_22 t (fun h => h1 ((hcond0_1 t).mp h))) (noFlush0_22 t h1)]
  simp only [b13, b14, b17]
  iintro ⟨⟨H23, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) c (grid0.coords t) (fun h => h0 ((hcond0_0 t).mp h)) (fun h => h1 ((hcond0_1 t).mp h)) ((dat0 V c).before 12 t d12) (fXQ V c) (fXS V c) (fSC V c (t.val - 1) (Nat.lt_of_le_of_lt (Nat.sub_le _ _) t.isLt)) (fXH V c) ((dat0 V c).before 21 t d21) ((dat0 V c).before 22 t d22) (fYH V c (t.val - 1) (Nat.lt_of_le_of_lt (Nat.sub_le _ _) t.isLt)) Set.univ _ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ owns (c : Thread nD τ) (ms0_7 t) fullShare (iblk0 V c 7 t) ∗ owns (c : Thread nD τ) (ms0_8 t) fullShare (iblk0 V c 8 t) ∗ owns (c : Thread nD τ) (ms0_9 t) fullShare (iblk0 V c 9 t) ∗ owns (c : Thread nD τ) (ms0_10 t) fullShare (iblk0 V c 10 t) ∗ owns (c : Thread nD τ) (ms0_11 t) fullShare (iblk0 V c 11 t) ∗ owns (c : Thread nD τ) (ms0_12 t) fullShare (((dat0 V c).before 12 t d12)) ∗ owns (c : Thread nD τ) (ms0_13 t) fullShare (fXQ V c) ∗ owns (c : Thread nD τ) (ms0_14 t) fullShare (fXS V c) ∗ owns (c : Thread nD τ) (ms0_15 t) fullShare (fAQ V c t) ∗ owns (c : Thread nD τ) (ms0_16 t) fullShare (fSC V c t.val t.isLt) ∗ owns (c : Thread nD τ) (ms0_17 t) fullShare (fXH V c) ∗ owns (c : Thread nD τ) (ms0_18 t) fullShare (fGP V c t) ∗ owns (c : Thread nD τ) (ms0_19 t) fullShare (fUP V c t) ∗ owns (c : Thread nD τ) (ms0_20 t) fullShare (fAH V c t) ∗ owns (c : Thread nD τ) (ms0_21 t) fullShare (((dat0 V c).before 21 t d21)) ∗ owns (c : Thread nD τ) (ms0_22 t) fullShare (((dat0 V c).before 22 t d22)) ∗ owns (c : Thread nD τ) scM0_0 fullShare (fYH V c t.val t.isLt))) (by
    rw [fYH_pos V c t hz, fSC_pos V c t hz]; exact .rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [H17]; · iexact H17
  isplitl [H18]; · iexists _; iexact H18
  isplitl [H19]; · iexists _; iexact H19
  isplitl [H20]; · iexists _; iexact H20
  isplitl [H21]; · iexact H21
  isplitl [H22]; · iexact H22
  isplitl [H23]; · iexact H23
  iintro ⟨H0, H1, H2, H3, H4, H5, H6, H7, H8, H9, H10, H11, H12, H13, H14, H15, H16, H17, H18, H19, H20, H21, H22, H23⟩
  isplitl [H23 HR Hg]
  · isplitl [H23]; · iexact H23
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexists d13; iexact H13
  isplitl [H14]; · iexists d14; iexact H14
  isplitl [H15]; · iexact H15
  isplitl [H16]; · iexact H16
  isplitl [H17]; · iexists d17; iexact H17
  isplitl [H18]; · iexact H18
  isplitl [H19]; · iexact H19
  isplitl [H20]; · iexact H20
  isplitl [H21]; · iexists d21; iexact H21
  iexists d22; iexact H22

set_option maxHeartbeats 4000000 in
/-- At the last point. -/
theorem sound_body0_C (c : Dev nD) (t : Fin cfg0.N) (h0 : ¬t.val % 19 = 0) (h1 : t.val % 19 = 18) :
    bodyPre0 V c t ⊢ wp frame (wpE (defs₀ (F := F)) Variants.none c none) Set.univ (bodyAt0 t) (fun _ => bodyPost0 V c t) := by
  have hN : t.val < 19 := lt_of_lt_of_eq t.isLt (show cfg0.N = 19 from N_0)
  have hz : t.val ≠ 0 := by omega
  have b13 : ∀ d, (dat0 V c).before 13 t d = fXQ V c := fun d => by
    have := before0_13 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b14 : ∀ d, (dat0 V c).before 14 t d = fXS V c := fun d => by
    have := before0_14 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b17 : ∀ d, (dat0 V c).before 17 t d = fXH V c := fun d => by
    have := before0_17 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  unfold bodyPre0 bodyPost0 bodyAt0
  simp only [before0_0, before0_1, before0_2, before0_3, before0_4, before0_5, before0_6, before0_7, before0_8, before0_9, before0_10, before0_11, before0_16 V c t hz, b13, b14, b17]
  rw [show (dat0 V c).owesAt () t.succ = (dat0 V c).owesAt () t.castSucc from rfl,
    show (dat0 V c).Φ t.succ = iprop(owns (c : Thread nD τ) scM0_0 fullShare (fYH V c t.val t.isLt) ∗ Pipeline.scopedRestBut spec0 c [cc0_scratch0] ∗ (∃ r, prngReg c r)) from rfl,
    PhiS_castSucc V c t, PhiS_pos V c _ _ hz]
  rw [leaves_live V c 0 t rfl, after0_0]
  rw [leaves_live V c 1 t rfl, after0_1]
  rw [leaves_live V c 2 t rfl, after0_2]
  rw [leaves_live V c 3 t rfl, after0_3]
  rw [leaves_live V c 4 t rfl, after0_4]
  rw [leaves_live V c 5 t rfl, after0_5]
  rw [leaves_live V c 6 t rfl, after0_6]
  rw [leaves_live V c 7 t rfl, after0_7]
  rw [leaves_live V c 8 t rfl, after0_8]
  rw [leaves_live V c 9 t rfl, after0_9]
  rw [leaves_live V c 10 t rfl, after0_10]
  rw [leaves_live V c 11 t rfl, after0_11]
  rw [leaves_live V c 12 t (live0_12 t ((hcond0_1 t).mpr h1)), after0_12]
  rw [leaves_flush V c 13 t (idle0_13 t (fun h => h0 ((hcond0_0 t).mp h))) ((flush0_13 t).mpr h1), after0_13]
  rw [leaves_flush V c 14 t (idle0_14 t (fun h => h0 ((hcond0_0 t).mp h))) ((flush0_14 t).mpr h1), after0_14]
  rw [leaves_live V c 15 t rfl, after0_15]
  rw [leaves_live V c 16 t rfl, after0_16]
  rw [leaves_flush V c 17 t (idle0_17 t (fun h => h0 ((hcond0_0 t).mp h))) ((flush0_17 t).mpr h1), after0_17]
  rw [leaves_live V c 18 t rfl, after0_18]
  rw [leaves_live V c 19 t rfl, after0_19]
  rw [leaves_live V c 20 t rfl, after0_20]
  rw [leaves_live V c 21 t (live0_21 t ((hcond0_1 t).mpr h1)), after0_21]
  rw [leaves_live V c 22 t (live0_22 t ((hcond0_1 t).mpr h1)), after0_22]
  iintro ⟨⟨H23, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_C (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) c (grid0.coords t) (fun h => h0 ((hcond0_0 t).mp h)) ((hcond0_1 t).mpr h1) (fXQ V c) (fXS V c) (fSC V c (t.val - 1) (Nat.lt_of_le_of_lt (Nat.sub_le _ _) t.isLt)) (fXH V c) (fYH V c (t.val - 1) (Nat.lt_of_le_of_lt (Nat.sub_le _ _) t.isLt)) Set.univ _ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ owns (c : Thread nD τ) (ms0_7 t) fullShare (iblk0 V c 7 t) ∗ owns (c : Thread nD τ) (ms0_8 t) fullShare (iblk0 V c 8 t) ∗ owns (c : Thread nD τ) (ms0_9 t) fullShare (iblk0 V c 9 t) ∗ owns (c : Thread nD τ) (ms0_10 t) fullShare (iblk0 V c 10 t) ∗ owns (c : Thread nD τ) (ms0_11 t) fullShare (iblk0 V c 11 t) ∗ owns (c : Thread nD τ) (ms0_12 t) fullShare (fLO V c t) ∗ owns (c : Thread nD τ) (ms0_13 t) fullShare (fXQ V c) ∗ owns (c : Thread nD τ) (ms0_14 t) fullShare (fXS V c) ∗ owns (c : Thread nD τ) (ms0_15 t) fullShare (fAQ V c t) ∗ owns (c : Thread nD τ) (ms0_16 t) fullShare (fSC V c t.val t.isLt) ∗ owns (c : Thread nD τ) (ms0_17 t) fullShare (fXH V c) ∗ owns (c : Thread nD τ) (ms0_18 t) fullShare (fGP V c t) ∗ owns (c : Thread nD τ) (ms0_19 t) fullShare (fUP V c t) ∗ owns (c : Thread nD τ) (ms0_20 t) fullShare (fAH V c t) ∗ owns (c : Thread nD τ) (ms0_21 t) fullShare (fDY V c t) ∗ owns (c : Thread nD τ) (ms0_22 t) fullShare (fDS V c t) ∗ owns (c : Thread nD τ) scM0_0 fullShare (fYH V c t.val t.isLt))) (by
    unfold fLO fDY fDS; rw [fYH_pos V c t hz, fSC_pos V c t hz]; exact .rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexists _; iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexact H23
  iintro ⟨H0, H1, H2, H3, H4, H5, H6, H7, H8, H9, H10, H11, H12, H13, H14, H15, H16, H17, H18, H19, H20, H21, H22, H23⟩
  isplitl [H23 HR Hg]
  · isplitl [H23]; · iexact H23
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 19 = 0
  · exact sound_body0_A V c t h0 (by omega)
  · by_cases h1 : t.val % 19 = 18
    · exact sound_body0_C V c t h0 h1
    · exact sound_body0_B V c t h0 h1

theorem defs₀_row0 (t : Fin cfg0.N) :
    defs₀ (F := F) .tc cfg0.body (cfg0.bodyArgs t (cfg0.slots t)) = bodyAt0 t := by
  unfold defs₀; rw [Defs.onTc_tc]

set_option maxHeartbeats 4000000 in
/-- The pipeline's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back, the running sum forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 19 := N_0; omega), PhiA0_eq]
  iintro ⟨HS, HR, Hg⟩
  isplitl [HS HR]
  · isplitl [HS]; · iexists _; iexact HS
    iexact HR
  iexact Hg

end Cert.Kernel.Gen
-- ==== Proof.Kernel.BwdBody.lean ====
/- The backward kernel: the body at every point, its proof data. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_brecq_bwd` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S896x256 := Rect.unit (s := S896x256) ![0, 0] S896x256.size inb_S896x256_S896x256_0_0
abbrev r1_1 : Rect S256x896 := Rect.unit (s := S256x896) ![0, 0] S256x896.size inb_S256x896_S256x896_0_0
abbrev r1_2 : Rect S256x256 := Rect.unit (s := S256x256) ![0, 0] S256x256.size inb_S256x256_S256x256_0_0
abbrev r1_3 : Rect S1x896 := Rect.unit (s := S1x896) ![0, 0] S1x896.size inb_S1x896_S1x896_0_0
abbrev r1_4 : Rect S1x256 := Rect.unit (s := S1x256) ![0, 0] S1x256.size inb_S1x256_S1x256_0_0

/-! ## What the body leaves in each output window's buffer -/

/-! ### Values of the body that the stores' payloads, spelt out, would write more than once

    Each is a vector the body binds (often a part call's result), stated over the input windows' blocks and
    numbered on from the skeleton's payload functions (`k1_pay19` …, after `k1_pay18`), so that
    `out1_W` and the values after it name it instead of spelling it out (`unfold_out out1_W` opens a canon
    with them, `unfold_payloads` opens them with the payloads); the comment after each is the printed function's
    name for the value (a count appended where that name is bound again). -/

def k1_pay19 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : FVec F S256x896 .f32 :=
  k1_pay11 (View.ld x13 r1_1) (View.ld x14 r1_1) -- `v78`

/-- Window 15's staging buffer after the body, from the input windows' blocks: its 1 store as pieces, LAST
    FIRST . -/
def out1_15 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : Vec F S896x256 .f32 :=
  View.canon [⟨r1_0, k1_pay2 (k1_pay4 (View.ld x7 r1_0) (View.ld x8 r1_0)) (k1_pay16 (k1_pay19 x0 x1 x2 x3 x4 x5 x6 x7 x8 x9 x10 x11 x12 x13 x14) (View.ld x3 r1_2) (View.ld x4 r1_2) (View.ld x2 r1_1)) (View.ld x9 r1_4) (View.ld x0 r1_1)⟩]

/-- Its stores tile the buffer (checked by evaluation), so they cover it. -/
theorem cover1_15 (p0 : Vec F S896x256 .f32) (y : S896x256.Idx) :
    ∃ pc ∈ ([⟨r1_0, p0⟩] : List (View.Piece (Elt F) S896x256 .f32)), y ∈ pc.1.set :=
  View.cover_of_tiled [⟨r1_0, p0⟩] S896x256.size (by rfl) y

/-- Window 16's staging buffer after the body, from the input windows' blocks: its 1 store as pieces, LAST
    FIRST . -/
def out1_16 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : Vec F S896x256 .f32 :=
  View.canon [⟨r1_0, k1_pay3 (k1_pay7 (View.ld x10 r1_0) (k1_pay5 (View.ld x11 r1_0)) (k1_pay6 (View.ld x11 r1_0))) (k1_pay17 (k1_pay19 x0 x1 x2 x3 x4 x5 x6 x7 x8 x9 x10 x11 x12 x13 x14) (View.ld x3 r1_2) (View.ld x2 r1_1)) (View.ld x12 r1_4) (View.ld x0 r1_1)⟩]

/-- Its stores tile the buffer (checked by evaluation), so they cover it. -/
theorem cover1_16 (p0 : Vec F S896x256 .f32) (y : S896x256.Idx) :
    ∃ pc ∈ ([⟨r1_0, p0⟩] : List (View.Piece (Elt F) S896x256 .f32)), y ∈ pc.1.set :=
  View.cover_of_tiled [⟨r1_0, p0⟩] S896x256.size (by rfl) y

/-- Window 17's staging buffer after the body, from the input windows' blocks: its 1 store as pieces, LAST
    FIRST . -/
def out1_17 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : Vec F S256x896 .f32 :=
  View.canon [⟨r1_1, k1_pay1 (k1_pay12 (k1_pay8 (View.ld x14 r1_1)) (k1_pay9 (View.ld x14 r1_1)) (k1_pay10 (View.ld x13 r1_1) (View.ld x14 r1_1))) (k1_pay18 (View.ld x6 r1_3)) (View.ld x5 r1_2) (View.ld x1 r1_1)⟩]

/-- Its stores tile the buffer (checked by evaluation), so they cover it. -/
theorem cover1_17 (p0 : Vec F S256x896 .f32) (y : S256x896.Idx) :
    ∃ pc ∈ ([⟨r1_1, p0⟩] : List (View.Piece (Elt F) S256x896 .f32)), y ∈ pc.1.set :=
  View.cover_of_tiled [⟨r1_1, p0⟩] S256x896.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs , through every part call. -/
theorem sound_kernel1 (c : Dev nD) (E : Set ℕ) (i : grid1.Coords) (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .bf16) (harg6 : arg6.IsWhole) (arg7 : Memref sig .tc .vmem S1x896 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S896x256 .i8) (harg11 : arg11.IsWhole) (arg12 : Memref sig .tc .vmem S896x256 .f32) (harg12 : arg12.IsWhole) (arg13 : Memref sig .tc .vmem S1x256 .f32) (harg13 : arg13.IsWhole) (arg14 : Memref sig .tc .vmem S256x896 .i8) (harg14 : arg14.IsWhole) (arg15 : Memref sig .tc .vmem S256x896 .f32) (harg15 : arg15.IsWhole) (arg16 : Memref sig .tc .vmem S896x256 .f32) (harg16 : arg16.IsWhole) (arg17 : Memref sig .tc .vmem S896x256 .f32) (harg17 : arg17.IsWhole) (arg18 : Memref sig .tc .vmem S256x896 .f32) (harg18 : arg18.IsWhole)
    (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14) ∗ owns (c : Thread nD τ) arg17 fullShare (out1_16 x0 x1 x2 x3 x4 x5 x6 x7 x8 x9 x10 x11 x12 x13 x14) ∗ owns (c : Thread nD τ) arg18 fullShare (out1_17 x0 x1 x2 x3 x4 x5 x6 x7 x8 x9 x10 x11 x12 x13 x14)) -∗ K ⟨⟩))
      ⊢ wp frame (wpE (defs₀ (F := F)) Variants.none c none) E (cc1_brecq_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_brecq_bwd_eq_skeleton]; unfold cc1_brecq_bwd_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover1_15 _)).trans ?_
    rfl
  isplitl [H16]
  · iexists _; isplitr
    swap; · iexact H16
    ipureintro
    refine (View.read_writes_eq_canon _ _ _ (cover1_16 _)).trans ?_
    rfl
  iexists _; isplitr
  swap; · iexact H17
  ipureintro
  refine (View.read_writes_eq_canon _ _ _ (cover1_17 _)).trans ?_
  rfl

/-! ## The pipeline's proof data -/

/-- The proof data of pipeline 1 on core `c`: the arrays as the region finds them (`V`); after the body at
    point `t` each input's buffer at its block and each output's at `out1_W` of the input blocks; the invariant the
    class's ; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 18, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ (grid1.coords t) _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Kernel.Hosts.lean ====
/- The host operations before and after the two kernels. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9, main_v10, main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.Kernel.Gen

end
-- ==== Proof.Kernel.Fold.lean ====
/- The buffers at every boundary of the program, folded from the launch. -/
module

public import proofs.«01_k».proof.Proof.Kernel.FwdBody
public import proofs.«01_k».proof.Proof.Kernel.BwdBody
public import proofs.«01_k».proof.Proof.Kernel.Hosts

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered  (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
end Cert.Kernel.Gen

end
-- ==== Proof.Kernel.State.lean ====
/- The thread state between the segments. -/
module

public import proofs.«01_k».proof.Proof.Kernel.Fold

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.Kernel.Gen

end
-- ==== Proof.Kernel.FwdSeg.lean ====
/- The forward kernel as a segment. -/
module

public import proofs.«01_k».proof.Proof.Kernel.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]
    refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.BwdSeg.lean ====
/- The backward kernel as a segment. -/
module

public import proofs.«01_k».proof.Proof.Kernel.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.Run.lean ====
/- The whole program: what every execution ends in. -/
module

public import proofs.«01_k».proof.Proof.Kernel.FwdSeg
public import proofs.«01_k».proof.Proof.Kernel.BwdSeg

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every execution terminates; it ends with every unscoped buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => by
    have h := h.1
    exact ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩, h.2⟩) (run_all m ρ)

end Cert.Kernel.Gen

end
-- ==== Proof.KernelIdeal.FwdVals.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the forward kernel's body leaves in its buffers, as functions of what it reads

Generic in the float instance: compositions of the printed payloads, one name per buffer. -/

/-- The lane number of every element of a 128-lane slice. -/
def lanes : IVec S256x128 32 := iota .tc S256x128 32 [1] iota_S256x128_d1_w32

/-- Lane slice `c` of the token block: columns `128 c … 128 c + 127`. -/
def xsl0 (x : Vec F S256x896 .bf16) : Vec F S256x128 .bf16 := View.ld x (Rect.unit (s := S256x896) ![0, 0] S256x128.size inb_S256x896_S256x128_0_0)
def xsl1 (x : Vec F S256x896 .bf16) : Vec F S256x128 .bf16 := View.ld x (Rect.unit (s := S256x896) ![0, 128] S256x128.size inb_S256x896_S256x128_0_128)
def xsl2 (x : Vec F S256x896 .bf16) : Vec F S256x128 .bf16 := View.ld x (Rect.unit (s := S256x896) ![0, 256] S256x128.size inb_S256x896_S256x128_0_256)
def xsl3 (x : Vec F S256x896 .bf16) : Vec F S256x128 .bf16 := View.ld x (Rect.unit (s := S256x896) ![0, 384] S256x128.size inb_S256x896_S256x128_0_384)
def xsl4 (x : Vec F S256x896 .bf16) : Vec F S256x128 .bf16 := View.ld x (Rect.unit (s := S256x896) ![0, 512] S256x128.size inb_S256x896_S256x128_0_512)
def xsl5 (x : Vec F S256x896 .bf16) : Vec F S256x128 .bf16 := View.ld x (Rect.unit (s := S256x896) ![0, 640] S256x128.size inb_S256x896_S256x128_0_640)
def xsl6 (x : Vec F S256x896 .bf16) : Vec F S256x128 .bf16 := View.ld x (Rect.unit (s := S256x896) ![0, 768] S256x128.size inb_S256x896_S256x128_0_768)

/-- The codes of the quantised tokens, slice by slice. -/
def XQ (x : Vec F S256x896 .bf16) : Vec F S256x896 .i8 :=
  View.canon [⟨Rect.unit (s := S256x896) ![0, 768] S256x128.size inb_S256x896_S256x128_0_768, k0_pay59 k0_pay63 (k0_pay52 (xsl6 x)) (k0_pay54 k0_pay63 (xsl6 x)) (k0_pay55 k0_pay63 (xsl6 x))⟩,
    ⟨Rect.unit (s := S256x896) ![0, 640] S256x128.size inb_S256x896_S256x128_0_640, k0_pay50 (k0_pay43 (xsl5 x)) (k0_pay44 k0_pay63 (xsl5 x)) (k0_pay45 k0_pay63 (xsl5 x)) k0_pay46⟩,
    ⟨Rect.unit (s := S256x896) ![0, 512] S256x128.size inb_S256x896_S256x128_0_512, k0_pay41 (k0_pay38 k0_pay63 (xsl4 x))⟩,
    ⟨Rect.unit (s := S256x896) ![0, 384] S256x128.size inb_S256x896_S256x128_0_384, k0_pay34 (k0_pay32 k0_pay63 (xsl3 x))⟩,
    ⟨Rect.unit (s := S256x896) ![0, 256] S256x128.size inb_S256x896_S256x128_0_256, k0_pay28 k0_pay63 (xsl2 x)⟩,
    ⟨Rect.unit (s := S256x896) ![0, 128] S256x128.size inb_S256x896_S256x128_0_128, k0_pay22 k0_pay63 (xsl1 x)⟩,
    ⟨Rect.unit (s := S256x896) ![0, 0] S256x128.size inb_S256x896_S256x128_0_0, k0_pay14 k0_pay63 (xsl0 x)⟩]

/-- The dequantised tokens, slice by slice. -/
def XH (x : Vec F S256x896 .bf16) : Vec F S256x896 .bf16 :=
  View.canon [⟨Rect.unit (s := S256x896) ![0, 768] S256x128.size inb_S256x896_S256x128_0_768, k0_pay58 k0_pay63 (k0_pay52 (xsl6 x)) (k0_pay54 k0_pay63 (xsl6 x)) (k0_pay55 k0_pay63 (xsl6 x))⟩,
    ⟨Rect.unit (s := S256x896) ![0, 640] S256x128.size inb_S256x896_S256x128_0_640, k0_pay49 (k0_pay43 (xsl5 x)) (k0_pay44 k0_pay63 (xsl5 x)) (k0_pay45 k0_pay63 (xsl5 x)) k0_pay46⟩,
    ⟨Rect.unit (s := S256x896) ![0, 512] S256x128.size inb_S256x896_S256x128_0_512, k0_pay40 (k0_pay37 k0_pay63 (xsl4 x)) (k0_pay38 k0_pay63 (xsl4 x))⟩,
    ⟨Rect.unit (s := S256x896) ![0, 384] S256x128.size inb_S256x896_S256x128_0_384, k0_pay33 (k0_pay31 k0_pay63 (xsl3 x)) (k0_pay32 k0_pay63 (xsl3 x))⟩,
    ⟨Rect.unit (s := S256x896) ![0, 256] S256x128.size inb_S256x896_S256x128_0_256, k0_pay27 k0_pay63 (xsl2 x)⟩,
    ⟨Rect.unit (s := S256x896) ![0, 128] S256x128.size inb_S256x896_S256x128_0_128, k0_pay21 k0_pay63 (xsl1 x)⟩,
    ⟨Rect.unit (s := S256x896) ![0, 0] S256x128.size inb_S256x896_S256x128_0_0, k0_pay13 k0_pay63 (xsl0 x)⟩]

/-- The scales gathered after slices `0 … 1`, `… 2`, and so on. -/
def xsc1 (x : Vec F S256x896 .bf16) : FVec F S256x128 .f32 := k0_pay17 lanes k0_pay9 (k0_pay11 k0_pay63 (xsl0 x)) (k0_pay15 lanes) (k0_pay16 k0_pay63 (xsl0 x))
def xsc2 (x : Vec F S256x896 .bf16) : FVec F S256x128 .f32 := k0_pay23 lanes (xsc1 x) (k0_pay19 k0_pay63 (xsl1 x))
def xsc3 (x : Vec F S256x896 .bf16) : FVec F S256x128 .f32 := k0_pay29 lanes (xsc2 x) (k0_pay25 k0_pay63 (xsl2 x))
def xsc4 (x : Vec F S256x896 .bf16) : FVec F S256x128 .f32 := k0_pay35 lanes (xsc3 x) (k0_pay31 k0_pay63 (xsl3 x))
def xsc5 (x : Vec F S256x896 .bf16) : FVec F S256x128 .f32 := k0_pay42 lanes (xsc4 x) (k0_pay37 k0_pay63 (xsl4 x))
def xsc6 (x : Vec F S256x896 .bf16) : FVec F S256x128 .f32 := k0_pay51 lanes (xsc5 x) (k0_pay44 k0_pay63 (xsl5 x)) (k0_pay45 k0_pay63 (xsl5 x)) k0_pay46
/-- The scales of the quantised tokens. -/
def XS (x : Vec F S256x896 .bf16) : Vec F S256x14 .f32 := k0_pay60 lanes k0_pay63 (xsc6 x) (k0_pay54 k0_pay63 (xsl6 x)) (k0_pay55 k0_pay63 (xsl6 x))

/-- The gate projection of one tile of columns. -/
def GP (x4 : Vec F S896x256 .i8) (x5 : Vec F S896x256 .f32) (x6 : Vec F S1x256 .f32) (xh : Vec F S256x896 .bf16) : Vec F S256x256 .f32 := k0_pay68 (k0_pay64 x4 x5) xh x6
/-- The up projection of one tile of columns. -/
def UP (x7 : Vec F S896x256 .i8) (x8 : Vec F S896x256 .f32) (x9 : Vec F S1x256 .f32) (xh : Vec F S256x896 .bf16) : Vec F S256x256 .f32 := k0_pay69 (k0_pay65 x7 x8) xh x9
/-- The codes of the quantised activation of one tile. -/
def AQ (gp up : Vec F S256x256 .f32) : Vec F S256x256 .i8 :=
  View.canon [⟨Rect.unit (s := S256x256) ![0, 128] S256x128.size inb_S256x256_S256x128_0_128, k0_pay82 k0_pay63 (k0_pay70 gp up)⟩,
    ⟨Rect.unit (s := S256x256) ![0, 0] S256x128.size inb_S256x256_S256x128_0_0, k0_pay76 k0_pay63 gp up⟩]
/-- The dequantised activation of one tile. -/
def AH (gp up : Vec F S256x256 .f32) : Vec F S256x256 .bf16 :=
  View.canon [⟨Rect.unit (s := S256x256) ![0, 128] S256x128.size inb_S256x256_S256x128_0_128, k0_pay81 k0_pay63 (k0_pay70 gp up)⟩,
    ⟨Rect.unit (s := S256x256) ![0, 0] S256x128.size inb_S256x256_S256x128_0_0, k0_pay75 k0_pay63 gp up⟩]
/-- The activation scales after the point at grid coordinates `i`, from those before it. -/
def SC (i : grid0.Coords) (sc : Vec F S256x128 .f32) (gp up : Vec F S256x256 .f32) : Vec F S256x128 .f32 :=
  k0_pay1 (BitVec.ofNat 32 (i 0).val) lanes (k0_pay77 lanes (k0_pay71 sc) (k0_pay73 k0_pay63 gp up) (Scalar.muli (BitVec.ofNat 32 (i 0).val) 4#32)) (k0_pay79 k0_pay63 (k0_pay70 gp up))
/-- The block output's running sum after a point, from that before it. -/
def YH (x10 : Vec F S256x896 .i8) (x11 : Vec F S256x896 .f32) (yh : Vec F S256x896 .f32) (ah : Vec F S256x256 .bf16) : Vec F S256x896 .f32 := k0_pay2 (k0_pay66 x10 x11) yh ah

/-! ## Reading and owning whole buffers -/

/-- A load of a whole buffer reads its contents. -/
theorem readAt_whole {sp : Space} {s : Shape} {e : EltTy} {v : View sig .tc sp s e} {f : v.ty.Contents (Elt F)} {x : s.Idx → Elt F e}
    (hf : v.read (Elt F) f = x) {off : Fin s.rank → ℕ} (h : off = fun _ => 0) (inb : ∀ a, off a + s.size a ≤ s.size a) :
    v.readAt (Elt F) (Rect.unit off s.size inb).toLoadRect f = x :=
  (View.ld_unit_zero h inb (v.read (Elt F) f)).trans hf

/-- A load of part of a buffer reads that part of its contents. -/
theorem readAt_part {sp : Space} {s : Shape} {e : EltTy} {v : View sig .tc sp s e} {f : v.ty.Contents (Elt F)} {x : s.Idx → Elt F e}
    (hf : v.read (Elt F) f = x) (r : Rect s) : v.readAt (Elt F) r.toLoadRect f = View.ld x r := by
  subst hf; rfl

/-- A load of a whole buffer that earlier stores cover reads what they left. -/
theorem readCov_whole {sp : Space} {s : Shape} {e : EltTy} (v : View sig .tc sp s e) (L : List (View.Piece (Elt F) s e))
    (hc : ∀ y, ∃ p ∈ L, y ∈ p.1.set) {off : Fin s.rank → ℕ} (h : off = fun _ => 0) (inb : ∀ a, off a + s.size a ≤ s.size a) :
    v.readCov L (Rect.unit off s.size inb).toLoadRect = View.canon L :=
  (View.readCov_eq_canon_ld v L _ hc).trans (View.ld_unit_zero h inb _)

/-- A buffer stored whole last reads what was stored. -/
theorem readWrites_whole {sp : Space} {s : Shape} {e : EltTy} (v : View sig .tc sp s e) (f : v.ty.Contents (Elt F)) {off : Fin s.rank → ℕ}
    (h : off = fun _ => 0) (inb : ∀ a, off a + s.size a ≤ s.size a) (y : s.Idx → Elt F e) (L : List (View.Piece (Elt F) s e)) :
    v.read (Elt F) (v.writes (Elt F) f (⟨Rect.unit off s.size inb, y⟩ :: L)) = y :=
  View.read_writes_full v f inb y L

/-- A buffer that reads `x` is owned at `x`. -/
theorem owns_of_read (c : Dev nD) {sp : Space} {s : Shape} {e : EltTy} (a : Memref sig .tc sp s e) (f : a.view.ty.Contents (Elt F)) (x : s.Idx → Elt F e)
    (h : a.view.read (Elt F) f = x) :
    (a.view.loc (c : Thread nD τ) ↦[a.view.set]{fullShare} f : sProp 𝕄) ⊢ owns (c : Thread nD τ) a fullShare x := by
  unfold owns; iintro H; iexists f; isplitr
  · ipureintro; exact h
  · iexact H

end Cert.KernelIdeal.Gen
-- ==== Proof.KernelIdeal.FwdRunA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.FwdVals

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S1x896 .f32) (harg4 : arg4.IsWhole) (arg5 : Memref sig .tc .vmem S896x256 .i8) (harg5 : arg5.IsWhole) (arg6 : Memref sig .tc .vmem S896x256 .f32) (harg6 : arg6.IsWhole) (arg7 : Memref sig .tc .vmem S1x256 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S256x896 .i8) (harg11 : arg11.IsWhole) (arg12 : Memref sig .tc .vmem S256x896 .f32) (harg12 : arg12.IsWhole) (arg13 : Memref sig .tc .vmem S256x1 .f32) (harg13 : arg13.IsWhole) (arg14 : Memref sig .tc .vmem S256x896 .i8) (harg14 : arg14.IsWhole) (arg15 : Memref sig .tc .vmem S256x14 .f32) (harg15 : arg15.IsWhole) (arg16 : Memref sig .tc .vmem S256x256 .i8) (harg16 : arg16.IsWhole) (arg17 : Memref sig .tc .vmem S256x128 .f32) (harg17 : arg17.IsWhole) (arg18 : Memref sig .tc .vmem S256x896 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .bf16) (harg21 : arg21.IsWhole) (arg22 : Memref sig .tc .vmem S256x896 .bf16) (harg22 : arg22.IsWhole) (arg23 : Memref sig .tc .vmem S256x896 .bf16) (harg23 : arg23.IsWhole) (arg24 : Memref sig .tc .vmem S256x896 .f32) (harg24 : arg24.IsWhole)
variable (x0 : Vec F S256x896 .bf16) (x1 : Vec F S256x896 .bf16) (x2 : Vec F S256x896 .bf16) (x3 : Vec F S1x896 .f32) (x4 : Vec F S896x256 .i8) (x5 : Vec F S896x256 .f32) (x6 : Vec F S1x256 .f32) (x7 : Vec F S896x256 .i8) (x8 : Vec F S896x256 .f32) (x9 : Vec F S1x256 .f32) (x10 : Vec F S256x896 .i8) (x11 : Vec F S256x896 .f32)

set_option maxHeartbeats 8000000 in
/-- The forward body at the first point: the tokens quantised, the sums started. Every buffer in, every buffer out at its named contents, and `P` whatever these give. -/
theorem run_A (c : Dev nD) (i : grid0.Coords) (hc0 : k0_cond1 i = 1#1) (hc1 : ¬k0_cond2 i = 1#1)
    (o12 : Vec F S256x1 .f32) (o21 : Vec F S256x896 .bf16) (o22 : Vec F S256x896 .bf16) (E : Set ℕ) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ owns (c : Thread nD τ) arg14 fullShare (XQ x0) ∗ owns (c : Thread nD τ) arg15 fullShare (XS x0) ∗ owns (c : Thread nD τ) arg16 fullShare (AQ (GP x4 x5 x6 (XH x0)) (UP x7 x8 x9 (XH x0))) ∗ owns (c : Thread nD τ) arg17 fullShare (SC i k0_pay62 (GP x4 x5 x6 (XH x0)) (UP x7 x8 x9 (XH x0))) ∗ owns (c : Thread nD τ) arg18 fullShare (XH x0) ∗ owns (c : Thread nD τ) arg19 fullShare (GP x4 x5 x6 (XH x0)) ∗ owns (c : Thread nD τ) arg20 fullShare (UP x7 x8 x9 (XH x0)) ∗ owns (c : Thread nD τ) arg21 fullShare (AH (GP x4 x5 x6 (XH x0)) (UP x7 x8 x9 (XH x0))) ∗ owns (c : Thread nD τ) arg22 fullShare o21 ∗ owns (c : Thread nD τ) arg23 fullShare o22 ∗ owns (c : Thread nD τ) arg24 fullShare (YH x10 x11 k0_pay61 (AH (GP x4 x5 x6 (XH x0)) (UP x7 x8 x9 (XH x0))))) ⊢ P) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare o21 ∗ owns (c : Thread nD τ) arg23 fullShare o22 ∗ (∃ d, owns (c : Thread nD τ) arg24 fullShare d)
        ∗ (P -∗ K ⟨⟩))
      ⊢ wp frame (wpE (defs₀ (F := F)) Variants.none c none) E (cc0_brecq_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz : (![0, 0] : Fin 2 → ℕ) = fun _ => 0 := by decide
  simp only [cc0_brecq_fwd_eq_skeleton]; unfold cc0_brecq_fwd_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%d23, %f23, -, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg22.eq_unread hf21; obtain rfl := harg23.eq_unread hf22
  sl_exec (disch := first | sl_exact hc0 | sl_exact hc1)
  sl_step
  iapply Hk
  iapply hP
  isplitl [H0]
  · iapply owns_of_read c arg1 _ _ hf0; iexact H0
  isplitl [H1]
  · iapply owns_of_read c arg2 _ _ hf1; iexact H1
  isplitl [H2]
  · iapply owns_of_read c arg3 _ _ hf2; iexact H2
  isplitl [H3]
  · iapply owns_of_read c arg4 _ _ hf3; iexact H3
  isplitl [H4]
  · iapply owns_of_read c arg5 _ _ hf4; iexact H4
  isplitl [H5]
  · iapply owns_of_read c arg6 _ _ hf5; iexact H5
  isplitl [H6]
  · iapply owns_of_read c arg7 _ _ hf6; iexact H6
  isplitl [H7]
  · iapply owns_of_read c arg8 _ _ hf7; iexact H7
  isplitl [H8]
  · iapply owns_of_read c arg9 _ _ hf8; iexact H8
  isplitl [H9]
  · iapply owns_of_read c arg10 _ _ hf9; iexact H9
  isplitl [H10]
  · iapply owns_of_read c arg11 _ _ hf10; iexact H10
  isplitl [H11]
  · iapply owns_of_read c arg12 _ _ hf11; iexact H11
  isplitl [H12]
  · iapply owns_of_read c arg13 _ _ hf12; iexact H12
  isplitl [H13]
  · iapply owns_of_read c arg14 _ _ ?h13
    all_goals try iexact H13
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v13).trans ?w13; case v13 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rfl
  isplitl [H14]
  · iapply owns_of_read c arg15 _ _ ?h14
    all_goals try iexact H14
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rfl
  isplitl [H15]
  · iapply owns_of_read c arg16 _ _ ?h15
    all_goals try iexact H15
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v15).trans ?w15; case v15 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1815 hz]; case carg1815 => exact View.cover_of_tiledL _ S256x128.size (by sl_kernel_rfl)
    rfl
  isplitl [H16]
  · iapply owns_of_read c arg17 _ _ ?h16
    all_goals try iexact H16
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1816 hz]; case carg1816 => exact View.cover_of_tiledL _ S256x128.size (by sl_kernel_rfl)
    rw [readCov_whole arg17.view _ ?carg1716 hz]; case carg1716 => exact View.cover_of_tiledL _ S256x128.size (by sl_kernel_rfl)
    rw [View.canon_unit_zero hz]
    rfl
  isplitl [H17]
  · iapply owns_of_read c arg18 _ _ ?h17
    all_goals try iexact H17
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v17).trans ?w17; case v17 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rfl
  isplitl [H18]
  · iapply owns_of_read c arg19 _ _ ?h18
    all_goals try iexact H18
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1818 hz]; case carg1818 => exact View.cover_of_tiledL _ S256x128.size (by sl_kernel_rfl)
    rfl
  isplitl [H19]
  · iapply owns_of_read c arg20 _ _ ?h19
    all_goals try iexact H19
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1819 hz]; case carg1819 => exact View.cover_of_tiledL _ S256x128.size (by sl_kernel_rfl)
    rfl
  isplitl [H20]
  · iapply owns_of_read c arg21 _ _ ?h20
    all_goals try iexact H20
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (View.read_writes_eq_canon (Val := Elt F) _ _ _ ?v20).trans ?w20; case v20 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg18.view _ ?carg1820 hz]; case carg1820 => exact View.cover_of_tiledL _ S256x128.size (by sl_kernel_rfl)
    rfl
  isplitl [H21]
  · iapply owns_of_read c arg22 _ _ hf21; iexact H21
  isplitl [H22]
  · iapply owns_of_read c arg23 _ _ hf22; iexact H22
  · iapply owns_of_read c arg24 _ _ ?h23
    all_goals try iexact H23
    repeat delta run_A.sl.H16_1 run_A.sl.H17_7 run_A.sl.H20_2 run_A.sl.H23_1 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_21 run_A.sl.r_22 run_A.sl.r_23 run_A.sl.r_24 run_A.sl.r_25 run_A.sl.r_26 run_A.sl.r_27 run_A.sl.r_28 run_A.sl.r_29 run_A.sl.r_3 run_A.sl.r_30 run_A.sl.r_31 run_A.sl.r_32 run_A.sl.r_4 run_A.sl.r_5 run_A.sl.r_6 run_A.sl.r_7 run_A.sl.r_8 run_A.sl.r_9 run_A.sl.v0 run_A.sl.v112 run_A.sl.v176 run_A.sl.v177 run_A.sl.v60 run_A.sl.v77
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz]
    simp only [readAt_part hf0]
    rw [readCov_whole arg24.view _ ?carg2423 hz]; case carg2423 => exact View.cover_of_tiledL _ S256x896.size (by sl_kernel_rfl)
    rw [View.canon_unit_zero hz]
    rw [readCov_whole arg18.view _ ?carg1823 hz]; case carg1823 => exact View.cover_of_tiledL _ S256x128.size (by sl_kernel_rfl)
    rw [readCov_whole arg21.view _ ?carg2123 hz]; case carg2123 => exact View.cover_of_tiledL _ S256x128.size (by sl_kernel_rfl)
    rfl

end Cert.KernelIdeal.Gen
-- ==== Proof.KernelIdeal.FwdRunB.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.FwdVals

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S1x896 .f32) (harg4 : arg4.IsWhole) (arg5 : Memref sig .tc .vmem S896x256 .i8) (harg5 : arg5.IsWhole) (arg6 : Memref sig .tc .vmem S896x256 .f32) (harg6 : arg6.IsWhole) (arg7 : Memref sig .tc .vmem S1x256 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S256x896 .i8) (harg11 : arg11.IsWhole) (arg12 : Memref sig .tc .vmem S256x896 .f32) (harg12 : arg12.IsWhole) (arg13 : Memref sig .tc .vmem S256x1 .f32) (harg13 : arg13.IsWhole) (arg14 : Memref sig .tc .vmem S256x896 .i8) (harg14 : arg14.IsWhole) (arg15 : Memref sig .tc .vmem S256x14 .f32) (harg15 : arg15.IsWhole) (arg16 : Memref sig .tc .vmem S256x256 .i8) (harg16 : arg16.IsWhole) (arg17 : Memref sig .tc .vmem S256x128 .f32) (harg17 : arg17.IsWhole) (arg18 : Memref sig .tc .vmem S256x896 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .bf16) (harg21 : arg21.IsWhole) (arg22 : Memref sig .tc .vmem S256x896 .bf16) (harg22 : arg22.IsWhole) (arg23 : Memref sig .tc .vmem S256x896 .bf16) (harg23 : arg23.IsWhole) (arg24 : Memref sig .tc .vmem S256x896 .f32) (harg24 : arg24.IsWhole)
variable (x0 : Vec F S256x896 .bf16) (x1 : Vec F S256x896 .bf16) (x2 : Vec F S256x896 .bf16) (x3 : Vec F S1x896 .f32) (x4 : Vec F S896x256 .i8) (x5 : Vec F S896x256 .f32) (x6 : Vec F S1x256 .f32) (x7 : Vec F S896x256 .i8) (x8 : Vec F S896x256 .f32) (x9 : Vec F S1x256 .f32) (x10 : Vec F S256x896 .i8) (x11 : Vec F S256x896 .f32)

set_option maxHeartbeats 8000000 in
/-- The forward body at a middle point. Every buffer in, every buffer out at its named contents, and `P` whatever these give. -/
theorem run_B (c : Dev nD) (i : grid0.Coords) (hc0 : ¬k0_cond1 i = 1#1) (hc1 : ¬k0_cond2 i = 1#1)
    (o12 : Vec F S256x1 .f32) (xq : Vec F S256x896 .i8) (xs : Vec F S256x14 .f32) (sc : Vec F S256x128 .f32) (xh : Vec F S256x896 .bf16) (o21 : Vec F S256x896 .bf16) (o22 : Vec F S256x896 .bf16) (yh : Vec F S256x896 .f32) (E : Set ℕ) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ owns (c : Thread nD τ) arg14 fullShare xq ∗ owns (c : Thread nD τ) arg15 fullShare xs ∗ owns (c : Thread nD τ) arg16 fullShare (AQ (GP x4 x5 x6 xh) (UP x7 x8 x9 xh)) ∗ owns (c : Thread nD τ) arg17 fullShare (SC i sc (GP x4 x5 x6 xh) (UP x7 x8 x9 xh)) ∗ owns (c : Thread nD τ) arg18 fullShare xh ∗ owns (c : Thread nD τ) arg19 fullShare (GP x4 x5 x6 xh) ∗ owns (c : Thread nD τ) arg20 fullShare (UP x7 x8 x9 xh) ∗ owns (c : Thread nD τ) arg21 fullShare (AH (GP x4 x5 x6 xh) (UP x7 x8 x9 xh)) ∗ owns (c : Thread nD τ) arg22 fullShare o21 ∗ owns (c : Thread nD τ) arg23 fullShare o22 ∗ owns (c : Thread nD τ) arg24 fullShare (YH x10 x11 yh (AH (GP x4 x5 x6 xh) (UP x7 x8 x9 xh)))) ⊢ P) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare o12 ∗ owns (c : Thread nD τ) arg14 fullShare xq ∗ owns (c : Thread nD τ) arg15 fullShare xs ∗ (∃ d, owns (c : Thread nD τ) arg16 fullShare d) ∗ owns (c : Thread nD τ) arg17 fullShare sc ∗ owns (c : Thread nD τ) arg18 fullShare xh ∗ (∃ d, owns (c : Thread nD τ) arg19 fullShare d) ∗ (∃ d, owns (c : Thread nD τ) arg20 fullShare d) ∗ (∃ d, owns (c : Thread nD τ) arg21 fullShare d) ∗ owns (c : Thread nD τ) arg22 fullShare o21 ∗ owns (c : Thread nD τ) arg23 fullShare o22 ∗ owns (c : Thread nD τ) arg24 fullShare yh
        ∗ (P -∗ K ⟨⟩))
      ⊢ wp frame (wpE (defs₀ (F := F)) Variants.none c none) E (cc0_brecq_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz : (![0, 0] : Fin 2 → ℕ) = fun _ => 0 := by decide
  simp only [cc0_brecq_fwd_eq_skeleton]; unfold cc0_brecq_fwd_skel
  simp only [k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%f21, %hf21, H21⟩, ⟨%f22, %hf22, H22⟩, ⟨%f23, %hf23, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hf17; obtain rfl := harg22.eq_unread hf21; obtain rfl := harg23.eq_unread hf22; obtain rfl := harg24.eq_unread hf23
  sl_exec (disch := first | sl_exact hc0 | sl_exact hc1)
  sl_step
  iapply Hk
  iapply hP
  isplitl [H0]
  · iapply owns_of_read c arg1 _ _ hf0; iexact H0
  isplitl [H1]
  · iapply owns_of_read c arg2 _ _ hf1; iexact H1
  isplitl [H2]
  · iapply owns_of_read c arg3 _ _ hf2; iexact H2
  isplitl [H3]
  · iapply owns_of_read c arg4 _ _ hf3; iexact H3
  isplitl [H4]
  · iapply owns_of_read c arg5 _ _ hf4; iexact H4
  isplitl [H5]
  · iapply owns_of_read c arg6 _ _ hf5; iexact H5
  isplitl [H6]
  · iapply owns_of_read c arg7 _ _ hf6; iexact H6
  isplitl [H7]
  · iapply owns_of_read c arg8 _ _ hf7; iexact H7
  isplitl [H8]
  · iapply owns_of_read c arg9 _ _ hf8; iexact H8
  isplitl [H9]
  · iapply owns_of_read c arg10 _ _ hf9; iexact H9
  isplitl [H10]
  · iapply owns_of_read c arg11 _ _ hf10; iexact H10
  isplitl [H11]
  · iapply owns_of_read c arg12 _ _ hf11; iexact H11
  isplitl [H12]
  · iapply owns_of_read c arg13 _ _ hf12; iexact H12
  isplitl [H13]
  · iapply owns_of_read c arg14 _ _ hf13; iexact H13
  isplitl [H14]
  · iapply owns_of_read c arg15 _ _ hf14; iexact H14
  isplitl [H15]
  · iapply owns_of_read c arg16 _ _ ?h15
    all_goals try iexact H15
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (View.read_writes_eq_canon (Val := Elt F) _ _ _ ?v15).trans ?w15; case v15 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H16]
  · iapply owns_of_read c arg17 _ _ ?h16
    all_goals try iexact H16
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H17]
  · iapply owns_of_read c arg18 _ _ hf17; iexact H17
  isplitl [H18]
  · iapply owns_of_read c arg19 _ _ ?h18
    all_goals try iexact H18
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H19]
  · iapply owns_of_read c arg20 _ _ ?h19
    all_goals try iexact H19
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H20]
  · iapply owns_of_read c arg21 _ _ ?h20
    all_goals try iexact H20
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (View.read_writes_eq_canon (Val := Elt F) _ _ _ ?v20).trans ?w20; case v20 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rfl
  isplitl [H21]
  · iapply owns_of_read c arg22 _ _ hf21; iexact H21
  isplitl [H22]
  · iapply owns_of_read c arg23 _ _ hf22; iexact H22
  · iapply owns_of_read c arg24 _ _ ?h23
    all_goals try iexact H23
    repeat delta run_B.sl.H20_2 run_B.sl.r run_B.sl.r_1 run_B.sl.r_10 run_B.sl.r_2 run_B.sl.r_3 run_B.sl.r_4 run_B.sl.r_5 run_B.sl.r_6 run_B.sl.r_7 run_B.sl.r_8 run_B.sl.r_9 run_B.sl.v0 run_B.sl.v112 run_B.sl.v177
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf16 hz, readAt_whole hf17 hz, readAt_whole hf23 hz]
    rw [readCov_whole arg21.view _ ?carg2123 hz]; case carg2123 => exact View.cover_of_tiledL _ S256x128.size (by sl_kernel_rfl)
    rfl

end Cert.KernelIdeal.Gen
-- ==== Proof.KernelIdeal.FwdRunC.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.FwdVals

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S1x896 .f32) (harg4 : arg4.IsWhole) (arg5 : Memref sig .tc .vmem S896x256 .i8) (harg5 : arg5.IsWhole) (arg6 : Memref sig .tc .vmem S896x256 .f32) (harg6 : arg6.IsWhole) (arg7 : Memref sig .tc .vmem S1x256 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S256x896 .i8) (harg11 : arg11.IsWhole) (arg12 : Memref sig .tc .vmem S256x896 .f32) (harg12 : arg12.IsWhole) (arg13 : Memref sig .tc .vmem S256x1 .f32) (harg13 : arg13.IsWhole) (arg14 : Memref sig .tc .vmem S256x896 .i8) (harg14 : arg14.IsWhole) (arg15 : Memref sig .tc .vmem S256x14 .f32) (harg15 : arg15.IsWhole) (arg16 : Memref sig .tc .vmem S256x256 .i8) (harg16 : arg16.IsWhole) (arg17 : Memref sig .tc .vmem S256x128 .f32) (harg17 : arg17.IsWhole) (arg18 : Memref sig .tc .vmem S256x896 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .bf16) (harg21 : arg21.IsWhole) (arg22 : Memref sig .tc .vmem S256x896 .bf16) (harg22 : arg22.IsWhole) (arg23 : Memref sig .tc .vmem S256x896 .bf16) (harg23 : arg23.IsWhole) (arg24 : Memref sig .tc .vmem S256x896 .f32) (harg24 : arg24.IsWhole)
variable (x0 : Vec F S256x896 .bf16) (x1 : Vec F S256x896 .bf16) (x2 : Vec F S256x896 .bf16) (x3 : Vec F S1x896 .f32) (x4 : Vec F S896x256 .i8) (x5 : Vec F S896x256 .f32) (x6 : Vec F S1x256 .f32) (x7 : Vec F S896x256 .i8) (x8 : Vec F S896x256 .f32) (x9 : Vec F S1x256 .f32) (x10 : Vec F S256x896 .i8) (x11 : Vec F S256x896 .f32)

set_option maxHeartbeats 8000000 in
/-- The forward body at the last point: the loss and its gradient stored. Every buffer in, every buffer out at its named contents, and `P` whatever these give. -/
theorem run_C (c : Dev nD) (i : grid0.Coords) (hc0 : ¬k0_cond1 i = 1#1) (hc1 : k0_cond2 i = 1#1)
    (xq : Vec F S256x896 .i8) (xs : Vec F S256x14 .f32) (sc : Vec F S256x128 .f32) (xh : Vec F S256x896 .bf16) (yh : Vec F S256x896 .f32) (E : Set ℕ) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k0_pay5 (YH x10 x11 yh (AH (GP x4 x5 x6 xh) (UP x7 x8 x9 xh))) x3 x1 x2) ∗ owns (c : Thread nD τ) arg14 fullShare xq ∗ owns (c : Thread nD τ) arg15 fullShare xs ∗ owns (c : Thread nD τ) arg16 fullShare (AQ (GP x4 x5 x6 xh) (UP x7 x8 x9 xh)) ∗ owns (c : Thread nD τ) arg17 fullShare (SC i sc (GP x4 x5 x6 xh) (UP x7 x8 x9 xh)) ∗ owns (c : Thread nD τ) arg18 fullShare xh ∗ owns (c : Thread nD τ) arg19 fullShare (GP x4 x5 x6 xh) ∗ owns (c : Thread nD τ) arg20 fullShare (UP x7 x8 x9 xh) ∗ owns (c : Thread nD τ) arg21 fullShare (AH (GP x4 x5 x6 xh) (UP x7 x8 x9 xh)) ∗ owns (c : Thread nD τ) arg22 fullShare (k0_pay7 (YH x10 x11 yh (AH (GP x4 x5 x6 xh) (UP x7 x8 x9 xh))) x3 x1 x2) ∗ owns (c : Thread nD τ) arg23 fullShare (k0_pay8 (YH x10 x11 yh (AH (GP x4 x5 x6 xh) (UP x7 x8 x9 xh))) x3 x1 x2 x3) ∗ owns (c : Thread nD τ) arg24 fullShare (YH x10 x11 yh (AH (GP x4 x5 x6 xh) (UP x7 x8 x9 xh)))) ⊢ P) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xq ∗ owns (c : Thread nD τ) arg15 fullShare xs ∗ (∃ d, owns (c : Thread nD τ) arg16 fullShare d) ∗ owns (c : Thread nD τ) arg17 fullShare sc ∗ owns (c : Thread nD τ) arg18 fullShare xh ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare yh
        ∗ (P -∗ K ⟨⟩))
      ⊢ wp frame (wpE (defs₀ (F := F)) Variants.none c none) E (cc0_brecq_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz : (![0, 0] : Fin 2 → ℕ) = fun _ => 0 := by decide
  simp only [cc0_brecq_fwd_eq_skeleton]; unfold cc0_brecq_fwd_skel
  simp only [k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg17.eq_unread hf16; obtain rfl := harg18.eq_unread hf17; obtain rfl := harg24.eq_unread hf23
  sl_exec (disch := first | sl_exact hc0 | sl_exact hc1)
  sl_step
  iapply Hk
  iapply hP
  isplitl [H0]
  · iapply owns_of_read c arg1 _ _ hf0; iexact H0
  isplitl [H1]
  · iapply owns_of_read c arg2 _ _ hf1; iexact H1
  isplitl [H2]
  · iapply owns_of_read c arg3 _ _ hf2; iexact H2
  isplitl [H3]
  · iapply owns_of_read c arg4 _ _ hf3; iexact H3
  isplitl [H4]
  · iapply owns_of_read c arg5 _ _ hf4; iexact H4
  isplitl [H5]
  · iapply owns_of_read c arg6 _ _ hf5; iexact H5
  isplitl [H6]
  · iapply owns_of_read c arg7 _ _ hf6; iexact H6
  isplitl [H7]
  · iapply owns_of_read c arg8 _ _ hf7; iexact H7
  isplitl [H8]
  · iapply owns_of_read c arg9 _ _ hf8; iexact H8
  isplitl [H9]
  · iapply owns_of_read c arg10 _ _ hf9; iexact H9
  isplitl [H10]
  · iapply owns_of_read c arg11 _ _ hf10; iexact H10
  isplitl [H11]
  · iapply owns_of_read c arg12 _ _ hf11; iexact H11
  isplitl [H12]
  · iapply owns_of_read c arg13 _ _ ?h12
    all_goals try iexact H12
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg24.view _ ?carg2412 hz]; case carg2412 => exact View.cover_of_tiledL _ S256x896.size (by sl_kernel_rfl)
    rw [View.canon_unit_zero hz]
    rw [readCov_whole arg21.view _ ?carg2112 hz]; case carg2112 => exact View.cover_of_tiledL _ S256x128.size (by sl_kernel_rfl)
    rfl
  isplitl [H13]
  · iapply owns_of_read c arg14 _ _ hf13; iexact H13
  isplitl [H14]
  · iapply owns_of_read c arg15 _ _ hf14; iexact H14
  isplitl [H15]
  · iapply owns_of_read c arg16 _ _ ?h15
    all_goals try iexact H15
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (View.read_writes_eq_canon (Val := Elt F) _ _ _ ?v15).trans ?w15; case v15 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H16]
  · iapply owns_of_read c arg17 _ _ ?h16
    all_goals try iexact H16
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H17]
  · iapply owns_of_read c arg18 _ _ hf17; iexact H17
  isplitl [H18]
  · iapply owns_of_read c arg19 _ _ ?h18
    all_goals try iexact H18
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H19]
  · iapply owns_of_read c arg20 _ _ ?h19
    all_goals try iexact H19
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H20]
  · iapply owns_of_read c arg21 _ _ ?h20
    all_goals try iexact H20
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (View.read_writes_eq_canon (Val := Elt F) _ _ _ ?v20).trans ?w20; case v20 => exact View.cover_of_tiledL _ S256x128.size (by sl_kernel_rfl)
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rfl
  isplitl [H21]
  · iapply owns_of_read c arg22 _ _ ?h21
    all_goals try iexact H21
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg24.view _ ?carg2421 hz]; case carg2421 => exact View.cover_of_tiledL _ S256x896.size (by sl_kernel_rfl)
    rw [View.canon_unit_zero hz]
    rw [readCov_whole arg21.view _ ?carg2121 hz]; case carg2121 => exact View.cover_of_tiledL _ S256x128.size (by sl_kernel_rfl)
    rfl
  isplitl [H22]
  · iapply owns_of_read c arg23 _ _ ?h22
    all_goals try iexact H22
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg24.view _ ?carg2422 hz]; case carg2422 => exact View.cover_of_tiledL _ S256x896.size (by sl_kernel_rfl)
    rw [View.canon_unit_zero hz]
    rw [readCov_whole arg21.view _ ?carg2122 hz]; case carg2122 => exact View.cover_of_tiledL _ S256x128.size (by sl_kernel_rfl)
    rfl
  · iapply owns_of_read c arg24 _ _ ?h23
    all_goals try iexact H23
    repeat delta run_C.sl.H20_2 run_C.sl.H23_1 run_C.sl.r run_C.sl.r_1 run_C.sl.r_10 run_C.sl.r_2 run_C.sl.r_3 run_C.sl.r_4 run_C.sl.r_5 run_C.sl.r_6 run_C.sl.r_7 run_C.sl.r_8 run_C.sl.r_9 run_C.sl.v0 run_C.sl.v112 run_C.sl.v177 run_C.sl.v187
    refine (readWrites_whole _ _ hz _ _ _).trans ?_
    simp only [readAt_whole hf4 hz, readAt_whole hf5 hz, readAt_whole hf6 hz, readAt_whole hf7 hz, readAt_whole hf8 hz, readAt_whole hf9 hz, readAt_whole hf10 hz, readAt_whole hf11 hz, readAt_whole hf1 hz, readAt_whole hf2 hz, readAt_whole hf3 hz, readAt_whole hf16 hz, readAt_whole hf17 hz, readAt_whole hf23 hz]
    rw [readCov_whole arg21.view _ ?carg2123 hz]; case carg2123 => exact View.cover_of_tiledL _ S256x128.size (by sl_kernel_rfl)
    rfl

end Cert.KernelIdeal.Gen
-- ==== Proof.KernelIdeal.FwdDat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.FwdRunA
public import proofs.«01_k».proof.Proof.KernelIdeal.FwdRunB
public import proofs.«01_k».proof.Proof.KernelIdeal.FwdRunC
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameSuffix
public import Idealize.ShloMosaic.Lib.Ring
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The forward kernel's pipeline: its blocks, what it carries from point to point, its proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first branch is taken at the first point only. -/
theorem hcond0_0 : ∀ t : Fin cfg0.N, k0_cond1 (grid0.coords t) = 1#1 ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [k0_cond1, e0]
    word_cmp
   : ∀ t : Fin grid0.N, k0_cond1 (grid0.coords t) = 1#1 ↔ t.val % 19 = 0)

/-- The second branch is taken at the last point only. -/
theorem hcond0_1 : ∀ t : Fin cfg0.N, k0_cond2 (grid0.coords t) = 1#1 ↔ t.val % 19 = 18 :=
  (fun t => by
    have ht : t.val < 19 := Nat.lt_of_lt_of_eq t.isLt N_0
    have e0 : (grid0.coords t 0).val = t.val / 1 % 19 := Pipeline.Grid.coords_val t 0 (by decide) rfl
    simp only [k0_cond2, e0]
    word_cmp
   : ∀ t : Fin grid0.N, k0_cond2 (grid0.coords t) = 1#1 ↔ t.val % 19 = 18)

/-- The first and the last point. -/
abbrev pt0 : Fin cfg0.N := ⟨0, by rw [show cfg0.N = 19 from N_0]; decide⟩
abbrev ptL : Fin cfg0.N := ⟨18, by rw [show cfg0.N = 19 from N_0]; decide⟩

/-! ## What the kernel computes, point by point -/

/-- The quantised tokens: codes, scales, dequantised. -/
def fXQ (c : Dev nD) : Vec F S256x896 .i8 := XQ (iblk0 V c 0 pt0)
def fXS (c : Dev nD) : Vec F S256x14 .f32 := XS (iblk0 V c 0 pt0)
def fXH (c : Dev nD) : Vec F S256x896 .bf16 := XH (iblk0 V c 0 pt0)
/-- The two projections of the tile of point `t`. -/
def fGP (c : Dev nD) (t : Fin cfg0.N) : Vec F S256x256 .f32 := GP (iblk0 V c 4 t) (iblk0 V c 5 t) (iblk0 V c 6 t) (fXH V c)
def fUP (c : Dev nD) (t : Fin cfg0.N) : Vec F S256x256 .f32 := UP (iblk0 V c 7 t) (iblk0 V c 8 t) (iblk0 V c 9 t) (fXH V c)
/-- The quantised activation of the tile of point `t`. -/
def fAQ (c : Dev nD) (t : Fin cfg0.N) : Vec F S256x256 .i8 := AQ (fGP V c t) (fUP V c t)
def fAH (c : Dev nD) (t : Fin cfg0.N) : Vec F S256x256 .bf16 := AH (fGP V c t) (fUP V c t)
/-- The activation scales after point `n`. -/
def fSC (c : Dev nD) : (n : ℕ) → n < cfg0.N → Vec F S256x128 .f32
  | 0, h => SC (grid0.coords ⟨0, h⟩) k0_pay62 (fGP V c ⟨0, h⟩) (fUP V c ⟨0, h⟩)
  | n + 1, h => SC (grid0.coords ⟨n + 1, h⟩) (fSC c n (Nat.lt_of_succ_lt h)) (fGP V c ⟨n + 1, h⟩) (fUP V c ⟨n + 1, h⟩)
/-- The block output's running sum after point `n`. -/
def fYH (c : Dev nD) : (n : ℕ) → n < cfg0.N → Vec F S256x896 .f32
  | 0, h => YH (iblk0 V c 10 ⟨0, h⟩) (iblk0 V c 11 ⟨0, h⟩) k0_pay61 (fAH V c ⟨0, h⟩)
  | n + 1, h => YH (iblk0 V c 10 ⟨n + 1, h⟩) (iblk0 V c 11 ⟨n + 1, h⟩) (fYH c n (Nat.lt_of_succ_lt h)) (fAH V c ⟨n + 1, h⟩)
/-- The loss and its gradient, of the last running sum. -/
def fLO (c : Dev nD) (t : Fin cfg0.N) : Vec F S256x1 .f32 := k0_pay5 (fYH V c t.val t.isLt) (iblk0 V c 3 t) (iblk0 V c 1 t) (iblk0 V c 2 t)
def fDY (c : Dev nD) (t : Fin cfg0.N) : Vec F S256x896 .bf16 := k0_pay7 (fYH V c t.val t.isLt) (iblk0 V c 3 t) (iblk0 V c 1 t) (iblk0 V c 2 t)
def fDS (c : Dev nD) (t : Fin cfg0.N) : Vec F S256x896 .bf16 := k0_pay8 (fYH V c t.val t.isLt) (iblk0 V c 3 t) (iblk0 V c 1 t) (iblk0 V c 2 t) (iblk0 V c 3 t)

theorem fSC_pos (c : Dev nD) (t : Fin cfg0.N) (ht : t.val ≠ 0) :
    fSC V c t.val t.isLt = SC (grid0.coords t) (fSC V c (t.val - 1) (Nat.lt_of_le_of_lt (Nat.sub_le _ _) t.isLt)) (fGP V c t) (fUP V c t) := by
  obtain ⟨n, hn⟩ := t; cases n with
  | zero => exact absurd rfl ht
  | succ n => rfl
theorem fYH_pos (c : Dev nD) (t : Fin cfg0.N) (ht : t.val ≠ 0) :
    fYH V c t.val t.isLt = YH (iblk0 V c 10 t) (iblk0 V c 11 t) (fYH V c (t.val - 1) (Nat.lt_of_le_of_lt (Nat.sub_le _ _) t.isLt)) (fAH V c t) := by
  obtain ⟨n, hn⟩ := t; cases n with
  | zero => exact absurd rfl ht
  | succ n => rfl
theorem fSC_zero (c : Dev nD) (t : Fin cfg0.N) (ht : t.val = 0) :
    fSC V c t.val t.isLt = SC (grid0.coords t) k0_pay62 (fGP V c t) (fUP V c t) := by
  obtain ⟨n, hn⟩ := t; subst ht; rfl
theorem fYH_zero (c : Dev nD) (t : Fin cfg0.N) (ht : t.val = 0) :
    fYH V c t.val t.isLt = YH (iblk0 V c 10 t) (iblk0 V c 11 t) k0_pay61 (fAH V c t) := by
  obtain ⟨n, hn⟩ := t; subst ht; rfl

/-! ## The invariant: the scratch buffer holds the running sum -/

/-- The running sum's scratch buffer. -/
abbrev scM0_0 : Memref sig .tc .vmem S256x896 .f32 := Memref.whole cc0_scratch0

theorem PhiA0_eq (c : Dev nD) : (Pipeline.ΦA spec0 c : sProp 𝕄) = iprop(((∃ d, owns (c : Thread nD τ) scM0_0 fullShare d) ∗ Pipeline.scopedRestBut spec0 c [cc0_scratch0]) ∗ (∃ r, prngReg c r)) := by
  unfold Pipeline.ΦA; rw [scopedRest0_split]; simp only [scM0_0, owns_whole]; try rfl

def PhiS (c : Dev nD) : (n : ℕ) → n ≤ cfg0.N → sProp 𝕄
  | 0, _ => Pipeline.ΦA spec0 c
  | n + 1, hn => iprop(owns (c : Thread nD τ) scM0_0 fullShare (fYH V c n hn) ∗ Pipeline.scopedRestBut spec0 c [cc0_scratch0] ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop(owns (c : Thread nD τ) scM0_0 fullShare (fYH V c (n - 1) (by omega)) ∗ Pipeline.scopedRestBut spec0 c [cc0_scratch0] ∗ (∃ r, prngReg c r)) := by
  cases n with
  | zero => exact absurd rfl hz
  | succ n => rfl

/-! ## The proof data -/

/-- Arrays as the region finds them; inputs left in place; every output at its contents after point `t`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => fLO V c t
    | ⟨13, _⟩ => fXQ V c
    | ⟨14, _⟩ => fXS V c
    | ⟨15, _⟩ => fAQ V c t
    | ⟨16, _⟩ => fSC V c t.val t.isLt
    | ⟨17, _⟩ => fXH V c
    | ⟨18, _⟩ => fGP V c t
    | ⟨19, _⟩ => fUP V c t
    | ⟨20, _⟩ => fAH V c t
    | ⟨21, _⟩ => fDY V c t
    | ⟨22, _⟩ => fDS V c t
    | ⟨_ + 23, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) : (dat0 V c).Φ t.castSucc = PhiS V c t.val (Nat.le_of_lt t.isLt) := by
  dsimp only [dat0]; exact Pipeline.Dat.Φ_castSucc (PhiS V c) t

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = fLO V c t := by dsimp only [dat0]
theorem after0_13 (c : Dev nD) (t : Fin cfg0.N) : (dat0 V c).after 13 t = fXQ V c := by dsimp only [dat0]
theorem after0_14 (c : Dev nD) (t : Fin cfg0.N) : (dat0 V c).after 14 t = fXS V c := by dsimp only [dat0]
theorem after0_15 (c : Dev nD) (t : Fin cfg0.N) : (dat0 V c).after 15 t = fAQ V c t := by dsimp only [dat0]
theorem after0_16 (c : Dev nD) (t : Fin cfg0.N) : (dat0 V c).after 16 t = fSC V c t.val t.isLt := by dsimp only [dat0]
theorem after0_17 (c : Dev nD) (t : Fin cfg0.N) : (dat0 V c).after 17 t = fXH V c := by dsimp only [dat0]
theorem after0_18 (c : Dev nD) (t : Fin cfg0.N) : (dat0 V c).after 18 t = fGP V c t := by dsimp only [dat0]
theorem after0_19 (c : Dev nD) (t : Fin cfg0.N) : (dat0 V c).after 19 t = fUP V c t := by dsimp only [dat0]
theorem after0_20 (c : Dev nD) (t : Fin cfg0.N) : (dat0 V c).after 20 t = fAH V c t := by dsimp only [dat0]
theorem after0_21 (c : Dev nD) (t : Fin cfg0.N) : (dat0 V c).after 21 t = fDY V c t := by dsimp only [dat0]
theorem after0_22 (c : Dev nD) (t : Fin cfg0.N) : (dat0 V c).after 22 t = fDS V c t := by dsimp only [dat0]

/-- Each input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)

/-- The scales' buffer holds, after the first point, what the point before left. -/
theorem before0_16 (c : Dev nD) (t : Fin cfg0.N) (ht : t.val ≠ 0) (d) :
    (dat0 V c).before 16 t d = fSC V c (t.val - 1) (Nat.lt_of_le_of_lt (Nat.sub_le _ _) t.isLt) := by
  have hN : t.val < 19 := lt_of_lt_of_eq t.isLt (show cfg0.N = 19 from N_0)
  rw [Dat.before_out_kept _ 16 rfl t ht (Bool.eq_false_iff.mpr fun h => by have := (flush0_16 _).mp h; dsimp only at this; omega)
    (fun _ => rfl) (fun _ _ => rfl)]
  dsimp only [dat0]

/-! ## Where the outputs stored at one point only are idle -/

theorem idle0_12 : ∀ t : Fin cfg0.N, ¬k0_cond2 (grid0.coords t) = 1#1 → cfg0.idle 12 (grid0.coords t) = true := by decide +kernel
theorem live0_12 : ∀ t : Fin cfg0.N, k0_cond2 (grid0.coords t) = 1#1 → cfg0.idle 12 (grid0.coords t) = false := by decide +kernel
theorem noFlush0_12 (t : Fin cfg0.N) (h1 : ¬t.val % 19 = 18) : (cfg0.win 12).flush t = false :=
  Bool.eq_false_iff.mpr fun h => h1 ((flush0_12 t).mp h)
theorem idle0_21 : ∀ t : Fin cfg0.N, ¬k0_cond2 (grid0.coords t) = 1#1 → cfg0.idle 21 (grid0.coords t) = true := by decide +kernel
theorem live0_21 : ∀ t : Fin cfg0.N, k0_cond2 (grid0.coords t) = 1#1 → cfg0.idle 21 (grid0.coords t) = false := by decide +kernel
theorem noFlush0_21 (t : Fin cfg0.N) (h1 : ¬t.val % 19 = 18) : (cfg0.win 21).flush t = false :=
  Bool.eq_false_iff.mpr fun h => h1 ((flush0_21 t).mp h)
theorem idle0_22 : ∀ t : Fin cfg0.N, ¬k0_cond2 (grid0.coords t) = 1#1 → cfg0.idle 22 (grid0.coords t) = true := by decide +kernel
theorem live0_22 : ∀ t : Fin cfg0.N, k0_cond2 (grid0.coords t) = 1#1 → cfg0.idle 22 (grid0.coords t) = false := by decide +kernel
theorem noFlush0_22 (t : Fin cfg0.N) (h1 : ¬t.val % 19 = 18) : (cfg0.win 22).flush t = false :=
  Bool.eq_false_iff.mpr fun h => h1 ((flush0_22 t).mp h)
theorem idle0_13 : ∀ t : Fin cfg0.N, ¬k0_cond1 (grid0.coords t) = 1#1 → cfg0.idle 13 (grid0.coords t) = true := by decide +kernel
theorem live0_13 : ∀ t : Fin cfg0.N, k0_cond1 (grid0.coords t) = 1#1 → cfg0.idle 13 (grid0.coords t) = false := by decide +kernel
theorem noFlush0_13 (t : Fin cfg0.N) (h1 : ¬t.val % 19 = 18) : (cfg0.win 13).flush t = false :=
  Bool.eq_false_iff.mpr fun h => h1 ((flush0_13 t).mp h)
/-- After the first point it holds what the first point stored. -/
theorem before0_13 (c : Dev nD) : ∀ (n : ℕ) (hn : n + 1 < cfg0.N) (d), (dat0 V c).before 13 ⟨n + 1, hn⟩ d = fXQ V c
  | 0, hn, d => by
    rw [Dat.before_of_pos _ 13 ⟨1, hn⟩ (by dsimp only; omega) rfl d]
    rw [noFlush0_13 _ (by dsimp only; omega), if_neg Bool.false_ne_true]
    unfold Dat.left; rw [live0_13 _ ((hcond0_0 _).mpr (by dsimp only))]
    dsimp only
    unfold Dat.kept
    rw [Pipeline.fill_of_clip_none 13 _ (fun _ => rfl) d ((dat0 V c).after 13 _), Window.fill_cut, after0_13]
  | n + 1, hn, d => by
    have hN : n + 2 < 19 := lt_of_lt_of_eq hn (show cfg0.N = 19 from N_0)
    rw [Dat.before_of_pos _ 13 ⟨n + 2, hn⟩ (by dsimp only; omega) rfl d]
    rw [noFlush0_13 _ (by dsimp only; omega), if_neg Bool.false_ne_true]
    unfold Dat.left; rw [idle0_13 _ (fun h => by have := (hcond0_0 _).mp h; dsimp only at this; omega)]
    exact before0_13 c n (Nat.lt_of_succ_lt hn) d
theorem idle0_14 : ∀ t : Fin cfg0.N, ¬k0_cond1 (grid0.coords t) = 1#1 → cfg0.idle 14 (grid0.coords t) = true := by decide +kernel
theorem live0_14 : ∀ t : Fin cfg0.N, k0_cond1 (grid0.coords t) = 1#1 → cfg0.idle 14 (grid0.coords t) = false := by decide +kernel
theorem noFlush0_14 (t : Fin cfg0.N) (h1 : ¬t.val % 19 = 18) : (cfg0.win 14).flush t = false :=
  Bool.eq_false_iff.mpr fun h => h1 ((flush0_14 t).mp h)
/-- After the first point it holds what the first point stored. -/
theorem before0_14 (c : Dev nD) : ∀ (n : ℕ) (hn : n + 1 < cfg0.N) (d), (dat0 V c).before 14 ⟨n + 1, hn⟩ d = fXS V c
  | 0, hn, d => by
    rw [Dat.before_of_pos _ 14 ⟨1, hn⟩ (by dsimp only; omega) rfl d]
    rw [noFlush0_14 _ (by dsimp only; omega), if_neg Bool.false_ne_true]
    unfold Dat.left; rw [live0_14 _ ((hcond0_0 _).mpr (by dsimp only))]
    dsimp only
    unfold Dat.kept
    rw [Pipeline.fill_of_clip_none 14 _ (fun _ => rfl) d ((dat0 V c).after 14 _), Window.fill_cut, after0_14]
  | n + 1, hn, d => by
    have hN : n + 2 < 19 := lt_of_lt_of_eq hn (show cfg0.N = 19 from N_0)
    rw [Dat.before_of_pos _ 14 ⟨n + 2, hn⟩ (by dsimp only; omega) rfl d]
    rw [noFlush0_14 _ (by dsimp only; omega), if_neg Bool.false_ne_true]
    unfold Dat.left; rw [idle0_14 _ (fun h => by have := (hcond0_0 _).mp h; dsimp only at this; omega)]
    exact before0_14 c n (Nat.lt_of_succ_lt hn) d
theorem idle0_17 : ∀ t : Fin cfg0.N, ¬k0_cond1 (grid0.coords t) = 1#1 → cfg0.idle 17 (grid0.coords t) = true := by decide +kernel
theorem live0_17 : ∀ t : Fin cfg0.N, k0_cond1 (grid0.coords t) = 1#1 → cfg0.idle 17 (grid0.coords t) = false := by decide +kernel
theorem noFlush0_17 (t : Fin cfg0.N) (h1 : ¬t.val % 19 = 18) : (cfg0.win 17).flush t = false :=
  Bool.eq_false_iff.mpr fun h => h1 ((flush0_17 t).mp h)
/-- After the first point it holds what the first point stored. -/
theorem before0_17 (c : Dev nD) : ∀ (n : ℕ) (hn : n + 1 < cfg0.N) (d), (dat0 V c).before 17 ⟨n + 1, hn⟩ d = fXH V c
  | 0, hn, d => by
    rw [Dat.before_of_pos _ 17 ⟨1, hn⟩ (by dsimp only; omega) rfl d]
    rw [noFlush0_17 _ (by dsimp only; omega), if_neg Bool.false_ne_true]
    unfold Dat.left; rw [live0_17 _ ((hcond0_0 _).mpr (by dsimp only))]
    dsimp only
    unfold Dat.kept
    rw [Pipeline.fill_of_clip_none 17 _ (fun _ => rfl) d ((dat0 V c).after 17 _), Window.fill_cut, after0_17]
  | n + 1, hn, d => by
    have hN : n + 2 < 19 := lt_of_lt_of_eq hn (show cfg0.N = 19 from N_0)
    rw [Dat.before_of_pos _ 17 ⟨n + 2, hn⟩ (by dsimp only; omega) rfl d]
    rw [noFlush0_17 _ (by dsimp only; omega), if_neg Bool.false_ne_true]
    unfold Dat.left; rw [idle0_17 _ (fun h => by have := (hcond0_0 _).mp h; dsimp only at this; omega)]
    exact before0_17 c n (Nat.lt_of_succ_lt hn) d

end Cert.KernelIdeal.Gen
-- ==== Proof.KernelIdeal.Quant.lean ====
/- The kernel's quantiser of one 128-lane slice: every slice is quantised by these two functions. -/
module

public import proofs.«01_k».proof.Proof.KernelIdeal.FwdVals

@[expose] public section

noncomputable section

namespace Cert.KernelIdeal.Gen

open Idealize.ShloMosaic Idealize.ShloMosaic.TcCoe

variable {F : FTy → Type} [FloatOps F]

/-- The scale of every element of a slice: that of its half's largest magnitude. -/
def qscale (v : FVec F S256x128 .f32) : FVec F S256x128 .f32 :=
  have a := absf v
  have z : FVec F S256x128 .f32 := broadcast S256x128 (Scalar.ofBits .f32 0x00000000#32)
  have lo : FVec F S256 .f32 := multiReduction .maximumf [1] S256 (select k0_pay63 a z) 0xFF800000#32 reduces_S256x128_S256 (.inl rfl) rfl
  have hi : FVec F S256 .f32 := multiReduction .maximumf [1] S256 (select k0_pay63 z a) 0xFF800000#32 reduces_S256x128_S256 (.inl rfl) rfl
  have lo' : FVec F S256x128 .f32 := broadcastTo S256x128 (shapeCast S256x1 (shapeCast S256x1 lo shapeCasts_S256_S256x1) shapeCasts_S256x1_S256x1) broadcasts_S256x1_S256x128
  have hi' : FVec F S256x128 .f32 := broadcastTo S256x128 (shapeCast S256x1 (shapeCast S256x1 hi shapeCasts_S256_S256x1) shapeCasts_S256x1_S256x1) broadcasts_S256x1_S256x128
  have m : FVec F S256x128 .f32 := select k0_pay63 lo' hi'
  select (cmpf .ogt m z) (divf m (broadcast S256x128 (Scalar.ofBits .f32 0x42FE0000#32))) (broadcast S256x128 (Scalar.ofBits .f32 0x3F800000#32))

/-- The code of every element of a slice, still a float. -/
def qcode (v : FVec F S256x128 .f32) : FVec F S256x128 .f32 :=
  minimumf (broadcast S256x128 (Scalar.ofBits .f32 0x42FE0000#32)) (maximumf (broadcast S256x128 (Scalar.ofBits .f32 0xC2FE0000#32)) (roundeven (divf v (qscale v))))

/-- The dequantised slice. -/
def qdeq (v : FVec F S256x128 .f32) : FVec F S256x128 .bf16 :=
  mulf (truncf .bf16 (qcode v) bitsLt_bf16_f32) (truncf .bf16 (qscale v) bitsLt_bf16_f32)

/-- The scale of the lower half of a slice, and of its upper half, on every lane. -/
def loScale (s : FVec F S256x128 .f32) : FVec F S256x128 .f32 :=
  broadcastTo S256x128 (shapeCast S256x1 (extractStridedSlice S256x1 ![0, 0] s slices_S256x128_o0_0_S256x1) shapeCasts_S256x1_S256x1) broadcasts_S256x1_S256x128
def hiScale (s : FVec F S256x128 .f32) : FVec F S256x128 .f32 :=
  broadcastTo S256x128 (shapeCast S256x1 (extractStridedSlice S256x1 ![0, 64] s slices_S256x128_o0_64_S256x1) shapeCasts_S256x1_S256x1) broadcasts_S256x1_S256x128

/-- Two scales of a slice `s` gathered into lanes `a` and `b` of `acc`. -/
def gather (a b : BitVec 32) (acc s : FVec F S256x128 .f32) : FVec F S256x128 .f32 :=
  select (cmpi .eq lanes (broadcast S256x128 b)) (hiScale s) (select (cmpi .eq lanes (broadcast S256x128 a)) (loScale s) acc)

/-- A slice of tokens as it is quantised. -/
def ext (v : Vec F S256x128 .bf16) : FVec F S256x128 .f32 := extf .f32 (shapeCast S256x128 v shapeCasts_S256x128_S256x128) bitsLt_bf16_f32

variable (x : Vec F S256x896 .bf16) (v : Vec F S256x128 .bf16)

/-! Every printed slice is this quantiser. -/

theorem XQ_eq : XQ x = View.canon [⟨Rect.unit (s := S256x896) ![0, 768] S256x128.size inb_S256x896_S256x128_0_768, fptosi 8 (qcode (ext (xsl6 x)))⟩,
    ⟨Rect.unit (s := S256x896) ![0, 640] S256x128.size inb_S256x896_S256x128_0_640, fptosi 8 (qcode (ext (xsl5 x)))⟩,
    ⟨Rect.unit (s := S256x896) ![0, 512] S256x128.size inb_S256x896_S256x128_0_512, fptosi 8 (qcode (ext (xsl4 x)))⟩,
    ⟨Rect.unit (s := S256x896) ![0, 384] S256x128.size inb_S256x896_S256x128_0_384, fptosi 8 (qcode (ext (xsl3 x)))⟩,
    ⟨Rect.unit (s := S256x896) ![0, 256] S256x128.size inb_S256x896_S256x128_0_256, fptosi 8 (qcode (ext (xsl2 x)))⟩,
    ⟨Rect.unit (s := S256x896) ![0, 128] S256x128.size inb_S256x896_S256x128_0_128, fptosi 8 (qcode (ext (xsl1 x)))⟩,
    ⟨Rect.unit (s := S256x896) ![0, 0] S256x128.size inb_S256x896_S256x128_0_0, fptosi 8 (qcode (ext (xsl0 x)))⟩] := rfl

theorem XH_eq : XH x = View.canon [⟨Rect.unit (s := S256x896) ![0, 768] S256x128.size inb_S256x896_S256x128_0_768, qdeq (ext (xsl6 x))⟩,
    ⟨Rect.unit (s := S256x896) ![0, 640] S256x128.size inb_S256x896_S256x128_0_640, qdeq (ext (xsl5 x))⟩,
    ⟨Rect.unit (s := S256x896) ![0, 512] S256x128.size inb_S256x896_S256x128_0_512, qdeq (ext (xsl4 x))⟩,
    ⟨Rect.unit (s := S256x896) ![0, 384] S256x128.size inb_S256x896_S256x128_0_384, qdeq (ext (xsl3 x))⟩,
    ⟨Rect.unit (s := S256x896) ![0, 256] S256x128.size inb_S256x896_S256x128_0_256, qdeq (ext (xsl2 x))⟩,
    ⟨Rect.unit (s := S256x896) ![0, 128] S256x128.size inb_S256x896_S256x128_0_128, qdeq (ext (xsl1 x))⟩,
    ⟨Rect.unit (s := S256x896) ![0, 0] S256x128.size inb_S256x896_S256x128_0_0, qdeq (ext (xsl0 x))⟩] := rfl

theorem xsc1_eq : xsc1 x = gather 0#32 1#32 k0_pay9 (qscale (ext (xsl0 x))) := rfl
theorem xsc2_eq : xsc2 x = gather 2#32 3#32 (xsc1 x) (qscale (ext (xsl1 x))) := rfl
theorem xsc3_eq : xsc3 x = gather 4#32 5#32 (xsc2 x) (qscale (ext (xsl2 x))) := rfl
theorem xsc4_eq : xsc4 x = gather 6#32 7#32 (xsc3 x) (qscale (ext (xsl3 x))) := rfl
theorem xsc5_eq : xsc5 x = gather 8#32 9#32 (xsc4 x) (qscale (ext (xsl4 x))) := rfl
theorem xsc6_eq : xsc6 x = gather 10#32 11#32 (xsc5 x) (qscale (ext (xsl5 x))) := rfl
theorem XS_eq : XS x = extractStridedSlice S256x14 ![0, 0] (gather 12#32 13#32 (xsc6 x) (qscale (ext (xsl6 x)))) slices_S256x128_o0_0_S256x14 := rfl

/-- The two slices of one tile's activation. -/
def asl0 (gp up : Vec F S256x256 .f32) : FVec F S256x128 .f32 := extractStridedSlice S256x128 ![0, 0] (k0_pay70 gp up) slices_S256x256_o0_0_S256x128
def asl1 (gp up : Vec F S256x256 .f32) : FVec F S256x128 .f32 := extractStridedSlice S256x128 ![0, 128] (k0_pay70 gp up) slices_S256x256_o0_128_S256x128

theorem AQ_eq (gp up : Vec F S256x256 .f32) : AQ gp up = View.canon [⟨Rect.unit (s := S256x256) ![0, 128] S256x128.size inb_S256x256_S256x128_0_128, fptosi 8 (qcode (asl1 gp up))⟩,
    ⟨Rect.unit (s := S256x256) ![0, 0] S256x128.size inb_S256x256_S256x128_0_0, fptosi 8 (qcode (asl0 gp up))⟩] := rfl
theorem AH_eq (gp up : Vec F S256x256 .f32) : AH gp up = View.canon [⟨Rect.unit (s := S256x256) ![0, 128] S256x128.size inb_S256x256_S256x128_0_128, qdeq (asl1 gp up)⟩,
    ⟨Rect.unit (s := S256x256) ![0, 0] S256x128.size inb_S256x256_S256x128_0_0, qdeq (asl0 gp up)⟩] := rfl

/-- The lane that the first scale of grid point `i` goes to. -/
def lane0 (i : grid0.Coords) : BitVec 32 := Scalar.muli (BitVec.ofNat 32 (i 0).val) 4#32

theorem SC_eq (i : grid0.Coords) (sc : Vec F S256x128 .f32) (gp up : Vec F S256x256 .f32) :
    SC i sc gp up = gather (Scalar.addi (lane0 i) 2#32) (Scalar.addi (Scalar.addi (lane0 i) 2#32) 1#32)
      (gather (Scalar.addi (lane0 i) 0#32) (Scalar.addi (Scalar.addi (lane0 i) 0#32) 1#32) (k0_pay71 sc) (qscale (asl0 gp up))) (qscale (asl1 gp up)) := rfl

end Cert.KernelIdeal.Gen
-- ==== Proof.Quantiser.lean ====
/- The group quantiser over the extended reals, and a lower bound of what rounding does to a code. -/
module

public import Idealize.ShloMosaic.Lib.Pointwise

@[expose] public section

noncomputable section

namespace Cert.Spec

open Idealize.ShloMosaic

/-- The bits of 127, −127 and −∞. -/
abbrev c127 : EReal := Ideal.ofBits .f32 1123942400#32
abbrev cm127 : EReal := Ideal.ofBits .f32 3271426048#32
abbrev cbot : EReal := Ideal.ofBits .f32 4286578688#32

theorem c127_eq : c127 = ((127 : ℝ) : EReal) := by
  simp [Ideal.ofBits, Ideal.ieee, -EReal.coe_mul]; norm_num
theorem cm127_eq : cm127 = ((-127 : ℝ) : EReal) := by
  simp [Ideal.ofBits, Ideal.ieee, -EReal.coe_mul]; norm_num
theorem cbot_eq : cbot = ⊥ := by
  simp [Ideal.ofBits, Ideal.ieee]

/-- The scale of a group whose largest magnitude is `a`. -/
def scl (a : EReal) : EReal := if 0 < a then Ideal.div a c127 else 1

/-- The code of `v` at scale `s`. -/
def cod (v s : EReal) : EReal := min c127 (max cm127 (Ideal.liftRound Ideal.roundHalfEven (Ideal.div v s)))

/-- The largest magnitude of a group of 64. -/
def gmax (f : Fin 64 → EReal) : EReal := Finset.fold max cbot (fun k => max (f k) (-f k)) Finset.univ

/-- Element `k` of the group of position `d`. -/
def grp {n : ℕ} (h : 64 ∣ n) (d : Fin n) (k : Fin 64) : Fin n := ⟨d.val / 64 * 64 + k.val, by
  have := d.isLt; have := k.isLt; obtain ⟨m, rfl⟩ := h; omega⟩

/-- The scale at position `d` of a row. -/
def gscale {n : ℕ} (h : 64 ∣ n) (x : Fin n → EReal) (d : Fin n) : EReal := scl (gmax fun k => x (grp h d k))
/-- The code at position `d` of a row, as a number. -/
def gcode {n : ℕ} (h : 64 ∣ n) (x : Fin n → EReal) (d : Fin n) : EReal := cod (x d) (gscale h x d)
/-- The dequantised row. -/
def gdeq {n : ℕ} (h : 64 ∣ n) (x : Fin n → EReal) (d : Fin n) : EReal := gcode h x d * gscale h x d

/-- The scale depends on the group only. -/
theorem gscale_part {n m : ℕ} (hn : 64 ∣ n) (hm : 64 ∣ m) (x : Fin n → EReal) (y : Fin m → EReal) (d : Fin n) (e : Fin m)
    (h : ∀ k, x (grp hn d k) = y (grp hm e k)) : gscale hn x d = gscale hm y e := by
  unfold gscale; congr 1; congr 1; funext k; exact h k

/-- A code read as an integer and back is the code. -/
theorem code_int (v s : EReal) : (((Ideal.fptosi 8 (cod v s)).toInt : ℝ) : EReal) = cod v s := by
  have key : ∀ n : ℤ, -127 ≤ n → n ≤ 127 → (((Ideal.fptosi 8 ((n : ℝ) : EReal)).toInt : ℝ) : EReal) = ((n : ℝ) : EReal) := by
    intro n h1 h2
    have e : Ideal.toIntClamped (-(2 ^ (8 - 1) : Nat)) ((2 ^ (8 - 1) : Nat) - 1) ((n : ℝ) : EReal) = n := by
      show max _ (min _ (if 0 ≤ (n : ℝ) then ⌊(n : ℝ)⌋ else ⌈(n : ℝ)⌉)) = n
      simp only [Int.floor_intCast, Int.ceil_intCast, ite_self]
      norm_num; omega
    unfold Ideal.fptosi
    rw [e, BitVec.toInt_ofInt]
    have hb : Int.bmod n (2 ^ 8) = n := by
      unfold Int.bmod; simp only []; split_ifs <;> omega
    rw [hb]
  unfold cod
  rw [c127_eq, cm127_eq]
  generalize Ideal.div v s = q
  induction q with
  | bot =>
    have : min ((127 : ℝ) : EReal) (max ((-127 : ℝ) : EReal) (Ideal.liftRound Ideal.roundHalfEven ⊥)) = (((-127 : ℤ) : ℝ) : EReal) := by
      simp only [Ideal.liftRound_bot, bot_le, sup_of_le_left]
      exact (min_eq_right (EReal.coe_le_coe_iff.2 (by norm_num))).trans (by norm_num)
    rw [this]; exact key _ (by omega) (by omega)
  | top =>
    have : min ((127 : ℝ) : EReal) (max ((-127 : ℝ) : EReal) (Ideal.liftRound Ideal.roundHalfEven ⊤)) = (((127 : ℤ) : ℝ) : EReal) := by
      simp
    rw [this]; exact key _ (by omega) (by omega)
  | coe r =>
    have : min ((127 : ℝ) : EReal) (max ((-127 : ℝ) : EReal) (Ideal.liftRound Ideal.roundHalfEven (r : EReal)))
        = (((min 127 (max (-127) (Ideal.roundHalfEven r)) : ℤ) : ℝ) : EReal) := by
      rw [Ideal.liftRound_coe]
      have mono : Monotone (fun r : ℝ => (r : EReal)) := fun a b h => EReal.coe_le_coe_iff.2 h
      push_cast
      exact ((mono.map_min (a := 127) (b := max (-127) _)).trans (congrArg _ (mono.map_max (a := -127)))).symm
    rw [this]; exact key _ (by omega) (by omega)

/-- A fold of `max` over 128 lanes whose other half is zero is that over the half: magnitudes are not negative. -/
theorem fold_lo (f : Fin 128 → EReal) (hf : ∀ x, 0 ≤ f x) :
    Finset.fold max cbot (fun x : Fin 128 => if x.val < 64 then f x else 0) Finset.univ
      = Finset.fold max cbot (fun k : Fin 64 => f ⟨k.val, by omega⟩) Finset.univ := by
  rw [cbot_eq]
  apply le_antisymm
  · refine Finset.fold_max_le _ |>.2 ⟨bot_le, fun x _ => ?_⟩
    split_ifs with h
    · exact Finset.le_fold_max _ |>.2 (.inr ⟨⟨x.val, h⟩, Finset.mem_univ _, le_rfl⟩)
    · exact Finset.le_fold_max _ |>.2 (.inr ⟨0, Finset.mem_univ _, hf _⟩)
  · refine Finset.fold_max_le _ |>.2 ⟨bot_le, fun k _ => ?_⟩
    exact Finset.le_fold_max _ |>.2 (.inr ⟨⟨k.val, by omega⟩, Finset.mem_univ _, by rw [if_pos k.isLt]⟩)

theorem fold_hi (f : Fin 128 → EReal) (hf : ∀ x, 0 ≤ f x) :
    Finset.fold max cbot (fun x : Fin 128 => if x.val < 64 then 0 else f x) Finset.univ
      = Finset.fold max cbot (fun k : Fin 64 => f ⟨64 + k.val, by omega⟩) Finset.univ := by
  rw [cbot_eq]
  apply le_antisymm
  · refine Finset.fold_max_le _ |>.2 ⟨bot_le, fun x _ => ?_⟩
    split_ifs with h
    · exact Finset.le_fold_max _ |>.2 (.inr ⟨0, Finset.mem_univ _, hf _⟩)
    · exact Finset.le_fold_max _ |>.2 (.inr ⟨⟨x.val - 64, by omega⟩, Finset.mem_univ _, le_of_eq (congrArg f (Fin.ext (by simp; omega)))⟩)
  · refine Finset.fold_max_le _ |>.2 ⟨bot_le, fun k _ => ?_⟩
    exact Finset.le_fold_max _ |>.2 (.inr ⟨⟨64 + k.val, by omega⟩, Finset.mem_univ _, by rw [if_neg (by simp)]⟩)

/-- A magnitude is not negative. -/
theorem abs_nonneg' (x : EReal) : 0 ≤ max x (-x) := by
  rcases le_total 0 x with h | h
  · exact le_max_of_le_left h
  · exact le_max_of_le_right (EReal.neg_nonneg.2 h)

end Cert.Spec
-- ==== Proof.Spec.lean ====
/- What the block computes, element by element, over the extended reals. -/
module

public import proofs.«01_k».proof.Proof.Quantiser

@[expose] public section

noncomputable section

namespace Cert.Spec

open Idealize.ShloMosaic

/-- The stretched gate of a weight's logit before clipping. -/
def hraw (v : EReal) : EReal := Ideal.logistic v * Ideal.ofBits .f32 1067030938#32 + Ideal.ofBits .f32 3184315597#32

/-- A weight's floor plus its clipped gate. -/
def pre (f : BitVec 8) (v : EReal) : EReal := FloatOps.sitofp (F := Ideal) .f32 f + min 1 (max 0 (hraw v))

/-- The soft weight. -/
def wt (f : BitVec 8) (v : EReal) : EReal := min (Ideal.ofBits .f32 1088421888#32) (max (Ideal.ofBits .f32 3238002688#32) (pre f v))

/-- The derivative of the soft weight by its logit. -/
def fac (f : BitVec 8) (v : EReal) : EReal :=
  Scalar.select
    (IntOp.andi (IntOp.andi (IntOp.andi
        (BitVec.ofBool (decide (Ideal.ofBits .f32 3238002688#32 ≤ pre f v)))
        (BitVec.ofBool (decide (pre f v ≤ Ideal.ofBits .f32 1088421888#32))))
        (BitVec.ofBool (decide (0 < hraw v))))
        (BitVec.ofBool (decide (hraw v < 1))))
    (Ideal.ofBits .f32 1067030938#32 * Ideal.logistic v * (1 - Ideal.logistic v)) 0

/-- The arguments, entry by entry. -/
structure In where
  x : Fin 256 → Fin 896 → EReal
  y : Fin 256 → Fin 896 → EReal
  g : Fin 256 → Fin 896 → EReal
  gf : Fin 896 → Fin 4864 → BitVec 8
  gs : Fin 4864 → EReal
  gv : Fin 896 → Fin 4864 → EReal
  uf : Fin 896 → Fin 4864 → BitVec 8
  us : Fin 4864 → EReal
  uv : Fin 896 → Fin 4864 → EReal
  df : Fin 4864 → Fin 896 → BitVec 8
  ds : Fin 896 → EReal
  dv : Fin 4864 → Fin 896 → EReal

theorem d896 : 64 ∣ 896 := by decide
theorem d4864 : 64 ∣ 4864 := by decide
theorem d128 : 64 ∣ 128 := by decide

namespace In
variable (I : In)

/-- The tokens' codes, and the tokens as they enter the products. -/
def XQ (r : Fin 256) (d : Fin 896) : BitVec 8 := Ideal.fptosi 8 (gcode d896 (I.x r) d)
def XH (r : Fin 256) (d : Fin 896) : EReal := gdeq d896 (I.x r) d
/-- The scale of group `k` of a token. -/
def XS (r : Fin 256) (k : Fin 14) : EReal := scl (gmax fun j => I.x r ⟨k.val * 64 + j.val, by omega⟩)

/-- The gate and the up projection. -/
def GP (r : Fin 256) (f : Fin 4864) : EReal := (∑ d, I.XH r d * wt (I.gf d f) (I.gv d f)) * I.gs f
def UP (r : Fin 256) (f : Fin 4864) : EReal := (∑ d, I.XH r d * wt (I.uf d f) (I.uv d f)) * I.us f
/-- The activation, its codes, its dequantised value and its scales. -/
def A (r : Fin 256) (f : Fin 4864) : EReal := I.GP r f * Ideal.logistic (I.GP r f) * I.UP r f
def AQ (r : Fin 256) (f : Fin 4864) : BitVec 8 := Ideal.fptosi 8 (gcode d4864 (I.A r) f)
def AH (r : Fin 256) (f : Fin 4864) : EReal := gdeq d4864 (I.A r) f
def AS (r : Fin 256) (k : Fin 76) : EReal := scl (gmax fun j => I.A r ⟨k.val * 64 + j.val, by omega⟩)
/-- The down projection before its scale. -/
def YH (r : Fin 256) (d : Fin 896) : EReal := ∑ f, I.AH r f * wt (I.df f d) (I.dv f d)
def err (r : Fin 256) (d : Fin 896) : EReal := I.YH r d * I.ds d - I.y r d
/-- The loss of a token. -/
def loss (r : Fin 256) : EReal := (∑ d, I.g r d * I.g r d * I.err r d * I.err r d) * Ideal.ofBits .f32 998244352#32
/-- The loss's derivative by the block's output, and by the down product. -/
def DY (r : Fin 256) (d : Fin 896) : EReal :=
  Ideal.ofBits .f32 1073741824#32 * (I.g r d * I.g r d * I.err r d) * Ideal.ofBits .f32 998244352#32
def DS (r : Fin 256) (d : Fin 896) : EReal := I.DY r d * I.ds d
/-- The derivative by the activation, by the gate and by the up projection. -/
def DA (r : Fin 256) (f : Fin 4864) : EReal := ∑ d, I.DS r d * wt (I.df f d) (I.dv f d)
def DG (r : Fin 256) (f : Fin 4864) : EReal :=
  I.DA r f * I.UP r f * Ideal.logistic (I.GP r f) * (1 + I.GP r f * (1 - Ideal.logistic (I.GP r f)))
def DU (r : Fin 256) (f : Fin 4864) : EReal := I.DA r f * (I.GP r f * Ideal.logistic (I.GP r f))
/-- The gradients of the three logit arrays. -/
def OG (d : Fin 896) (f : Fin 4864) : EReal := (I.gs f * ∑ r, I.XH r d * I.DG r f) * fac (I.gf d f) (I.gv d f)
def OU (d : Fin 896) (f : Fin 4864) : EReal := (I.us f * ∑ r, I.XH r d * I.DU r f) * fac (I.uf d f) (I.uv d f)
def OD (f : Fin 4864) (d : Fin 896) : EReal := (I.ds d * ∑ r, I.AH r f * I.DY r d) * fac (I.df f d) (I.dv f d)

/-- The scale at a position is its group's. -/
theorem gscale_x (r : Fin 256) (d : Fin 896) : gscale d896 (I.x r) d = I.XS r ⟨d.val / 64, by omega⟩ := rfl
theorem gscale_A (r : Fin 256) (f : Fin 4864) : gscale d4864 (I.A r) f = I.AS r ⟨f.val / 64, by omega⟩ := rfl

end In

end Cert.Spec
-- ==== Proof.KernelIdeal.QuantAt.lean ====
/- The kernel's quantiser, element by element. -/
module

public import proofs.«01_k».proof.Proof.KernelIdeal.Quant
public import proofs.«01_k».proof.Proof.Spec
public import Idealize.ShloMosaic.Lib.Pipeline.ValueKit

@[expose] public section

noncomputable section

namespace Cert.KernelIdeal.Gen

open Idealize.ShloMosaic Idealize.ShloMosaic.TcCoe Cert.Spec

/-- A choice by the half a lane lies in. -/
theorem sel_half (l : Fin 128) (a b : EReal) :
    Scalar.select (IntOp.cmpi .slt (BitVec.ofNat 32 l.val) 64#32) a b = if l.val < 64 then a else b := by
  have h : IntOp.cmpi .slt (BitVec.ofNat 32 l.val) 64#32 = BitVec.ofBool (decide (l.val < 64)) := by
    revert l; decide
  rw [h]; unfold Scalar.select
  by_cases hl : l.val < 64 <;> simp [hl]

/-- A choice by a lane's number. -/
theorem sel_lane (l : Fin 128) (k : ℕ) (hk : k < 128) (a b : EReal) :
    Scalar.select (IntOp.cmpi .eq (BitVec.ofNat 32 l.val) (BitVec.ofNat 32 k)) a b = if l.val = k then a else b := by
  have h : IntOp.cmpi .eq (BitVec.ofNat 32 l.val) (BitVec.ofNat 32 k) = BitVec.ofBool (decide (l.val = k)) := by
    unfold IntOp.cmpi
    congr 1
    have hl := l.isLt
    by_cases e : l.val = k
    · simp [e]
    · have : BitVec.ofNat 32 l.val ≠ BitVec.ofNat 32 k := fun he => e (by
        have := congrArg BitVec.toNat he
        simp only [BitVec.toNat_ofNat] at this
        omega)
      simp [e, this]
  rw [h]; unfold Scalar.select
  by_cases hl : l.val = k <;> simp [hl]

variable (v : FVec Ideal S256x128 .f32) (r : Fin 256)

/-- The scale of a lane is that of its half of the slice. -/
theorem qscale_at (l : Fin 128) : qscale v (ix2 r l) = gscale d128 (fun l => v (ix2 r l)) l := by
  pointwise [qscale, k0_pay63]
  have e0 := fold_lo (fun x => FloatOps.absf (v (ix2 r x))) (fun x => abs_nonneg' _)
  have e1 := fold_hi (fun x => FloatOps.absf (v (ix2 r x))) (fun x => abs_nonneg' _)
  simp only [sel_half]
  rw [e0, e1]
  show scl _ = scl _
  congr 1
  split_ifs with h
  · unfold gmax; congr 1; funext k
    have : grp d128 l k = ⟨k.val, by omega⟩ := Fin.ext (by simp only [grp]; omega)
    beta_reduce; rw [this]; rfl
  · unfold gmax; congr 1; funext k
    have : grp d128 l k = ⟨64 + k.val, by omega⟩ := Fin.ext (by simp only [grp]; omega)
    beta_reduce; rw [this]; rfl

/-- Its code. -/
theorem qcode_at (l : Fin 128) : qcode v (ix2 r l) = gcode d128 (fun l => v (ix2 r l)) l := by
  pointwise [qcode]
  rw [qscale_at]; rfl

/-- Its dequantised value. -/
theorem qdeq_at (l : Fin 128) : qdeq v (ix2 r l) = gdeq d128 (fun l => v (ix2 r l)) l := by
  pointwise [qdeq]
  rw [qscale_at, qcode_at]; rfl

section Tile
variable {o n : ℕ} (hn : 64 ∣ n) (ho : 64 ∣ o) (h : o + 128 ≤ n) (X : Fin n → EReal)
  (hv : ∀ l : Fin 128, v (ix2 r l) = X ⟨o + l.val, by omega⟩)
include ho hv

/-- A slice that starts at a group's first position has the row's scales, codes and dequantised values. -/
theorem qscale_tile (l : Fin 128) : qscale v (ix2 r l) = gscale hn X ⟨o + l.val, by omega⟩ := by
  rw [qscale_at]
  refine gscale_part _ _ _ _ _ _ fun k => ?_
  simp only [hv]
  congr 1
  apply Fin.ext
  obtain ⟨m, rfl⟩ := ho
  simp only [grp]; omega
theorem qcode_tile (l : Fin 128) : qcode v (ix2 r l) = gcode hn X ⟨o + l.val, by omega⟩ := by
  have := qscale_tile v r hn ho h X hv l
  rw [qcode_at]; rw [qscale_at] at this
  unfold gcode; rw [this]; beta_reduce; rw [hv]
theorem qdeq_tile (l : Fin 128) : qdeq v (ix2 r l) = gdeq hn X ⟨o + l.val, by omega⟩ := by
  have := qscale_tile v r hn ho h X hv l
  rw [qdeq_at]; rw [qscale_at] at this
  unfold gdeq gcode; rw [this]; beta_reduce; rw [hv]

/-- The same at the element of the row's array under an element of the slice. -/
theorem qdeq_piece (z : S256x128.Idx) (d : Fin n) (h0 : r.val = (z 0).val) (h1 : d.val = o + (z 1).val) : qdeq v z = gdeq hn X d := by
  have hz : z = ix2 r (⟨(z 1).val, (z 1).isLt⟩ : Fin 128) := by
    funext a; fin_cases a
    · exact Fin.ext h0.symm
    · rfl
  have hd : d = ⟨o + (z 1).val, by have := (z 1).isLt; change (z 1).val < 128 at this; omega⟩ := Fin.ext h1
  rw [hz, hd]; exact qdeq_tile v r hn ho h X hv _
theorem qint_piece (z : S256x128.Idx) (d : Fin n) (h0 : r.val = (z 0).val) (h1 : d.val = o + (z 1).val) :
    fptosi 8 (qcode v) z = Ideal.fptosi 8 (gcode hn X d) := by
  have hz : z = ix2 r (⟨(z 1).val, (z 1).isLt⟩ : Fin 128) := by
    funext a; fin_cases a
    · exact Fin.ext h0.symm
    · rfl
  have hd : d = ⟨o + (z 1).val, by have := (z 1).isLt; change (z 1).val < 128 at this; omega⟩ := Fin.ext h1
  show Ideal.fptosi 8 (qcode v z) = _
  rw [hz, hd]; exact congrArg _ (qcode_tile v r hn ho h X hv _)
end Tile

/-- Gathering a slice's two scales into lanes `a` and `b`. -/
theorem gather_at (a b : ℕ) (ha : a < 128) (hb : b < 128) (acc s : FVec Ideal S256x128 .f32) (l : Fin 128) :
    gather (BitVec.ofNat 32 a) (BitVec.ofNat 32 b) acc s (ix2 r l)
      = if l.val = b then s (ix2 r 64) else if l.val = a then s (ix2 r 0) else acc (ix2 r l) := by
  pointwise [gather, loScale, hiScale, lanes]
  rw [sel_lane l b hb, sel_lane l a ha]

/-- A tokens' slice at an element. -/
theorem ext_at (X : Vec Ideal S256x128 .bf16) (l : Fin 128) : ext X (ix2 r l) = X (ix2 r l) := by pointwise [ext]

variable (x : Vec Ideal S256x896 .bf16)
theorem xsl0_at (l : Fin 128) : ext (xsl0 x) (ix2 r l) = x (ix2 r ⟨0 + l.val, by omega⟩) := by
  pointwise [ext, xsl0]
theorem xsl1_at (l : Fin 128) : ext (xsl1 x) (ix2 r l) = x (ix2 r ⟨128 + l.val, by omega⟩) := by
  pointwise [ext, xsl1]
theorem xsl2_at (l : Fin 128) : ext (xsl2 x) (ix2 r l) = x (ix2 r ⟨256 + l.val, by omega⟩) := by
  pointwise [ext, xsl2]
theorem xsl3_at (l : Fin 128) : ext (xsl3 x) (ix2 r l) = x (ix2 r ⟨384 + l.val, by omega⟩) := by
  pointwise [ext, xsl3]
theorem xsl4_at (l : Fin 128) : ext (xsl4 x) (ix2 r l) = x (ix2 r ⟨512 + l.val, by omega⟩) := by
  pointwise [ext, xsl4]
theorem xsl5_at (l : Fin 128) : ext (xsl5 x) (ix2 r l) = x (ix2 r ⟨640 + l.val, by omega⟩) := by
  pointwise [ext, xsl5]
theorem xsl6_at (l : Fin 128) : ext (xsl6 x) (ix2 r l) = x (ix2 r ⟨768 + l.val, by omega⟩) := by
  pointwise [ext, xsl6]

/-- The dequantised tokens and their codes at an element: the 7 slices cover them. -/
theorem XH_at (d : Fin 896) : XH x (ix2 r d) = gdeq d896 (fun d => x (ix2 r d)) d := by
  rw [XH_eq]
  canon_tiles z h
  case piece6 => exact qdeq_piece (ext (xsl0 x)) r (o := 0) d896 (by omega) (by omega) (fun d => x (ix2 r d)) (xsl0_at r x) z d h0 (h1.trans (Nat.zero_add _).symm)
  case piece5 => exact qdeq_piece (ext (xsl1 x)) r (o := 128) d896 (by omega) (by omega) (fun d => x (ix2 r d)) (xsl1_at r x) z d h0 h1
  case piece4 => exact qdeq_piece (ext (xsl2 x)) r (o := 256) d896 (by omega) (by omega) (fun d => x (ix2 r d)) (xsl2_at r x) z d h0 h1
  case piece3 => exact qdeq_piece (ext (xsl3 x)) r (o := 384) d896 (by omega) (by omega) (fun d => x (ix2 r d)) (xsl3_at r x) z d h0 h1
  case piece2 => exact qdeq_piece (ext (xsl4 x)) r (o := 512) d896 (by omega) (by omega) (fun d => x (ix2 r d)) (xsl4_at r x) z d h0 h1
  case piece1 => exact qdeq_piece (ext (xsl5 x)) r (o := 640) d896 (by omega) (by omega) (fun d => x (ix2 r d)) (xsl5_at r x) z d h0 h1
  case piece0 => exact qdeq_piece (ext (xsl6 x)) r (o := 768) d896 (by omega) (by omega) (fun d => x (ix2 r d)) (xsl6_at r x) z d h0 h1
theorem XQ_at (d : Fin 896) : XQ x (ix2 r d) = Ideal.fptosi 8 (gcode d896 (fun d => x (ix2 r d)) d) := by
  rw [XQ_eq]
  canon_tiles z h
  case piece6 => exact qint_piece (ext (xsl0 x)) r (o := 0) d896 (by omega) (by omega) (fun d => x (ix2 r d)) (xsl0_at r x) z d h0 (h1.trans (Nat.zero_add _).symm)
  case piece5 => exact qint_piece (ext (xsl1 x)) r (o := 128) d896 (by omega) (by omega) (fun d => x (ix2 r d)) (xsl1_at r x) z d h0 h1
  case piece4 => exact qint_piece (ext (xsl2 x)) r (o := 256) d896 (by omega) (by omega) (fun d => x (ix2 r d)) (xsl2_at r x) z d h0 h1
  case piece3 => exact qint_piece (ext (xsl3 x)) r (o := 384) d896 (by omega) (by omega) (fun d => x (ix2 r d)) (xsl3_at r x) z d h0 h1
  case piece2 => exact qint_piece (ext (xsl4 x)) r (o := 512) d896 (by omega) (by omega) (fun d => x (ix2 r d)) (xsl4_at r x) z d h0 h1
  case piece1 => exact qint_piece (ext (xsl5 x)) r (o := 640) d896 (by omega) (by omega) (fun d => x (ix2 r d)) (xsl5_at r x) z d h0 h1
  case piece0 => exact qint_piece (ext (xsl6 x)) r (o := 768) d896 (by omega) (by omega) (fun d => x (ix2 r d)) (xsl6_at r x) z d h0 h1

/-- The tokens' scales at an element: each slice put its two into their lanes. -/
theorem XS_at (k : Fin 14) : XS x (ix2 r k) = gscale d896 (fun d => x (ix2 r d)) ⟨k.val * 64, by omega⟩ := by
  have q0 := qscale_tile _ r d896 (o := 0) (by decide) (by decide) (fun d => x (ix2 r d)) (xsl0_at r x)
  have q1 := qscale_tile _ r d896 (o := 128) (by decide) (by decide) (fun d => x (ix2 r d)) (xsl1_at r x)
  have q2 := qscale_tile _ r d896 (o := 256) (by decide) (by decide) (fun d => x (ix2 r d)) (xsl2_at r x)
  have q3 := qscale_tile _ r d896 (o := 384) (by decide) (by decide) (fun d => x (ix2 r d)) (xsl3_at r x)
  have q4 := qscale_tile _ r d896 (o := 512) (by decide) (by decide) (fun d => x (ix2 r d)) (xsl4_at r x)
  have q5 := qscale_tile _ r d896 (o := 640) (by decide) (by decide) (fun d => x (ix2 r d)) (xsl5_at r x)
  have q6 := qscale_tile _ r d896 (o := 768) (by decide) (by decide) (fun d => x (ix2 r d)) (xsl6_at r x)
  rw [XS_eq]
  have e : extractStridedSlice S256x14 ![0, 0] (gather 12#32 13#32 (xsc6 x) (qscale (ext (xsl6 x)))) slices_S256x128_o0_0_S256x14 (ix2 r k)
      = gather 12#32 13#32 (xsc6 x) (qscale (ext (xsl6 x))) (ix2 r ⟨k.val, by omega⟩) := by
    pointwise []
  rw [e, xsc6_eq, xsc5_eq, xsc4_eq, xsc3_eq, xsc2_eq, xsc1_eq]
  rw [gather_at r 12 13 (by decide) (by decide), gather_at r 10 11 (by decide) (by decide), gather_at r 8 9 (by decide) (by decide),
    gather_at r 6 7 (by decide) (by decide), gather_at r 4 5 (by decide) (by decide), gather_at r 2 3 (by decide) (by decide),
    gather_at r 0 1 (by decide) (by decide)]
  simp only [q0, q1, q2, q3, q4, q5, q6]
  obtain ⟨k, hk⟩ := k
  have : k = 0 ∨ k = 1 ∨ k = 2 ∨ k = 3 ∨ k = 4 ∨ k = 5 ∨ k = 6 ∨ k = 7 ∨ k = 8 ∨ k = 9 ∨ k = 10 ∨ k = 11 ∨ k = 12 ∨ k = 13 := by omega
  rcases this with h | h | h | h | h | h | h | h | h | h | h | h | h | h <;> subst h <;> rfl

section Tile2
variable (gp up : Vec Ideal S256x256 .f32)

/-- The activation of a tile, and its two slices. -/
def act (r : Fin 256) (f : Fin 256) : EReal := gp (ix2 r f) * Ideal.logistic (gp (ix2 r f)) * up (ix2 r f)
theorem asl0_at (l : Fin 128) : asl0 gp up (ix2 r l) = act gp up r ⟨0 + l.val, by omega⟩ := by
  pointwise [asl0, k0_pay70]; rfl
theorem asl1_at (l : Fin 128) : asl1 gp up (ix2 r l) = act gp up r ⟨128 + l.val, by omega⟩ := by
  pointwise [asl1, k0_pay70]; rfl

theorem d256 : 64 ∣ 256 := by decide

theorem AH_at (f : Fin 256) : AH gp up (ix2 r f) = gdeq d256 (act gp up r) f := by
  rw [AH_eq]
  canon_tiles z h
  case piece0 => exact qdeq_piece (asl1 gp up) r (o := 128) d256 (by omega) (by omega) (act gp up r) (asl1_at r gp up) z f h0 h1
  case piece1 => exact qdeq_piece (asl0 gp up) r (o := 0) d256 (by omega) (by omega) (act gp up r) (asl0_at r gp up) z f h0 (h1.trans (Nat.zero_add _).symm)
theorem AQ_at (f : Fin 256) : AQ gp up (ix2 r f) = Ideal.fptosi 8 (gcode d256 (act gp up r) f) := by
  rw [AQ_eq]
  canon_tiles z h
  case piece0 => exact qint_piece (asl1 gp up) r (o := 128) d256 (by omega) (by omega) (act gp up r) (asl1_at r gp up) z f h0 h1
  case piece1 => exact qint_piece (asl0 gp up) r (o := 0) d256 (by omega) (by omega) (act gp up r) (asl0_at r gp up) z f h0 (h1.trans (Nat.zero_add _).symm)

/-- The lanes that a grid point's four scales go to. -/
theorem lane_eq (i : grid0.Coords) (k : ℕ) (hk : k < 4) : Scalar.addi (lane0 i) (BitVec.ofNat 32 k) = BitVec.ofNat 32 ((i 0).val * 4 + k) := by
  have hi : (i 0).val < 19 := (i 0).isLt
  unfold lane0
  show BitVec.ofNat 32 (i 0).val * 4#32 + BitVec.ofNat 32 k = _
  apply BitVec.eq_of_toNat_eq
  simp only [BitVec.toNat_add, BitVec.toNat_mul, BitVec.toNat_ofNat]
  omega
theorem lane_succ (a : ℕ) : Scalar.addi (BitVec.ofNat 32 a) 1#32 = BitVec.ofNat 32 (a + 1) := by
  show BitVec.ofNat 32 a + 1#32 = _
  apply BitVec.eq_of_toNat_eq
  simp only [BitVec.toNat_add, BitVec.toNat_ofNat]
  omega

/-- The activation's scales after a grid point: its four lanes hold its tile's scales, the others are kept. -/
theorem SC_at (i : grid0.Coords) (sc : Vec Ideal S256x128 .f32) (l : Fin 128) :
    SC i sc gp up (ix2 r l) =
      if h : (i 0).val * 4 ≤ l.val ∧ l.val < (i 0).val * 4 + 4 then gscale d256 (act gp up r) ⟨(l.val - (i 0).val * 4) * 64, by omega⟩
      else sc (ix2 r l) := by
  have hi : (i 0).val < 19 := (i 0).isLt
  have q0 := qscale_tile _ r d256 (o := 0) (by decide) (by decide) (act gp up r) (asl0_at r gp up)
  have q1 := qscale_tile _ r d256 (o := 128) (by decide) (by decide) (act gp up r) (asl1_at r gp up)
  rw [SC_eq, lane_eq i 0 (by decide), lane_eq i 2 (by decide), lane_succ, lane_succ,
    gather_at r _ _ (by omega) (by omega), gather_at r _ _ (by omega) (by omega), q0, q0, q1, q1]
  have e : k0_pay71 sc (ix2 r l) = sc (ix2 r l) := by pointwise [k0_pay71]
  rw [e]
  split_ifs with h1 h2 h3 h4 <;> first | (exfalso; omega) | rfl | (congr 1; apply Fin.ext; simp; omega)
end Tile2

end Cert.KernelIdeal.Gen
-- ==== Proof.KernelIdeal.FwdAt.lean ====
/- The forward kernel's values, element by element. -/
module

public import proofs.«01_k».proof.Proof.KernelIdeal.FwdDat
public import proofs.«01_k».proof.Proof.KernelIdeal.QuantAt

@[expose] public section

noncomputable section

namespace Cert.KernelIdeal.Gen

open Idealize.ShloMosaic Idealize.ShloMosaic.TcCoe Cert.Spec
open Idealize.ShloMosaic.Pipeline (Dat Cfg Window)

variable (V : (c : Dev nD) → (b : Ref sig .tc) → Buf (Elt Ideal) ((c : Thread nD τ).loc b)) (c : Dev nD)

/-- The position in the whole axis of position `l` of tile `n`. -/
def pos (n : ℕ) (hn : n < 19) (l : Fin 256) : Fin 4864 := ⟨n * 256 + l.val, by omega⟩
def col (t : Fin cfg0.N) (l : Fin 256) : Fin 4864 := pos t.val (Nat.lt_of_lt_of_eq t.isLt N_0) l

/-! ## The blocks: whole arrays, and tiles of 256 columns or rows -/

theorem blk0_0 (t : Fin cfg0.N) : (iblk0 V c 0 t : Vec Ideal S256x896 .bf16) = V c main_v0 := by
  funext y
  show V c main_v0 (((cfg0.win 0).rect t).emb y) = _
  congr 1
  funext a
  exact Fin.ext (Pipeline.Window.rect_emb_val_of_index_zero (cfg0.win 0) t a (by fin_cases a <;> rfl) y)
theorem blk0_1 (t : Fin cfg0.N) : (iblk0 V c 1 t : Vec Ideal S256x896 .bf16) = V c main_v1 := by
  funext y
  show V c main_v1 (((cfg0.win 1).rect t).emb y) = _
  congr 1
  funext a
  exact Fin.ext (Pipeline.Window.rect_emb_val_of_index_zero (cfg0.win 1) t a (by fin_cases a <;> rfl) y)
theorem blk0_2 (t : Fin cfg0.N) : (iblk0 V c 2 t : Vec Ideal S256x896 .bf16) = V c main_v2 := by
  funext y
  show V c main_v2 (((cfg0.win 2).rect t).emb y) = _
  congr 1
  funext a
  exact Fin.ext (Pipeline.Window.rect_emb_val_of_index_zero (cfg0.win 2) t a (by fin_cases a <;> rfl) y)
theorem blk0_3 (t : Fin cfg0.N) : (iblk0 V c 3 t : Vec Ideal S1x896 .f32) = V c main_v5 := by
  funext y
  show V c main_v5 (((cfg0.win 3).rect t).emb y) = _
  congr 1
  funext a
  exact Fin.ext (Pipeline.Window.rect_emb_val_of_index_zero (cfg0.win 3) t a (by fin_cases a <;> rfl) y)
theorem ix0_4 : ∀ t : Fin cfg0.N, (cfg0.win 4).index t 1 = t.val := by decide +kernel
theorem blk0_4 (t : Fin cfg0.N) (d : Fin 896) (l : Fin 256) :
    (iblk0 V c 4 t : Vec Ideal S896x256 .i8) (ix2 d l) = (V c main_arg3 : Vec Ideal S896x4864 .i8) (ix2 d (col t l)) := by
  show V c main_arg3 (((cfg0.win 4).rect t).emb (ix2 d l)) = _
  congr 1
  funext a
  fin_cases a
  · exact Fin.ext (Pipeline.Window.rect_emb_val_of_index_zero (cfg0.win 4) t 0 rfl _)
  · exact Fin.ext ((Pipeline.Window.rect_emb_val (cfg0.win 4) t _ 1).trans (by rw [ix0_4]; rfl))
theorem ix0_5 : ∀ t : Fin cfg0.N, (cfg0.win 5).index t 1 = t.val := by decide +kernel
theorem blk0_5 (t : Fin cfg0.N) (d : Fin 896) (l : Fin 256) :
    (iblk0 V c 5 t : Vec Ideal S896x256 .f32) (ix2 d l) = (V c main_arg5 : Vec Ideal S896x4864 .f32) (ix2 d (col t l)) := by
  show V c main_arg5 (((cfg0.win 5).rect t).emb (ix2 d l)) = _
  congr 1
  funext a
  fin_cases a
  · exact Fin.ext (Pipeline.Window.rect_emb_val_of_index_zero (cfg0.win 5) t 0 rfl _)
  · exact Fin.ext ((Pipeline.Window.rect_emb_val (cfg0.win 5) t _ 1).trans (by rw [ix0_5]; rfl))
theorem ix0_6 : ∀ t : Fin cfg0.N, (cfg0.win 6).index t 1 = t.val := by decide +kernel
theorem blk0_6 (t : Fin cfg0.N) (d : Fin 1) (l : Fin 256) :
    (iblk0 V c 6 t : Vec Ideal S1x256 .f32) (ix2 d l) = (V c main_v3 : Vec Ideal S1x4864 .f32) (ix2 d (col t l)) := by
  show V c main_v3 (((cfg0.win 6).rect t).emb (ix2 d l)) = _
  congr 1
  funext a
  fin_cases a
  · exact Fin.ext (Pipeline.Window.rect_emb_val_of_index_zero (cfg0.win 6) t 0 rfl _)
  · exact Fin.ext ((Pipeline.Window.rect_emb_val (cfg0.win 6) t _ 1).trans (by rw [ix0_6]; rfl))
theorem ix0_7 : ∀ t : Fin cfg0.N, (cfg0.win 7).index t 1 = t.val := by decide +kernel
theorem blk0_7 (t : Fin cfg0.N) (d : Fin 896) (l : Fin 256) :
    (iblk0 V c 7 t : Vec Ideal S896x256 .i8) (ix2 d l) = (V c main_arg6 : Vec Ideal S896x4864 .i8) (ix2 d (col t l)) := by
  show V c main_arg6 (((cfg0.win 7).rect t).emb (ix2 d l)) = _
  congr 1
  funext a
  fin_cases a
  · exact Fin.ext (Pipeline.Window.rect_emb_val_of_index_zero (cfg0.win 7) t 0 rfl _)
  · exact Fin.ext ((Pipeline.Window.rect_emb_val (cfg0.win 7) t _ 1).trans (by rw [ix0_7]; rfl))
theorem ix0_8 : ∀ t : Fin cfg0.N, (cfg0.win 8).index t 1 = t.val := by decide +kernel
theorem blk0_8 (t : Fin cfg0.N) (d : Fin 896) (l : Fin 256) :
    (iblk0 V c 8 t : Vec Ideal S896x256 .f32) (ix2 d l) = (V c main_arg8 : Vec Ideal S896x4864 .f32) (ix2 d (col t l)) := by
  show V c main_arg8 (((cfg0.win 8).rect t).emb (ix2 d l)) = _
  congr 1
  funext a
  fin_cases a
  · exact Fin.ext (Pipeline.Window.rect_emb_val_of_index_zero (cfg0.win 8) t 0 rfl _)
  · exact Fin.ext ((Pipeline.Window.rect_emb_val (cfg0.win 8) t _ 1).trans (by rw [ix0_8]; rfl))
theorem ix0_9 : ∀ t : Fin cfg0.N, (cfg0.win 9).index t 1 = t.val := by decide +kernel
theorem blk0_9 (t : Fin cfg0.N) (d : Fin 1) (l : Fin 256) :
    (iblk0 V c 9 t : Vec Ideal S1x256 .f32) (ix2 d l) = (V c main_v4 : Vec Ideal S1x4864 .f32) (ix2 d (col t l)) := by
  show V c main_v4 (((cfg0.win 9).rect t).emb (ix2 d l)) = _
  congr 1
  funext a
  fin_cases a
  · exact Fin.ext (Pipeline.Window.rect_emb_val_of_index_zero (cfg0.win 9) t 0 rfl _)
  · exact Fin.ext ((Pipeline.Window.rect_emb_val (cfg0.win 9) t _ 1).trans (by rw [ix0_9]; rfl))
theorem ix0_10 : ∀ t : Fin cfg0.N, (cfg0.win 10).index t 0 = t.val := by decide +kernel
theorem blk0_10 (t : Fin cfg0.N) (d : Fin 256) (l : Fin 896) :
    (iblk0 V c 10 t : Vec Ideal S256x896 .i8) (ix2 d l) = (V c main_arg9 : Vec Ideal S4864x896 .i8) (ix2 (col t d) l) := by
  show V c main_arg9 (((cfg0.win 10).rect t).emb (ix2 d l)) = _
  congr 1
  funext a
  fin_cases a
  · exact Fin.ext ((Pipeline.Window.rect_emb_val (cfg0.win 10) t _ 0).trans (by rw [ix0_10]; rfl))
  · exact Fin.ext (Pipeline.Window.rect_emb_val_of_index_zero (cfg0.win 10) t 1 rfl _)
theorem ix0_11 : ∀ t : Fin cfg0.N, (cfg0.win 11).index t 0 = t.val := by decide +kernel
theorem blk0_11 (t : Fin cfg0.N) (d : Fin 256) (l : Fin 896) :
    (iblk0 V c 11 t : Vec Ideal S256x896 .f32) (ix2 d l) = (V c main_arg11 : Vec Ideal S4864x896 .f32) (ix2 (col t d) l) := by
  show V c main_arg11 (((cfg0.win 11).rect t).emb (ix2 d l)) = _
  congr 1
  funext a
  fin_cases a
  · exact Fin.ext ((Pipeline.Window.rect_emb_val (cfg0.win 11) t _ 0).trans (by rw [ix0_11]; rfl))
  · exact Fin.ext (Pipeline.Window.rect_emb_val_of_index_zero (cfg0.win 11) t 1 rfl _)

/-! ## The values -/

/-- The arrays that the forward kernel reads, as the specification's arguments. -/
def inV : In where
  x r d := (V c main_v0 : Vec Ideal S256x896 .bf16) (ix2 r d)
  y r d := (V c main_v1 : Vec Ideal S256x896 .bf16) (ix2 r d)
  g r d := (V c main_v2 : Vec Ideal S256x896 .bf16) (ix2 r d)
  gf d f := (V c main_arg3 : Vec Ideal S896x4864 .i8) (ix2 d f)
  gs f := (V c main_v3 : Vec Ideal S1x4864 .f32) (ix2 0 f)
  gv d f := (V c main_arg5 : Vec Ideal S896x4864 .f32) (ix2 d f)
  uf d f := (V c main_arg6 : Vec Ideal S896x4864 .i8) (ix2 d f)
  us f := (V c main_v4 : Vec Ideal S1x4864 .f32) (ix2 0 f)
  uv d f := (V c main_arg8 : Vec Ideal S896x4864 .f32) (ix2 d f)
  df f d := (V c main_arg9 : Vec Ideal S4864x896 .i8) (ix2 f d)
  ds d := (V c main_v5 : Vec Ideal S1x896 .f32) (ix2 0 d)
  dv f d := (V c main_arg11 : Vec Ideal S4864x896 .f32) (ix2 f d)

variable (r : Fin 256)

/-- The quantised tokens. -/
theorem fXH_at (d : Fin 896) : fXH V c (ix2 r d) = (inV V c).XH r d := by
  unfold fXH; rw [blk0_0]; exact XH_at r _ d
theorem fXQ_at (d : Fin 896) : fXQ V c (ix2 r d) = (inV V c).XQ r d := by
  unfold fXQ; rw [blk0_0]; exact XQ_at r _ d
theorem fXS_at (k : Fin 14) : fXS V c (ix2 r k) = (inV V c).XS r k := by
  unfold fXS; rw [blk0_0, XS_at, In.XS]
  show gscale d896 ((inV V c).x r) _ = _
  rw [In.gscale_x]
  have : (⟨(⟨k.val * 64, by omega⟩ : Fin 896).val / 64, by omega⟩ : Fin 14) = k := Fin.ext (by simp)
  rw [this]; rfl

/-- The projections of a tile. -/
theorem fGP_at (t : Fin cfg0.N) (l : Fin 256) : fGP V c t (ix2 r l) = (inV V c).GP r (col t l) := by
  unfold fGP
  pointwise [GP, k0_pay68, k0_pay64, k0_pay67]
  simp only [fXH_at]
  erw [blk0_6]
  refine congrArg (· * _) (Finset.sum_congr rfl fun x _ => ?_)
  erw [blk0_4, blk0_5]; rfl
theorem fUP_at (t : Fin cfg0.N) (l : Fin 256) : fUP V c t (ix2 r l) = (inV V c).UP r (col t l) := by
  unfold fUP
  pointwise [UP, k0_pay69, k0_pay65, k0_pay67]
  simp only [fXH_at]
  erw [blk0_9]
  refine congrArg (· * _) (Finset.sum_congr rfl fun x _ => ?_)
  erw [blk0_7, blk0_8]; rfl

/-- The activation of a tile. -/
theorem act_at (t : Fin cfg0.N) : act (fGP V c t) (fUP V c t) r = fun l => (inV V c).A r (col t l) := by
  funext l
  unfold act
  rw [fGP_at, fUP_at]; rfl

theorem ascale_at (t : Fin cfg0.N) (l : Fin 256) :
    gscale d256 (act (fGP V c t) (fUP V c t) r) l = gscale d4864 ((inV V c).A r) (col t l) := by
  rw [act_at]
  refine gscale_part _ _ _ _ _ _ fun k => ?_
  show (inV V c).A r _ = _
  congr 1
  apply Fin.ext
  simp only [grp, col, pos]; omega

theorem fAQ_at (t : Fin cfg0.N) (l : Fin 256) : fAQ V c t (ix2 r l) = (inV V c).AQ r (col t l) := by
  unfold fAQ
  rw [AQ_at]; unfold In.AQ gcode
  rw [ascale_at, act_at]
theorem fAH_at (t : Fin cfg0.N) (l : Fin 256) : fAH V c t (ix2 r l) = (inV V c).AH r (col t l) := by
  unfold fAH
  rw [AH_at]; unfold In.AH gdeq gcode
  rw [ascale_at, act_at]

/-- The scales of the first `n + 1` tiles are in their lanes after point `n`. -/
theorem fSC_at : ∀ (n : ℕ) (hn : n < cfg0.N) (k : Fin 76), k.val < n * 4 + 4 →
    fSC V c n hn (ix2 r ⟨k.val, by omega⟩) = (inV V c).AS r k := by
  have step : ∀ (t : Fin cfg0.N) (sc : Vec Ideal S256x128 .f32) (k : Fin 76), k.val < t.val * 4 + 4 →
      (k.val < t.val * 4 → sc (ix2 r ⟨k.val, by omega⟩) = (inV V c).AS r k) →
      SC (grid0.coords t) sc (fGP V c t) (fUP V c t) (ix2 r ⟨k.val, by omega⟩) = (inV V c).AS r k := by
    intro t sc k hk hsc
    have ht : t.val < 19 := Nat.lt_of_lt_of_eq t.isLt N_0
    have e : (grid0.coords t 0).val = t.val := by
      have e0 : (grid0.coords t 0).val = t.val / 1 % 19 := Pipeline.Grid.coords_val t 0 (by decide) rfl
      rw [e0]; omega
    rw [SC_at]
    simp only [e]
    split_ifs with h
    · rw [ascale_at, In.gscale_A]
      congr 1
      apply Fin.ext
      simp only [col, pos] at h ⊢; omega
    · exact hsc (by omega)
  intro n
  induction n with
  | zero => intro hn k hk; exact step ⟨0, hn⟩ _ k hk (fun h => absurd h (by simp))
  | succ n ih =>
    intro hn k hk
    exact step ⟨n + 1, hn⟩ _ k hk (fun h => ih _ k (by have h' : k.val < (n + 1) * 4 := h; omega))

/-- What tile `n` adds to the down product. -/
def part (d : Fin 896) (n : ℕ) : EReal :=
  if hn : n < 19 then ∑ l : Fin 256, (inV V c).AH r (pos n hn l) * wt ((inV V c).df (pos n hn l) d) ((inV V c).dv (pos n hn l) d) else 0

/-- The running sum after point `n`. -/
theorem fYH_at (d : Fin 896) : ∀ (n : ℕ) (hn : n < cfg0.N),
    fYH V c n hn (ix2 r d) = ∑ j ∈ Finset.range (n + 1), part V c r d j := by
  have step : ∀ (t : Fin cfg0.N) (yh : Vec Ideal S256x896 .f32),
      YH (iblk0 V c 10 t) (iblk0 V c 11 t) yh (fAH V c t) (ix2 r d) = yh (ix2 r d) + part V c r d t.val := by
    intro t yh
    have ht : t.val < 19 := Nat.lt_of_lt_of_eq t.isLt N_0
    pointwise [YH, k0_pay66, k0_pay2]
    unfold part
    rw [dif_pos ht]
    refine congrArg (_ + ·) (Finset.sum_congr rfl fun x _ => ?_)
    rw [fAH_at]
    erw [blk0_10, blk0_11]; rfl
  intro n
  induction n with
  | zero =>
    intro hn
    refine (step ⟨0, hn⟩ (k0_pay61 (F := Ideal))).trans ?_
    have : (k0_pay61 (F := Ideal)) (ix2 r d) = 0 := by pointwise [k0_pay61]
    rw [this, zero_add, Finset.sum_range_one]
  | succ n ih =>
    intro hn
    refine (step ⟨n + 1, hn⟩ _).trans ?_
    rw [ih, Finset.sum_range_succ _ (n + 1)]

/-- The last point. -/
theorem fYH_last (d : Fin 896) (t : Fin cfg0.N) (ht : t.val = 18) : fYH V c t.val t.isLt (ix2 r d) = (inV V c).YH r d := by
  rw [fYH_at, ht, In.YH, Fin.sum_univ_tiles 19 256 (by decide), Finset.sum_range]
  refine Finset.sum_congr rfl fun j _ => ?_
  unfold part
  rw [dif_pos j.isLt]; rfl

/-- The loss and the gradient of the block's output, at the last point. -/
theorem fLO_at (t : Fin cfg0.N) (ht : t.val = 18) (l : Fin 1) : fLO V c t (ix2 r l) = (inV V c).loss r := by
  unfold fLO
  rw [blk0_1, blk0_2, blk0_3]
  pointwise [k0_pay5, k0_pay3, k0_pay4, k0_pay6]
  simp only [fYH_last V c r _ t ht]; rfl
theorem fDY_at (t : Fin cfg0.N) (ht : t.val = 18) (d : Fin 896) : fDY V c t (ix2 r d) = (inV V c).DY r d := by
  unfold fDY
  rw [blk0_1, blk0_2, blk0_3]
  pointwise [k0_pay5, k0_pay7, k0_pay3, k0_pay4, k0_pay6]
  simp only [fYH_last V c r _ t ht]; rfl
theorem fDS_at (t : Fin cfg0.N) (ht : t.val = 18) (d : Fin 896) : fDS V c t (ix2 r d) = (inV V c).DS r d := by
  unfold fDS
  rw [blk0_1, blk0_2, blk0_3]
  pointwise [k0_pay5, k0_pay8, k0_pay7, k0_pay3, k0_pay4, k0_pay6]
  simp only [fYH_last V c r _ t ht]; rfl

end Cert.KernelIdeal.Gen
-- ==== Proof.KernelIdeal.ArrAt.lean ====
/- The forward kernel's result arrays, element by element. -/
module

public import proofs.«01_k».proof.Proof.KernelIdeal.FwdAt

@[expose] public section

noncomputable section

namespace Cert.KernelIdeal.Gen

open Idealize.ShloMosaic Idealize.ShloMosaic.TcCoe Cert.Spec
open Idealize.ShloMosaic.Pipeline (Dat Cfg Window)

variable (V : (c : Dev nD) → (b : Ref sig .tc) → Buf (Elt Ideal) ((c : Thread nD τ).loc b)) (c : Dev nD)

/-- A block's elements are in the block. -/
theorem mem_of_emb {G : Pipeline.Grid} (w : Window sig G) (t : Fin G.N) (y : (w.xblock (G.coords t)).Idx) :
    (w.blk t).view.emb y ∈ (w.blk t).view.set := View.emb_mem_set _ y

theorem ptL_val : (ptL : Fin cfg0.N).val = 18 := rfl

/-! ## The arrays written whole at the last point -/

theorem emb0_12 (t : Fin cfg0.N) (y : S256x1.Idx) : ((cfg0.win 12).blk t).view.emb y = y := by
  funext a
  exact Fin.ext (Pipeline.Window.rect_emb_val_of_index_zero (cfg0.win 12) t a (by fin_cases a <;> rfl) y)
theorem arr0_12 : (dat0 V c).arrAt 12 cfg0.N = (fLO V c ptL : Vec Ideal S256x1 .f32) := by
  refine (dat0 V c).arrAt_eq_of_cover 12 _ (fun t hf => ?_) (fun i => ⟨ptL, (flush0_12 ptL).2 rfl, ?_⟩)
  · have ht : t = ptL := Fin.ext (by
      have h1 := (flush0_12 t).1 hf
      have h2 : t.val < 19 := Nat.lt_of_lt_of_eq t.isLt N_0
      rw [ptL_val]; omega)
    subst ht
    show (cfg0.win 12).cut (grid0.coords ptL) ((dat0 V c).after 12 ptL) = _
    rw [after0_12]
    funext y
    exact congrArg (fLO V c ptL : Vec Ideal S256x1 .f32) (emb0_12 ptL y).symm
  · have h := mem_of_emb (cfg0.win 12) ptL (show S256x1.Idx from i)
    rw [emb0_12] at h; exact h
theorem emb0_13 (t : Fin cfg0.N) (y : S256x896.Idx) : ((cfg0.win 13).blk t).view.emb y = y := by
  funext a
  exact Fin.ext (Pipeline.Window.rect_emb_val_of_index_zero (cfg0.win 13) t a (by fin_cases a <;> rfl) y)
theorem arr0_13 : (dat0 V c).arrAt 13 cfg0.N = (fXQ V c : Vec Ideal S256x896 .i8) := by
  refine (dat0 V c).arrAt_eq_of_cover 13 _ (fun t hf => ?_) (fun i => ⟨ptL, (flush0_13 ptL).2 rfl, ?_⟩)
  · have ht : t = ptL := Fin.ext (by
      have h1 := (flush0_13 t).1 hf
      have h2 : t.val < 19 := Nat.lt_of_lt_of_eq t.isLt N_0
      rw [ptL_val]; omega)
    subst ht
    show (cfg0.win 13).cut (grid0.coords ptL) ((dat0 V c).after 13 ptL) = _
    rw [after0_13]
    funext y
    exact congrArg (fXQ V c : Vec Ideal S256x896 .i8) (emb0_13 ptL y).symm
  · have h := mem_of_emb (cfg0.win 13) ptL (show S256x896.Idx from i)
    rw [emb0_13] at h; exact h
theorem emb0_14 (t : Fin cfg0.N) (y : S256x14.Idx) : ((cfg0.win 14).blk t).view.emb y = y := by
  funext a
  exact Fin.ext (Pipeline.Window.rect_emb_val_of_index_zero (cfg0.win 14) t a (by fin_cases a <;> rfl) y)
theorem arr0_14 : (dat0 V c).arrAt 14 cfg0.N = (fXS V c : Vec Ideal S256x14 .f32) := by
  refine (dat0 V c).arrAt_eq_of_cover 14 _ (fun t hf => ?_) (fun i => ⟨ptL, (flush0_14 ptL).2 rfl, ?_⟩)
  · have ht : t = ptL := Fin.ext (by
      have h1 := (flush0_14 t).1 hf
      have h2 : t.val < 19 := Nat.lt_of_lt_of_eq t.isLt N_0
      rw [ptL_val]; omega)
    subst ht
    show (cfg0.win 14).cut (grid0.coords ptL) ((dat0 V c).after 14 ptL) = _
    rw [after0_14]
    funext y
    exact congrArg (fXS V c : Vec Ideal S256x14 .f32) (emb0_14 ptL y).symm
  · have h := mem_of_emb (cfg0.win 14) ptL (show S256x14.Idx from i)
    rw [emb0_14] at h; exact h
theorem emb0_16 (t : Fin cfg0.N) (y : S256x128.Idx) : ((cfg0.win 16).blk t).view.emb y = y := by
  funext a
  exact Fin.ext (Pipeline.Window.rect_emb_val_of_index_zero (cfg0.win 16) t a (by fin_cases a <;> rfl) y)
theorem arr0_16 : (dat0 V c).arrAt 16 cfg0.N = (fSC V c 18 (by decide) : Vec Ideal S256x128 .f32) := by
  refine (dat0 V c).arrAt_eq_of_cover 16 _ (fun t hf => ?_) (fun i => ⟨ptL, (flush0_16 ptL).2 rfl, ?_⟩)
  · have ht : t = ptL := Fin.ext (by
      have h1 := (flush0_16 t).1 hf
      have h2 : t.val < 19 := Nat.lt_of_lt_of_eq t.isLt N_0
      rw [ptL_val]; omega)
    subst ht
    show (cfg0.win 16).cut (grid0.coords ptL) ((dat0 V c).after 16 ptL) = _
    rw [after0_16]
    funext y
    exact congrArg (fSC V c 18 (by decide) : Vec Ideal S256x128 .f32) (emb0_16 ptL y).symm
  · have h := mem_of_emb (cfg0.win 16) ptL (show S256x128.Idx from i)
    rw [emb0_16] at h; exact h
theorem emb0_17 (t : Fin cfg0.N) (y : S256x896.Idx) : ((cfg0.win 17).blk t).view.emb y = y := by
  funext a
  exact Fin.ext (Pipeline.Window.rect_emb_val_of_index_zero (cfg0.win 17) t a (by fin_cases a <;> rfl) y)
theorem arr0_17 : (dat0 V c).arrAt 17 cfg0.N = (fXH V c : Vec Ideal S256x896 .bf16) := by
  refine (dat0 V c).arrAt_eq_of_cover 17 _ (fun t hf => ?_) (fun i => ⟨ptL, (flush0_17 ptL).2 rfl, ?_⟩)
  · have ht : t = ptL := Fin.ext (by
      have h1 := (flush0_17 t).1 hf
      have h2 : t.val < 19 := Nat.lt_of_lt_of_eq t.isLt N_0
      rw [ptL_val]; omega)
    subst ht
    show (cfg0.win 17).cut (grid0.coords ptL) ((dat0 V c).after 17 ptL) = _
    rw [after0_17]
    funext y
    exact congrArg (fXH V c : Vec Ideal S256x896 .bf16) (emb0_17 ptL y).symm
  · have h := mem_of_emb (cfg0.win 17) ptL (show S256x896.Idx from i)
    rw [emb0_17] at h; exact h
theorem emb0_21 (t : Fin cfg0.N) (y : S256x896.Idx) : ((cfg0.win 21).blk t).view.emb y = y := by
  funext a
  exact Fin.ext (Pipeline.Window.rect_emb_val_of_index_zero (cfg0.win 21) t a (by fin_cases a <;> rfl) y)
theorem arr0_21 : (dat0 V c).arrAt 21 cfg0.N = (fDY V c ptL : Vec Ideal S256x896 .bf16) := by
  refine (dat0 V c).arrAt_eq_of_cover 21 _ (fun t hf => ?_) (fun i => ⟨ptL, (flush0_21 ptL).2 rfl, ?_⟩)
  · have ht : t = ptL := Fin.ext (by
      have h1 := (flush0_21 t).1 hf
      have h2 : t.val < 19 := Nat.lt_of_lt_of_eq t.isLt N_0
      rw [ptL_val]; omega)
    subst ht
    show (cfg0.win 21).cut (grid0.coords ptL) ((dat0 V c).after 21 ptL) = _
    rw [after0_21]
    funext y
    exact congrArg (fDY V c ptL : Vec Ideal S256x896 .bf16) (emb0_21 ptL y).symm
  · have h := mem_of_emb (cfg0.win 21) ptL (show S256x896.Idx from i)
    rw [emb0_21] at h; exact h
theorem emb0_22 (t : Fin cfg0.N) (y : S256x896.Idx) : ((cfg0.win 22).blk t).view.emb y = y := by
  funext a
  exact Fin.ext (Pipeline.Window.rect_emb_val_of_index_zero (cfg0.win 22) t a (by fin_cases a <;> rfl) y)
theorem arr0_22 : (dat0 V c).arrAt 22 cfg0.N = (fDS V c ptL : Vec Ideal S256x896 .bf16) := by
  refine (dat0 V c).arrAt_eq_of_cover 22 _ (fun t hf => ?_) (fun i => ⟨ptL, (flush0_22 ptL).2 rfl, ?_⟩)
  · have ht : t = ptL := Fin.ext (by
      have h1 := (flush0_22 t).1 hf
      have h2 : t.val < 19 := Nat.lt_of_lt_of_eq t.isLt N_0
      rw [ptL_val]; omega)
    subst ht
    show (cfg0.win 22).cut (grid0.coords ptL) ((dat0 V c).after 22 ptL) = _
    rw [after0_22]
    funext y
    exact congrArg (fDS V c ptL : Vec Ideal S256x896 .bf16) (emb0_22 ptL y).symm
  · have h := mem_of_emb (cfg0.win 22) ptL (show S256x896.Idx from i)
    rw [emb0_22] at h; exact h

/-! ## The arrays written tile by tile -/

theorem ix0_15 : ∀ t : Fin cfg0.N, (cfg0.win 15).index t 1 = t.val := by decide +kernel
theorem emb0_15 (t : Fin cfg0.N) (r : Fin 256) (l : Fin 256) : ((cfg0.win 15).blk t).view.emb (ix2 r l : S256x256.Idx) = (ix2 r (col t l) : S256x4864.Idx) := by
  funext a
  fin_cases a
  · exact Fin.ext (Pipeline.Window.rect_emb_val_of_index_zero (cfg0.win 15) t 0 rfl _)
  · exact Fin.ext ((Pipeline.Window.rect_emb_val (cfg0.win 15) t _ 1).trans (by rw [ix0_15]; rfl))
theorem arr0_15 : (dat0 V c).arrAt 15 cfg0.N = (fun j => (inV V c).AQ (j 0) (j 1) : Vec Ideal S256x4864 .i8) := by
  refine (dat0 V c).arrAt_eq_of_cover 15 _ (fun t _ => ?_) (fun i => ?_)
  · show (cfg0.win 15).cut (grid0.coords t) ((dat0 V c).after 15 t) = _
    rw [after0_15]
    funext y
    have hy : y = (ix2 (y 0) (y 1) : S256x256.Idx) := eq_ix2 (n0 := 256) (n1 := 256) y
    rw [hy]
    show fAQ V c t _ = (inV V c).AQ (((cfg0.win 15).blk t).view.emb _ 0) (((cfg0.win 15).blk t).view.emb _ 1)
    erw [emb0_15 t (y 0) (y 1)]
    exact fAQ_at V c (y 0) t (y 1)
  · obtain ⟨r, f, rfl⟩ : ∃ (r : Fin 256) (f : Fin 4864), i = (ix2 r f : S256x4864.Idx) := ⟨i 0, i 1, eq_ix2 (n0 := 256) (n1 := 4864) i⟩
    have hN : f.val / 256 < cfg0.N := Nat.lt_of_lt_of_eq (by omega) N_0.symm
    refine ⟨⟨f.val / 256, hN⟩, flush0_15 _, ?_⟩
    have h := mem_of_emb (cfg0.win 15) ⟨f.val / 256, hN⟩ (show S256x256.Idx from ix2 r ⟨f.val % 256, by omega⟩)
    erw [emb0_15] at h
    have e : col ⟨f.val / 256, hN⟩ ⟨f.val % 256, by omega⟩ = f := Fin.ext (by simp only [col, pos]; omega)
    rw [e] at h; exact h
theorem ix0_18 : ∀ t : Fin cfg0.N, (cfg0.win 18).index t 1 = t.val := by decide +kernel
theorem emb0_18 (t : Fin cfg0.N) (r : Fin 256) (l : Fin 256) : ((cfg0.win 18).blk t).view.emb (ix2 r l : S256x256.Idx) = (ix2 r (col t l) : S256x4864.Idx) := by
  funext a
  fin_cases a
  · exact Fin.ext (Pipeline.Window.rect_emb_val_of_index_zero (cfg0.win 18) t 0 rfl _)
  · exact Fin.ext ((Pipeline.Window.rect_emb_val (cfg0.win 18) t _ 1).trans (by rw [ix0_18]; rfl))
theorem arr0_18 : (dat0 V c).arrAt 18 cfg0.N = (fun j => (inV V c).GP (j 0) (j 1) : Vec Ideal S256x4864 .f32) := by
  refine (dat0 V c).arrAt_eq_of_cover 18 _ (fun t _ => ?_) (fun i => ?_)
  · show (cfg0.win 18).cut (grid0.coords t) ((dat0 V c).after 18 t) = _
    rw [after0_18]
    funext y
    have hy : y = (ix2 (y 0) (y 1) : S256x256.Idx) := eq_ix2 (n0 := 256) (n1 := 256) y
    rw [hy]
    show fGP V c t _ = (inV V c).GP (((cfg0.win 18).blk t).view.emb _ 0) (((cfg0.win 18).blk t).view.emb _ 1)
    erw [emb0_18 t (y 0) (y 1)]
    exact fGP_at V c (y 0) t (y 1)
  · obtain ⟨r, f, rfl⟩ : ∃ (r : Fin 256) (f : Fin 4864), i = (ix2 r f : S256x4864.Idx) := ⟨i 0, i 1, eq_ix2 (n0 := 256) (n1 := 4864) i⟩
    have hN : f.val / 256 < cfg0.N := Nat.lt_of_lt_of_eq (by omega) N_0.symm
    refine ⟨⟨f.val / 256, hN⟩, flush0_18 _, ?_⟩
    have h := mem_of_emb (cfg0.win 18) ⟨f.val / 256, hN⟩ (show S256x256.Idx from ix2 r ⟨f.val % 256, by omega⟩)
    erw [emb0_18] at h
    have e : col ⟨f.val / 256, hN⟩ ⟨f.val % 256, by omega⟩ = f := Fin.ext (by simp only [col, pos]; omega)
    rw [e] at h; exact h
theorem ix0_19 : ∀ t : Fin cfg0.N, (cfg0.win 19).index t 1 = t.val := by decide +kernel
theorem emb0_19 (t : Fin cfg0.N) (r : Fin 256) (l : Fin 256) : ((cfg0.win 19).blk t).view.emb (ix2 r l : S256x256.Idx) = (ix2 r (col t l) : S256x4864.Idx) := by
  funext a
  fin_cases a
  · exact Fin.ext (Pipeline.Window.rect_emb_val_of_index_zero (cfg0.win 19) t 0 rfl _)
  · exact Fin.ext ((Pipeline.Window.rect_emb_val (cfg0.win 19) t _ 1).trans (by rw [ix0_19]; rfl))
theorem arr0_19 : (dat0 V c).arrAt 19 cfg0.N = (fun j => (inV V c).UP (j 0) (j 1) : Vec Ideal S256x4864 .f32) := by
  refine (dat0 V c).arrAt_eq_of_cover 19 _ (fun t _ => ?_) (fun i => ?_)
  · show (cfg0.win 19).cut (grid0.coords t) ((dat0 V c).after 19 t) = _
    rw [after0_19]
    funext y
    have hy : y = (ix2 (y 0) (y 1) : S256x256.Idx) := eq_ix2 (n0 := 256) (n1 := 256) y
    rw [hy]
    show fUP V c t _ = (inV V c).UP (((cfg0.win 19).blk t).view.emb _ 0) (((cfg0.win 19).blk t).view.emb _ 1)
    erw [emb0_19 t (y 0) (y 1)]
    exact fUP_at V c (y 0) t (y 1)
  · obtain ⟨r, f, rfl⟩ : ∃ (r : Fin 256) (f : Fin 4864), i = (ix2 r f : S256x4864.Idx) := ⟨i 0, i 1, eq_ix2 (n0 := 256) (n1 := 4864) i⟩
    have hN : f.val / 256 < cfg0.N := Nat.lt_of_lt_of_eq (by omega) N_0.symm
    refine ⟨⟨f.val / 256, hN⟩, flush0_19 _, ?_⟩
    have h := mem_of_emb (cfg0.win 19) ⟨f.val / 256, hN⟩ (show S256x256.Idx from ix2 r ⟨f.val % 256, by omega⟩)
    erw [emb0_19] at h
    have e : col ⟨f.val / 256, hN⟩ ⟨f.val % 256, by omega⟩ = f := Fin.ext (by simp only [col, pos]; omega)
    rw [e] at h; exact h
theorem ix0_20 : ∀ t : Fin cfg0.N, (cfg0.win 20).index t 1 = t.val := by decide +kernel
theorem emb0_20 (t : Fin cfg0.N) (r : Fin 256) (l : Fin 256) : ((cfg0.win 20).blk t).view.emb (ix2 r l : S256x256.Idx) = (ix2 r (col t l) : S256x4864.Idx) := by
  funext a
  fin_cases a
  · exact Fin.ext (Pipeline.Window.rect_emb_val_of_index_zero (cfg0.win 20) t 0 rfl _)
  · exact Fin.ext ((Pipeline.Window.rect_emb_val (cfg0.win 20) t _ 1).trans (by rw [ix0_20]; rfl))
theorem arr0_20 : (dat0 V c).arrAt 20 cfg0.N = (fun j => (inV V c).AH (j 0) (j 1) : Vec Ideal S256x4864 .bf16) := by
  refine (dat0 V c).arrAt_eq_of_cover 20 _ (fun t _ => ?_) (fun i => ?_)
  · show (cfg0.win 20).cut (grid0.coords t) ((dat0 V c).after 20 t) = _
    rw [after0_20]
    funext y
    have hy : y = (ix2 (y 0) (y 1) : S256x256.Idx) := eq_ix2 (n0 := 256) (n1 := 256) y
    rw [hy]
    show fAH V c t _ = (inV V c).AH (((cfg0.win 20).blk t).view.emb _ 0) (((cfg0.win 20).blk t).view.emb _ 1)
    erw [emb0_20 t (y 0) (y 1)]
    exact fAH_at V c (y 0) t (y 1)
  · obtain ⟨r, f, rfl⟩ : ∃ (r : Fin 256) (f : Fin 4864), i = (ix2 r f : S256x4864.Idx) := ⟨i 0, i 1, eq_ix2 (n0 := 256) (n1 := 4864) i⟩
    have hN : f.val / 256 < cfg0.N := Nat.lt_of_lt_of_eq (by omega) N_0.symm
    refine ⟨⟨f.val / 256, hN⟩, flush0_20 _, ?_⟩
    have h := mem_of_emb (cfg0.win 20) ⟨f.val / 256, hN⟩ (show S256x256.Idx from ix2 r ⟨f.val % 256, by omega⟩)
    erw [emb0_20] at h
    have e : col ⟨f.val / 256, hN⟩ ⟨f.val % 256, by omega⟩ = f := Fin.ext (by simp only [col, pos]; omega)
    rw [e] at h; exact h

end Cert.KernelIdeal.Gen
-- ==== Proof.KernelIdeal.BwdBody.lean ====
/- The backward kernel: the body at every point, its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_brecq_bwd` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S896x256 := Rect.unit (s := S896x256) ![0, 0] S896x256.size inb_S896x256_S896x256_0_0
abbrev r1_1 : Rect S256x896 := Rect.unit (s := S256x896) ![0, 0] S256x896.size inb_S256x896_S256x896_0_0
abbrev r1_2 : Rect S256x256 := Rect.unit (s := S256x256) ![0, 0] S256x256.size inb_S256x256_S256x256_0_0
abbrev r1_3 : Rect S1x896 := Rect.unit (s := S1x896) ![0, 0] S1x896.size inb_S1x896_S1x896_0_0
abbrev r1_4 : Rect S1x256 := Rect.unit (s := S1x256) ![0, 0] S1x256.size inb_S1x256_S1x256_0_0

/-! ## What the body leaves in each output window's buffer -/

/-! ### Values of the body that the stores' payloads, spelt out, would write more than once

    Each is a vector the body binds (often a part call's result), stated over the input windows' blocks and
    numbered on from the skeleton's payload functions (`k1_pay19` …, after `k1_pay18`), so that
    `out1_W` and the values after it name it instead of spelling it out (`unfold_out out1_W` opens a canon
    with them, `unfold_payloads` opens them with the payloads); the comment after each is the printed function's
    name for the value (a count appended where that name is bound again). -/

def k1_pay19 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : FVec F S256x896 .f32 :=
  k1_pay11 (View.ld x13 r1_1) (View.ld x14 r1_1) -- `v78`

/-- Window 15's staging buffer after the body, from the input windows' blocks: its 1 store as pieces, LAST
    FIRST . -/
def out1_15 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : Vec F S896x256 .f32 :=
  View.canon [⟨r1_0, k1_pay2 (k1_pay4 (View.ld x7 r1_0) (View.ld x8 r1_0)) (k1_pay16 (k1_pay19 x0 x1 x2 x3 x4 x5 x6 x7 x8 x9 x10 x11 x12 x13 x14) (View.ld x3 r1_2) (View.ld x4 r1_2) (View.ld x2 r1_1)) (View.ld x9 r1_4) (View.ld x0 r1_1)⟩]

/-- Its stores tile the buffer (checked by evaluation), so they cover it. -/
theorem cover1_15 (p0 : Vec F S896x256 .f32) (y : S896x256.Idx) :
    ∃ pc ∈ ([⟨r1_0, p0⟩] : List (View.Piece (Elt F) S896x256 .f32)), y ∈ pc.1.set :=
  View.cover_of_tiled [⟨r1_0, p0⟩] S896x256.size (by rfl) y

/-- Window 16's staging buffer after the body, from the input windows' blocks: its 1 store as pieces, LAST
    FIRST . -/
def out1_16 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : Vec F S896x256 .f32 :=
  View.canon [⟨r1_0, k1_pay3 (k1_pay7 (View.ld x10 r1_0) (k1_pay5 (View.ld x11 r1_0)) (k1_pay6 (View.ld x11 r1_0))) (k1_pay17 (k1_pay19 x0 x1 x2 x3 x4 x5 x6 x7 x8 x9 x10 x11 x12 x13 x14) (View.ld x3 r1_2) (View.ld x2 r1_1)) (View.ld x12 r1_4) (View.ld x0 r1_1)⟩]

/-- Its stores tile the buffer (checked by evaluation), so they cover it. -/
theorem cover1_16 (p0 : Vec F S896x256 .f32) (y : S896x256.Idx) :
    ∃ pc ∈ ([⟨r1_0, p0⟩] : List (View.Piece (Elt F) S896x256 .f32)), y ∈ pc.1.set :=
  View.cover_of_tiled [⟨r1_0, p0⟩] S896x256.size (by rfl) y

/-- Window 17's staging buffer after the body, from the input windows' blocks: its 1 store as pieces, LAST
    FIRST . -/
def out1_17 (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) : Vec F S256x896 .f32 :=
  View.canon [⟨r1_1, k1_pay1 (k1_pay12 (k1_pay8 (View.ld x14 r1_1)) (k1_pay9 (View.ld x14 r1_1)) (k1_pay10 (View.ld x13 r1_1) (View.ld x14 r1_1))) (k1_pay18 (View.ld x6 r1_3)) (View.ld x5 r1_2) (View.ld x1 r1_1)⟩]

/-- Its stores tile the buffer (checked by evaluation), so they cover it. -/
theorem cover1_17 (p0 : Vec F S256x896 .f32) (y : S256x896.Idx) :
    ∃ pc ∈ ([⟨r1_1, p0⟩] : List (View.Piece (Elt F) S256x896 .f32)), y ∈ pc.1.set :=
  View.cover_of_tiled [⟨r1_1, p0⟩] S256x896.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs , through every part call. -/
theorem sound_kernel1 (c : Dev nD) (E : Set ℕ) (i : grid1.Coords) (arg1 : Memref sig .tc .vmem S256x896 .bf16) (harg1 : arg1.IsWhole) (arg2 : Memref sig .tc .vmem S256x896 .bf16) (harg2 : arg2.IsWhole) (arg3 : Memref sig .tc .vmem S256x896 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .bf16) (harg6 : arg6.IsWhole) (arg7 : Memref sig .tc .vmem S1x896 .f32) (harg7 : arg7.IsWhole) (arg8 : Memref sig .tc .vmem S896x256 .i8) (harg8 : arg8.IsWhole) (arg9 : Memref sig .tc .vmem S896x256 .f32) (harg9 : arg9.IsWhole) (arg10 : Memref sig .tc .vmem S1x256 .f32) (harg10 : arg10.IsWhole) (arg11 : Memref sig .tc .vmem S896x256 .i8) (harg11 : arg11.IsWhole) (arg12 : Memref sig .tc .vmem S896x256 .f32) (harg12 : arg12.IsWhole) (arg13 : Memref sig .tc .vmem S1x256 .f32) (harg13 : arg13.IsWhole) (arg14 : Memref sig .tc .vmem S256x896 .i8) (harg14 : arg14.IsWhole) (arg15 : Memref sig .tc .vmem S256x896 .f32) (harg15 : arg15.IsWhole) (arg16 : Memref sig .tc .vmem S896x256 .f32) (harg16 : arg16.IsWhole) (arg17 : Memref sig .tc .vmem S896x256 .f32) (harg17 : arg17.IsWhole) (arg18 : Memref sig .tc .vmem S256x896 .f32) (harg18 : arg18.IsWhole)
    (x0 : Vec F S256x896 .bf16) (x1 : Vec F S256x896 .bf16) (x2 : Vec F S256x896 .bf16) (x3 : Vec F S256x256 .f32) (x4 : Vec F S256x256 .f32) (x5 : Vec F S256x256 .bf16) (x6 : Vec F S1x896 .f32) (x7 : Vec F S896x256 .i8) (x8 : Vec F S896x256 .f32) (x9 : Vec F S1x256 .f32) (x10 : Vec F S896x256 .i8) (x11 : Vec F S896x256 .f32) (x12 : Vec F S1x256 .f32) (x13 : Vec F S256x896 .i8) (x14 : Vec F S256x896 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14) ∗ owns (c : Thread nD τ) arg17 fullShare (out1_16 x0 x1 x2 x3 x4 x5 x6 x7 x8 x9 x10 x11 x12 x13 x14) ∗ owns (c : Thread nD τ) arg18 fullShare (out1_17 x0 x1 x2 x3 x4 x5 x6 x7 x8 x9 x10 x11 x12 x13 x14)) -∗ K ⟨⟩))
      ⊢ wp frame (wpE (defs₀ (F := F)) Variants.none c none) E (cc1_brecq_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_brecq_bwd_eq_skeleton]; unfold cc1_brecq_bwd_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover1_15 _)).trans ?_
    rfl
  isplitl [H16]
  · iexists _; isplitr
    swap; · iexact H16
    ipureintro
    refine (View.read_writes_eq_canon _ _ _ (cover1_16 _)).trans ?_
    rfl
  iexists _; isplitr
  swap; · iexact H17
  ipureintro
  refine (View.read_writes_eq_canon _ _ _ (cover1_17 _)).trans ?_
  rfl

/-! ## The pipeline's proof data -/

/-- The proof data of pipeline 1 on core `c`: the arrays as the region finds them (`V`); after the body at
    point `t` each input's buffer at its block and each output's at `out1_W` of the input blocks; the invariant the
    class's ; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 18, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ (grid1.coords t) _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.BwdAt.lean ====
/- The backward kernel's values and result arrays, element by element. -/
module

public import proofs.«01_k».proof.Proof.KernelIdeal.ArrAt
public import proofs.«01_k».proof.Proof.KernelIdeal.BwdBody

@[expose] public section

noncomputable section

namespace Cert.KernelIdeal.Gen

open Idealize.ShloMosaic Idealize.ShloMosaic.TcCoe Cert.Spec
open Idealize.ShloMosaic.Pipeline (Dat Cfg Window)

variable (V : (c : Dev nD) → (b : Ref sig .tc) → Buf (Elt Ideal) ((c : Thread nD τ).loc b)) (c : Dev nD)

/-- The position in the whole axis of position `l` of the tile of a backward point. -/
def bcol (t : Fin cfg1.N) (l : Fin 256) : Fin 4864 := pos t.val (Nat.lt_of_lt_of_eq t.isLt N_1) l

/-! ## The blocks: whole arrays, and tiles of 256 columns or rows -/

theorem blk1_0 (t : Fin cfg1.N) : (iblk1 V c 0 t : Vec Ideal S256x896 .bf16) = V c main_v6_5 := by
  funext y
  show V c main_v6_5 (((cfg1.win 0).rect t).emb y) = _
  congr 1
  funext a
  exact Fin.ext (Pipeline.Window.rect_emb_val_of_index_zero (cfg1.win 0) t a (by fin_cases a <;> rfl) y)
theorem blk1_1 (t : Fin cfg1.N) : (iblk1 V c 1 t : Vec Ideal S256x896 .bf16) = V c main_v6_9 := by
  funext y
  show V c main_v6_9 (((cfg1.win 1).rect t).emb y) = _
  congr 1
  funext a
  exact Fin.ext (Pipeline.Window.rect_emb_val_of_index_zero (cfg1.win 1) t a (by fin_cases a <;> rfl) y)
theorem blk1_2 (t : Fin cfg1.N) : (iblk1 V c 2 t : Vec Ideal S256x896 .bf16) = V c main_v6_10 := by
  funext y
  show V c main_v6_10 (((cfg1.win 2).rect t).emb y) = _
  congr 1
  funext a
  exact Fin.ext (Pipeline.Window.rect_emb_val_of_index_zero (cfg1.win 2) t a (by fin_cases a <;> rfl) y)
theorem blk1_6 (t : Fin cfg1.N) : (iblk1 V c 6 t : Vec Ideal S1x896 .f32) = V c main_v5 := by
  funext y
  show V c main_v5 (((cfg1.win 6).rect t).emb y) = _
  congr 1
  funext a
  exact Fin.ext (Pipeline.Window.rect_emb_val_of_index_zero (cfg1.win 6) t a (by fin_cases a <;> rfl) y)
theorem ix1_3 : ∀ t : Fin cfg1.N, (cfg1.win 3).index t 1 = t.val := by decide +kernel
theorem blk1_3 (t : Fin cfg1.N) (d : Fin 256) (l : Fin 256) :
    (iblk1 V c 3 t : Vec Ideal S256x256 .f32) (ix2 d l) = (V c main_v6_6 : Vec Ideal S256x4864 .f32) (ix2 d (bcol t l)) := by
  show V c main_v6_6 (((cfg1.win 3).rect t).emb (ix2 d l)) = _
  congr 1
  funext a
  fin_cases a
  · exact Fin.ext (Pipeline.Window.rect_emb_val_of_index_zero (cfg1.win 3) t 0 rfl _)
  · exact Fin.ext ((Pipeline.Window.rect_emb_val (cfg1.win 3) t _ 1).trans (by rw [ix1_3]; rfl))
theorem ix1_4 : ∀ t : Fin cfg1.N, (cfg1.win 4).index t 1 = t.val := by decide +kernel
theorem blk1_4 (t : Fin cfg1.N) (d : Fin 256) (l : Fin 256) :
    (iblk1 V c 4 t : Vec Ideal S256x256 .f32) (ix2 d l) = (V c main_v6_7 : Vec Ideal S256x4864 .f32) (ix2 d (bcol t l)) := by
  show V c main_v6_7 (((cfg1.win 4).rect t).emb (ix2 d l)) = _
  congr 1
  funext a
  fin_cases a
  · exact Fin.ext (Pipeline.Window.rect_emb_val_of_index_zero (cfg1.win 4) t 0 rfl _)
  · exact Fin.ext ((Pipeline.Window.rect_emb_val (cfg1.win 4) t _ 1).trans (by rw [ix1_4]; rfl))
theorem ix1_5 : ∀ t : Fin cfg1.N, (cfg1.win 5).index t 1 = t.val := by decide +kernel
theorem blk1_5 (t : Fin cfg1.N) (d : Fin 256) (l : Fin 256) :
    (iblk1 V c 5 t : Vec Ideal S256x256 .bf16) (ix2 d l) = (V c main_v6_8 : Vec Ideal S256x4864 .bf16) (ix2 d (bcol t l)) := by
  show V c main_v6_8 (((cfg1.win 5).rect t).emb (ix2 d l)) = _
  congr 1
  funext a
  fin_cases a
  · exact Fin.ext (Pipeline.Window.rect_emb_val_of_index_zero (cfg1.win 5) t 0 rfl _)
  · exact Fin.ext ((Pipeline.Window.rect_emb_val (cfg1.win 5) t _ 1).trans (by rw [ix1_5]; rfl))
theorem ix1_7 : ∀ t : Fin cfg1.N, (cfg1.win 7).index t 1 = t.val := by decide +kernel
theorem blk1_7 (t : Fin cfg1.N) (d : Fin 896) (l : Fin 256) :
    (iblk1 V c 7 t : Vec Ideal S896x256 .i8) (ix2 d l) = (V c main_arg3 : Vec Ideal S896x4864 .i8) (ix2 d (bcol t l)) := by
  show V c main_arg3 (((cfg1.win 7).rect t).emb (ix2 d l)) = _
  congr 1
  funext a
  fin_cases a
  · exact Fin.ext (Pipeline.Window.rect_emb_val_of_index_zero (cfg1.win 7) t 0 rfl _)
  · exact Fin.ext ((Pipeline.Window.rect_emb_val (cfg1.win 7) t _ 1).trans (by rw [ix1_7]; rfl))
theorem ix1_8 : ∀ t : Fin cfg1.N, (cfg1.win 8).index t 1 = t.val := by decide +kernel
theorem blk1_8 (t : Fin cfg1.N) (d : Fin 896) (l : Fin 256) :
    (iblk1 V c 8 t : Vec Ideal S896x256 .f32) (ix2 d l) = (V c main_arg5 : Vec Ideal S896x4864 .f32) (ix2 d (bcol t l)) := by
  show V c main_arg5 (((cfg1.win 8).rect t).emb (ix2 d l)) = _
  congr 1
  funext a
  fin_cases a
  · exact Fin.ext (Pipeline.Window.rect_emb_val_of_index_zero (cfg1.win 8) t 0 rfl _)
  · exact Fin.ext ((Pipeline.Window.rect_emb_val (cfg1.win 8) t _ 1).trans (by rw [ix1_8]; rfl))
theorem ix1_9 : ∀ t : Fin cfg1.N, (cfg1.win 9).index t 1 = t.val := by decide +kernel
theorem blk1_9 (t : Fin cfg1.N) (d : Fin 1) (l : Fin 256) :
    (iblk1 V c 9 t : Vec Ideal S1x256 .f32) (ix2 d l) = (V c main_v3 : Vec Ideal S1x4864 .f32) (ix2 d (bcol t l)) := by
  show V c main_v3 (((cfg1.win 9).rect t).emb (ix2 d l)) = _
  congr 1
  funext a
  fin_cases a
  · exact Fin.ext (Pipeline.Window.rect_emb_val_of_index_zero (cfg1.win 9) t 0 rfl _)
  · exact Fin.ext ((Pipeline.Window.rect_emb_val (cfg1.win 9) t _ 1).trans (by rw [ix1_9]; rfl))
theorem ix1_10 : ∀ t : Fin cfg1.N, (cfg1.win 10).index t 1 = t.val := by decide +kernel
theorem blk1_10 (t : Fin cfg1.N) (d : Fin 896) (l : Fin 256) :
    (iblk1 V c 10 t : Vec Ideal S896x256 .i8) (ix2 d l) = (V c main_arg6 : Vec Ideal S896x4864 .i8) (ix2 d (bcol t l)) := by
  show V c main_arg6 (((cfg1.win 10).rect t).emb (ix2 d l)) = _
  congr 1
  funext a
  fin_cases a
  · exact Fin.ext (Pipeline.Window.rect_emb_val_of_index_zero (cfg1.win 10) t 0 rfl _)
  · exact Fin.ext ((Pipeline.Window.rect_emb_val (cfg1.win 10) t _ 1).trans (by rw [ix1_10]; rfl))
theorem ix1_11 : ∀ t : Fin cfg1.N, (cfg1.win 11).index t 1 = t.val := by decide +kernel
theorem blk1_11 (t : Fin cfg1.N) (d : Fin 896) (l : Fin 256) :
    (iblk1 V c 11 t : Vec Ideal S896x256 .f32) (ix2 d l) = (V c main_arg8 : Vec Ideal S896x4864 .f32) (ix2 d (bcol t l)) := by
  show V c main_arg8 (((cfg1.win 11).rect t).emb (ix2 d l)) = _
  congr 1
  funext a
  fin_cases a
  · exact Fin.ext (Pipeline.Window.rect_emb_val_of_index_zero (cfg1.win 11) t 0 rfl _)
  · exact Fin.ext ((Pipeline.Window.rect_emb_val (cfg1.win 11) t _ 1).trans (by rw [ix1_11]; rfl))
theorem ix1_12 : ∀ t : Fin cfg1.N, (cfg1.win 12).index t 1 = t.val := by decide +kernel
theorem blk1_12 (t : Fin cfg1.N) (d : Fin 1) (l : Fin 256) :
    (iblk1 V c 12 t : Vec Ideal S1x256 .f32) (ix2 d l) = (V c main_v4 : Vec Ideal S1x4864 .f32) (ix2 d (bcol t l)) := by
  show V c main_v4 (((cfg1.win 12).rect t).emb (ix2 d l)) = _
  congr 1
  funext a
  fin_cases a
  · exact Fin.ext (Pipeline.Window.rect_emb_val_of_index_zero (cfg1.win 12) t 0 rfl _)
  · exact Fin.ext ((Pipeline.Window.rect_emb_val (cfg1.win 12) t _ 1).trans (by rw [ix1_12]; rfl))
theorem ix1_13 : ∀ t : Fin cfg1.N, (cfg1.win 13).index t 0 = t.val := by decide +kernel
theorem blk1_13 (t : Fin cfg1.N) (d : Fin 256) (l : Fin 896) :
    (iblk1 V c 13 t : Vec Ideal S256x896 .i8) (ix2 d l) = (V c main_arg9 : Vec Ideal S4864x896 .i8) (ix2 (bcol t d) l) := by
  show V c main_arg9 (((cfg1.win 13).rect t).emb (ix2 d l)) = _
  congr 1
  funext a
  fin_cases a
  · exact Fin.ext ((Pipeline.Window.rect_emb_val (cfg1.win 13) t _ 0).trans (by rw [ix1_13]; rfl))
  · exact Fin.ext (Pipeline.Window.rect_emb_val_of_index_zero (cfg1.win 13) t 1 rfl _)
theorem ix1_14 : ∀ t : Fin cfg1.N, (cfg1.win 14).index t 0 = t.val := by decide +kernel
theorem blk1_14 (t : Fin cfg1.N) (d : Fin 256) (l : Fin 896) :
    (iblk1 V c 14 t : Vec Ideal S256x896 .f32) (ix2 d l) = (V c main_arg11 : Vec Ideal S4864x896 .f32) (ix2 (bcol t d) l) := by
  show V c main_arg11 (((cfg1.win 14).rect t).emb (ix2 d l)) = _
  congr 1
  funext a
  fin_cases a
  · exact Fin.ext ((Pipeline.Window.rect_emb_val (cfg1.win 14) t _ 0).trans (by rw [ix1_14]; rfl))
  · exact Fin.ext (Pipeline.Window.rect_emb_val_of_index_zero (cfg1.win 14) t 1 rfl _)

/-! ## The values -/

/-- What the backward kernel's arrays hold when it starts. -/
structure BwdIn (I : In) : Prop where
  xh : ∀ r d, (V c main_v6_5 : Vec Ideal S256x896 .bf16) (ix2 r d) = I.XH r d
  dy : ∀ r d, (V c main_v6_9 : Vec Ideal S256x896 .bf16) (ix2 r d) = I.DY r d
  dys : ∀ r d, (V c main_v6_10 : Vec Ideal S256x896 .bf16) (ix2 r d) = I.DS r d
  gp : ∀ r f, (V c main_v6_6 : Vec Ideal S256x4864 .f32) (ix2 r f) = I.GP r f
  up : ∀ r f, (V c main_v6_7 : Vec Ideal S256x4864 .f32) (ix2 r f) = I.UP r f
  ah : ∀ r f, (V c main_v6_8 : Vec Ideal S256x4864 .bf16) (ix2 r f) = I.AH r f
  gf : ∀ d f, (V c main_arg3 : Vec Ideal S896x4864 .i8) (ix2 d f) = I.gf d f
  gs : ∀ f, (V c main_v3 : Vec Ideal S1x4864 .f32) (ix2 0 f) = I.gs f
  gv : ∀ d f, (V c main_arg5 : Vec Ideal S896x4864 .f32) (ix2 d f) = I.gv d f
  uf : ∀ d f, (V c main_arg6 : Vec Ideal S896x4864 .i8) (ix2 d f) = I.uf d f
  us : ∀ f, (V c main_v4 : Vec Ideal S1x4864 .f32) (ix2 0 f) = I.us f
  uv : ∀ d f, (V c main_arg8 : Vec Ideal S896x4864 .f32) (ix2 d f) = I.uv d f
  df : ∀ f d, (V c main_arg9 : Vec Ideal S4864x896 .i8) (ix2 f d) = I.df f d
  ds : ∀ d, (V c main_v5 : Vec Ideal S1x896 .f32) (ix2 0 d) = I.ds d
  dv : ∀ f d, (V c main_arg11 : Vec Ideal S4864x896 .f32) (ix2 f d) = I.dv f d

theorem hz2 : (![0, 0] : Fin 2 → ℕ) = fun _ => 0 := funext fun a => by fin_cases a <;> rfl

theorem ld0 {e : EltTy} (x : Vec Ideal S896x256 e) : View.ld x r1_0 = x := View.ld_unit_zero hz2 _ x
theorem ld1 {e : EltTy} (x : Vec Ideal S256x896 e) : View.ld x r1_1 = x := View.ld_unit_zero hz2 _ x
theorem ld2 {e : EltTy} (x : Vec Ideal S256x256 e) : View.ld x r1_2 = x := View.ld_unit_zero hz2 _ x

/-! The derivative of a tile's soft weight, and the soft weight of the down tile. -/

theorem fac_g (f : Vec Ideal S896x256 .i8) (v : Vec Ideal S896x256 .f32) (d : Fin 896) (l : Fin 256) :
    k1_pay4 f v (ix2 d l) = fac (f (ix2 d l)) (v (ix2 d l)) := by
  pointwise [k1_pay4]; rfl
theorem fac_u (f : Vec Ideal S896x256 .i8) (v : Vec Ideal S896x256 .f32) (d : Fin 896) (l : Fin 256) :
    k1_pay7 f (k1_pay5 v) (k1_pay6 v) (ix2 d l) = fac (f (ix2 d l)) (v (ix2 d l)) := by
  pointwise [k1_pay7, k1_pay5, k1_pay6]; rfl
theorem fac_d (f : Vec Ideal S256x896 .i8) (v : Vec Ideal S256x896 .f32) (l : Fin 256) (d : Fin 896) :
    k1_pay12 (k1_pay8 v) (k1_pay9 v) (k1_pay10 f v) (ix2 l d) = fac (f (ix2 l d)) (v (ix2 l d)) := by
  pointwise [k1_pay12, k1_pay8, k1_pay9, k1_pay10]; rfl
theorem wt_d (f : Vec Ideal S256x896 .i8) (v : Vec Ideal S256x896 .f32) (l : Fin 256) (d : Fin 896) :
    k1_pay11 f v (ix2 l d) = wt (f (ix2 l d)) (v (ix2 l d)) := by
  pointwise [k1_pay11, k1_pay8, k1_pay9, k1_pay10]; rfl

section Values
variable {V c} {I : In} (H : BwdIn V c I) (t : Fin cfg1.N)
include H

/-- The derivative by a tile of the activation, then by the gate and the up projection. -/
theorem da_at (r l : Fin 256) : ∑ x : Fin 896, (show Ideal .f32 from (iblk1 V c 2 t : Vec Ideal S256x896 .bf16) (ix2 r x)) * (show Ideal .f32 from k1_pay11 (iblk1 V c 13 t) (iblk1 V c 14 t) (ix2 l x))
    = I.DA r (bcol t l) := by
  refine Finset.sum_congr rfl fun x _ => ?_
  show @HMul.hMul (Ideal .f32) (Ideal .f32) (Ideal .f32) _ (iblk1 V c 2 t (ix2 r x : S256x896.Idx)) (k1_pay11 (iblk1 V c 13 t) (iblk1 V c 14 t) (ix2 l x)) = I.DS r x * wt (I.df (bcol t l) x) (I.dv (bcol t l) x)
  rw [wt_d, blk1_2, H.dys, blk1_13, blk1_14, H.df, H.dv]
theorem dg_at (r l : Fin 256) :
    k1_pay16 (k1_pay11 (iblk1 V c 13 t) (iblk1 V c 14 t)) (iblk1 V c 3 t) (iblk1 V c 4 t) (iblk1 V c 2 t) (ix2 r l) = I.DG r (bcol t l) := by
  pointwise [k1_pay16, k1_pay13, k1_pay14, k1_pay15]
  erw [da_at H, blk1_3, blk1_4, H.gp, H.up]; rfl
theorem du_at (r l : Fin 256) :
    k1_pay17 (k1_pay11 (iblk1 V c 13 t) (iblk1 V c 14 t)) (iblk1 V c 3 t) (iblk1 V c 2 t) (ix2 r l) = I.DU r (bcol t l) := by
  pointwise [k1_pay17, k1_pay13, k1_pay14, k1_pay15]
  erw [da_at H, blk1_3, H.gp]; rfl

/-- The three gradients of a tile. -/
theorem og_at (d : Fin 896) (l : Fin 256) : (dat1 V c).after 15 t (ix2 d l : S896x256.Idx) = I.OG d (bcol t l) := by
  rw [after1_15]
  unfold out1_15 k1_pay19
  rw [View.canon_unit_zero hz2]
  simp only [ld0, ld1, ld2]
  pointwise [k1_pay2]
  rw [fac_g]
  erw [blk1_7, blk1_8, blk1_9, H.gf, H.gv, H.gs]
  refine congrArg (_ * · * _) (Finset.sum_congr rfl fun x _ => ?_)
  erw [dg_at H, blk1_0, H.xh]
theorem ou_at (d : Fin 896) (l : Fin 256) : (dat1 V c).after 16 t (ix2 d l : S896x256.Idx) = I.OU d (bcol t l) := by
  rw [after1_16]
  unfold out1_16 k1_pay19
  rw [View.canon_unit_zero hz2]
  simp only [ld0, ld1, ld2]
  pointwise [k1_pay3]
  rw [fac_u]
  erw [blk1_10, blk1_11, blk1_12, H.uf, H.uv, H.us]
  refine congrArg (_ * · * _) (Finset.sum_congr rfl fun x _ => ?_)
  erw [du_at H, blk1_0, H.xh]
theorem od_at (l : Fin 256) (d : Fin 896) : (dat1 V c).after 17 t (ix2 l d : S256x896.Idx) = I.OD (bcol t l) d := by
  rw [after1_17]
  unfold out1_17
  rw [View.canon_unit_zero hz2]
  simp only [ld0, ld1, ld2]
  pointwise [k1_pay1, k1_pay18]
  rw [fac_d]
  erw [blk1_13, blk1_14, blk1_6, H.df, H.dv, H.ds]
  refine congrArg (_ * · * _) (Finset.sum_congr rfl fun x _ => ?_)
  erw [blk1_5, blk1_1, H.ah, H.dy]

/-! ## The result arrays -/

omit H in
theorem ix1_15 : ∀ t : Fin cfg1.N, (cfg1.win 15).index t 1 = t.val := by decide +kernel
omit H in
theorem emb1_15 (t : Fin cfg1.N) (d : Fin 896) (l : Fin 256) : ((cfg1.win 15).blk t).view.emb (ix2 d l : S896x256.Idx) = (ix2 d (bcol t l) : S896x4864.Idx) := by
  funext a
  fin_cases a
  · exact Fin.ext (Pipeline.Window.rect_emb_val_of_index_zero (cfg1.win 15) t 0 rfl _)
  · exact Fin.ext ((Pipeline.Window.rect_emb_val (cfg1.win 15) t _ 1).trans (by rw [ix1_15]; rfl))
theorem arr1_15 : (dat1 V c).arrAt 15 cfg1.N = (fun j => I.OG (j 0) (j 1) : Vec Ideal S896x4864 .f32) := by
  refine (dat1 V c).arrAt_eq_of_cover 15 _ (fun t _ => ?_) (fun i => ?_)
  · show (cfg1.win 15).cut (grid1.coords t) ((dat1 V c).after 15 t) = _
    funext y
    have hy : y = (ix2 (y 0) (y 1) : S896x256.Idx) := eq_ix2 (n0 := 896) (n1 := 256) y
    rw [hy]
    show (dat1 V c).after 15 t (ix2 (y 0) (y 1) : S896x256.Idx) = I.OG (((cfg1.win 15).blk t).view.emb _ 0) (((cfg1.win 15).blk t).view.emb _ 1)
    erw [emb1_15 t (y 0) (y 1)]
    exact og_at H t (y 0) (y 1)
  · obtain ⟨d, f, rfl⟩ : ∃ (d : Fin 896) (f : Fin 4864), i = (ix2 d f : S896x4864.Idx) := ⟨i 0, i 1, eq_ix2 (n0 := 896) (n1 := 4864) i⟩
    have hN : f.val / 256 < cfg1.N := Nat.lt_of_lt_of_eq (by omega) N_1.symm
    refine ⟨⟨f.val / 256, hN⟩, flush1_15 _, ?_⟩
    have h := mem_of_emb (cfg1.win 15) ⟨f.val / 256, hN⟩ (show S896x256.Idx from ix2 d ⟨f.val % 256, by omega⟩)
    erw [emb1_15] at h
    have e : bcol ⟨f.val / 256, hN⟩ ⟨f.val % 256, by omega⟩ = f := Fin.ext (by simp only [bcol, pos]; omega)
    rw [e] at h; exact h
omit H in
theorem ix1_16 : ∀ t : Fin cfg1.N, (cfg1.win 16).index t 1 = t.val := by decide +kernel
omit H in
theorem emb1_16 (t : Fin cfg1.N) (d : Fin 896) (l : Fin 256) : ((cfg1.win 16).blk t).view.emb (ix2 d l : S896x256.Idx) = (ix2 d (bcol t l) : S896x4864.Idx) := by
  funext a
  fin_cases a
  · exact Fin.ext (Pipeline.Window.rect_emb_val_of_index_zero (cfg1.win 16) t 0 rfl _)
  · exact Fin.ext ((Pipeline.Window.rect_emb_val (cfg1.win 16) t _ 1).trans (by rw [ix1_16]; rfl))
theorem arr1_16 : (dat1 V c).arrAt 16 cfg1.N = (fun j => I.OU (j 0) (j 1) : Vec Ideal S896x4864 .f32) := by
  refine (dat1 V c).arrAt_eq_of_cover 16 _ (fun t _ => ?_) (fun i => ?_)
  · show (cfg1.win 16).cut (grid1.coords t) ((dat1 V c).after 16 t) = _
    funext y
    have hy : y = (ix2 (y 0) (y 1) : S896x256.Idx) := eq_ix2 (n0 := 896) (n1 := 256) y
    rw [hy]
    show (dat1 V c).after 16 t (ix2 (y 0) (y 1) : S896x256.Idx) = I.OU (((cfg1.win 16).blk t).view.emb _ 0) (((cfg1.win 16).blk t).view.emb _ 1)
    erw [emb1_16 t (y 0) (y 1)]
    exact ou_at H t (y 0) (y 1)
  · obtain ⟨d, f, rfl⟩ : ∃ (d : Fin 896) (f : Fin 4864), i = (ix2 d f : S896x4864.Idx) := ⟨i 0, i 1, eq_ix2 (n0 := 896) (n1 := 4864) i⟩
    have hN : f.val / 256 < cfg1.N := Nat.lt_of_lt_of_eq (by omega) N_1.symm
    refine ⟨⟨f.val / 256, hN⟩, flush1_16 _, ?_⟩
    have h := mem_of_emb (cfg1.win 16) ⟨f.val / 256, hN⟩ (show S896x256.Idx from ix2 d ⟨f.val % 256, by omega⟩)
    erw [emb1_16] at h
    have e : bcol ⟨f.val / 256, hN⟩ ⟨f.val % 256, by omega⟩ = f := Fin.ext (by simp only [bcol, pos]; omega)
    rw [e] at h; exact h
omit H in
theorem ix1_17 : ∀ t : Fin cfg1.N, (cfg1.win 17).index t 0 = t.val := by decide +kernel
omit H in
theorem emb1_17 (t : Fin cfg1.N) (d : Fin 256) (l : Fin 896) : ((cfg1.win 17).blk t).view.emb (ix2 d l : S256x896.Idx) = (ix2 (bcol t d) l : S4864x896.Idx) := by
  funext a
  fin_cases a
  · exact Fin.ext ((Pipeline.Window.rect_emb_val (cfg1.win 17) t _ 0).trans (by rw [ix1_17]; rfl))
  · exact Fin.ext (Pipeline.Window.rect_emb_val_of_index_zero (cfg1.win 17) t 1 rfl _)
theorem arr1_17 : (dat1 V c).arrAt 17 cfg1.N = (fun j => I.OD (j 0) (j 1) : Vec Ideal S4864x896 .f32) := by
  refine (dat1 V c).arrAt_eq_of_cover 17 _ (fun t _ => ?_) (fun i => ?_)
  · show (cfg1.win 17).cut (grid1.coords t) ((dat1 V c).after 17 t) = _
    funext y
    have hy : y = (ix2 (y 0) (y 1) : S256x896.Idx) := eq_ix2 (n0 := 256) (n1 := 896) y
    rw [hy]
    show (dat1 V c).after 17 t (ix2 (y 0) (y 1) : S256x896.Idx) = I.OD (((cfg1.win 17).blk t).view.emb _ 0) (((cfg1.win 17).blk t).view.emb _ 1)
    erw [emb1_17 t (y 0) (y 1)]
    exact od_at H t (y 0) (y 1)
  · obtain ⟨d, f, rfl⟩ : ∃ (d : Fin 4864) (f : Fin 896), i = (ix2 d f : S4864x896.Idx) := ⟨i 0, i 1, eq_ix2 (n0 := 4864) (n1 := 896) i⟩
    have hN : d.val / 256 < cfg1.N := Nat.lt_of_lt_of_eq (by omega) N_1.symm
    refine ⟨⟨d.val / 256, hN⟩, flush1_17 _, ?_⟩
    have h := mem_of_emb (cfg1.win 17) ⟨d.val / 256, hN⟩ (show S256x896.Idx from ix2 ⟨d.val % 256, by omega⟩ f)
    erw [emb1_17] at h
    have e : bcol ⟨d.val / 256, hN⟩ ⟨d.val % 256, by omega⟩ = d := Fin.ext (by simp only [bcol, pos]; omega)
    rw [e] at h; exact h

end Values

end Cert.KernelIdeal.Gen
-- ==== Proof.KernelIdeal.FwdBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.FwdDat

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The forward body at every point, as the pipeline runs it -/

/-- Each window's current staging buffer at point `t`, and its wholeness. -/
abbrev ms0_0 (t : Fin cfg0.N) : Memref sig .tc .vmem S256x896 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x896 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x896 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x896 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S896x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S896x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S896x256 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S896x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x896 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x896 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x896 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x14 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x256 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x896 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x896 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x896 .bf16 := win0_22.stage (cfg0.slots t 22)
abbrev hs0_22 (t : Fin cfg0.N) : (ms0_22 t).IsWhole := hstage0_22 ((cfg0.slots t 22).cast nbuf0_22)

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d)))
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t
    ∗ (dat0 V c).leavesExact 19 t
    ∗ (dat0 V c).leavesExact 20 t
    ∗ (dat0 V c).leavesExact 21 t
    ∗ (dat0 V c).leavesExact 22 t)

/-- A window that is not idle at a point is left at what the body leaves. -/
theorem leaves_live (c : Dev nD) (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]
/-- A window that is idle at a point which writes it back too. -/
theorem leaves_flush (c : Dev nD) (w : Fin cfg0.W) (t : Fin cfg0.N) (h : cfg0.idle w (cfg0.grid.coords t) = true) (hf : (cfg0.win w).flush t = true) :
    (dat0 V c).leavesExact w t = owns (c : Thread nD τ) ((cfg0.win w).stage (cfg0.slots t w)) fullShare ((dat0 V c).after w t) := by
  unfold Dat.leavesExact; rw [h, hf]

set_option maxHeartbeats 4000000 in
/-- At the first point. -/
theorem sound_body0_A (c : Dev nD) (t : Fin cfg0.N) (h0 : t.val % 19 = 0) (h1 : ¬t.val % 19 = 18) :
    bodyPre0 V c t ⊢ wp frame (wpE (defs₀ (F := F)) Variants.none c none) Set.univ (bodyAt0 t) (fun _ => bodyPost0 V c t) := by
  have hN : t.val < 19 := lt_of_lt_of_eq t.isLt (show cfg0.N = 19 from N_0)
  have hz : t.val = 0 := by omega
  have ht : t = pt0 := Fin.ext hz
  unfold bodyPre0 bodyPost0 bodyAt0
  simp only [before0_0, before0_1, before0_2, before0_3, before0_4, before0_5, before0_6, before0_7, before0_8, before0_9, before0_10, before0_11]
  rw [show (dat0 V c).owesAt () t.succ = (dat0 V c).owesAt () t.castSucc from rfl,
    show (dat0 V c).Φ t.succ = iprop(owns (c : Thread nD τ) scM0_0 fullShare (fYH V c t.val t.isLt) ∗ Pipeline.scopedRestBut spec0 c [cc0_scratch0] ∗ (∃ r, prngReg c r)) from rfl,
    PhiS_castSucc V c t, PhiS_zero V c _ _ hz, PhiA0_eq]
  rw [leaves_live V c 0 t rfl, after0_0]
  rw [leaves_live V c 1 t rfl, after0_1]
  rw [leaves_live V c 2 t rfl, after0_2]
  rw [leaves_live V c 3 t rfl, after0_3]
  rw [leaves_live V c 4 t rfl, after0_4]
  rw [leaves_live V c 5 t rfl, after0_5]
  rw [leaves_live V c 6 t rfl, after0_6]
  rw [leaves_live V c 7 t rfl, after0_7]
  rw [leaves_live V c 8 t rfl, after0_8]
  rw [leaves_live V c 9 t rfl, after0_9]
  rw [leaves_live V c 10 t rfl, after0_10]
  rw [leaves_live V c 11 t rfl, after0_11]
  rw [Dat.leavesExact_idle (dat0 V c) 12 t (idle0_12 t (fun h => h1 ((hcond0_1 t).mp h))) (noFlush0_12 t h1)]
  rw [leaves_live V c 13 t (live0_13 t ((hcond0_0 t).mpr h0)), after0_13]
  rw [leaves_live V c 14 t (live0_14 t ((hcond0_0 t).mpr h0)), after0_14]
  rw [leaves_live V c 15 t rfl, after0_15]
  rw [leaves_live V c 16 t rfl, after0_16]
  rw [leaves_live V c 17 t (live0_17 t ((hcond0_0 t).mpr h0)), after0_17]
  rw [leaves_live V c 18 t rfl, after0_18]
  rw [leaves_live V c 19 t rfl, after0_19]
  rw [leaves_live V c 20 t rfl, after0_20]
  rw [Dat.leavesExact_idle (dat0 V c) 21 t (idle0_21 t (fun h => h1 ((hcond0_1 t).mp h))) (noFlush0_21 t h1)]
  rw [Dat.leavesExact_idle (dat0 V c) 22 t (idle0_22 t (fun h => h1 ((hcond0_1 t).mp h))) (noFlush0_22 t h1)]
  iintro ⟨⟨⟨⟨%d23, H23⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_A (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) c (grid0.coords t) ((hcond0_0 t).mpr h0) (fun h => h1 ((hcond0_1 t).mp h)) ((dat0 V c).before 12 t d12) ((dat0 V c).before 21 t d21) ((dat0 V c).before 22 t d22) Set.univ _ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ owns (c : Thread nD τ) (ms0_7 t) fullShare (iblk0 V c 7 t) ∗ owns (c : Thread nD τ) (ms0_8 t) fullShare (iblk0 V c 8 t) ∗ owns (c : Thread nD τ) (ms0_9 t) fullShare (iblk0 V c 9 t) ∗ owns (c : Thread nD τ) (ms0_10 t) fullShare (iblk0 V c 10 t) ∗ owns (c : Thread nD τ) (ms0_11 t) fullShare (iblk0 V c 11 t) ∗ owns (c : Thread nD τ) (ms0_12 t) fullShare (((dat0 V c).before 12 t d12)) ∗ owns (c : Thread nD τ) (ms0_13 t) fullShare (fXQ V c) ∗ owns (c : Thread nD τ) (ms0_14 t) fullShare (fXS V c) ∗ owns (c : Thread nD τ) (ms0_15 t) fullShare (fAQ V c t) ∗ owns (c : Thread nD τ) (ms0_16 t) fullShare (fSC V c t.val t.isLt) ∗ owns (c : Thread nD τ) (ms0_17 t) fullShare (fXH V c) ∗ owns (c : Thread nD τ) (ms0_18 t) fullShare (fGP V c t) ∗ owns (c : Thread nD τ) (ms0_19 t) fullShare (fUP V c t) ∗ owns (c : Thread nD τ) (ms0_20 t) fullShare (fAH V c t) ∗ owns (c : Thread nD τ) (ms0_21 t) fullShare (((dat0 V c).before 21 t d21)) ∗ owns (c : Thread nD τ) (ms0_22 t) fullShare (((dat0 V c).before 22 t d22)) ∗ owns (c : Thread nD τ) scM0_0 fullShare (fYH V c t.val t.isLt))) (by
    rw [fYH_zero V c t hz, fSC_zero V c t hz]; subst ht; exact .rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [H23 HR Hg]
  · isplitl [H23]; · iexact H23
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists d21; iexact H21
  iexists d22; iexact H22

set_option maxHeartbeats 4000000 in
/-- At a middle point. -/
theorem sound_body0_B (c : Dev nD) (t : Fin cfg0.N) (h0 : ¬t.val % 19 = 0) (h1 : ¬t.val % 19 = 18) :
    bodyPre0 V c t ⊢ wp frame (wpE (defs₀ (F := F)) Variants.none c none) Set.univ (bodyAt0 t) (fun _ => bodyPost0 V c t) := by
  have hN : t.val < 19 := lt_of_lt_of_eq t.isLt (show cfg0.N = 19 from N_0)
  have hz : t.val ≠ 0 := by omega
  have b13 : ∀ d, (dat0 V c).before 13 t d = fXQ V c := fun d => by
    have := before0_13 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b14 : ∀ d, (dat0 V c).before 14 t d = fXS V c := fun d => by
    have := before0_14 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b17 : ∀ d, (dat0 V c).before 17 t d = fXH V c := fun d => by
    have := before0_17 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  unfold bodyPre0 bodyPost0 bodyAt0
  simp only [before0_0, before0_1, before0_2, before0_3, before0_4, before0_5, before0_6, before0_7, before0_8, before0_9, before0_10, before0_11, before0_16 V c t hz, b13, b14, b17]
  rw [show (dat0 V c).owesAt () t.succ = (dat0 V c).owesAt () t.castSucc from rfl,
    show (dat0 V c).Φ t.succ = iprop(owns (c : Thread nD τ) scM0_0 fullShare (fYH V c t.val t.isLt) ∗ Pipeline.scopedRestBut spec0 c [cc0_scratch0] ∗ (∃ r, prngReg c r)) from rfl,
    PhiS_castSucc V c t, PhiS_pos V c _ _ hz]
  rw [leaves_live V c 0 t rfl, after0_0]
  rw [leaves_live V c 1 t rfl, after0_1]
  rw [leaves_live V c 2 t rfl, after0_2]
  rw [leaves_live V c 3 t rfl, after0_3]
  rw [leaves_live V c 4 t rfl, after0_4]
  rw [leaves_live V c 5 t rfl, after0_5]
  rw [leaves_live V c 6 t rfl, after0_6]
  rw [leaves_live V c 7 t rfl, after0_7]
  rw [leaves_live V c 8 t rfl, after0_8]
  rw [leaves_live V c 9 t rfl, after0_9]
  rw [leaves_live V c 10 t rfl, after0_10]
  rw [leaves_live V c 11 t rfl, after0_11]
  rw [Dat.leavesExact_idle (dat0 V c) 12 t (idle0_12 t (fun h => h1 ((hcond0_1 t).mp h))) (noFlush0_12 t h1)]
  rw [Dat.leavesExact_idle (dat0 V c) 13 t (idle0_13 t (fun h => h0 ((hcond0_0 t).mp h))) (noFlush0_13 t h1)]
  rw [Dat.leavesExact_idle (dat0 V c) 14 t (idle0_14 t (fun h => h0 ((hcond0_0 t).mp h))) (noFlush0_14 t h1)]
  rw [leaves_live V c 15 t rfl, after0_15]
  rw [leaves_live V c 16 t rfl, after0_16]
  rw [Dat.leavesExact_idle (dat0 V c) 17 t (idle0_17 t (fun h => h0 ((hcond0_0 t).mp h))) (noFlush0_17 t h1)]
  rw [leaves_live V c 18 t rfl, after0_18]
  rw [leaves_live V c 19 t rfl, after0_19]
  rw [leaves_live V c 20 t rfl, after0_20]
  rw [Dat.leavesExact_idle (dat0 V c) 21 t (idle0_21 t (fun h => h1 ((hcond0_1 t).mp h))) (noFlush0_21 t h1)]
  rw [Dat.leavesExact_idle (dat0 V c) 22 t (idle0_22 t (fun h => h1 ((hcond0_1 t).mp h))) (noFlush0_22 t h1)]
  simp only [b13, b14, b17]
  iintro ⟨⟨H23, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) c (grid0.coords t) (fun h => h0 ((hcond0_0 t).mp h)) (fun h => h1 ((hcond0_1 t).mp h)) ((dat0 V c).before 12 t d12) (fXQ V c) (fXS V c) (fSC V c (t.val - 1) (Nat.lt_of_le_of_lt (Nat.sub_le _ _) t.isLt)) (fXH V c) ((dat0 V c).before 21 t d21) ((dat0 V c).before 22 t d22) (fYH V c (t.val - 1) (Nat.lt_of_le_of_lt (Nat.sub_le _ _) t.isLt)) Set.univ _ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ owns (c : Thread nD τ) (ms0_7 t) fullShare (iblk0 V c 7 t) ∗ owns (c : Thread nD τ) (ms0_8 t) fullShare (iblk0 V c 8 t) ∗ owns (c : Thread nD τ) (ms0_9 t) fullShare (iblk0 V c 9 t) ∗ owns (c : Thread nD τ) (ms0_10 t) fullShare (iblk0 V c 10 t) ∗ owns (c : Thread nD τ) (ms0_11 t) fullShare (iblk0 V c 11 t) ∗ owns (c : Thread nD τ) (ms0_12 t) fullShare (((dat0 V c).before 12 t d12)) ∗ owns (c : Thread nD τ) (ms0_13 t) fullShare (fXQ V c) ∗ owns (c : Thread nD τ) (ms0_14 t) fullShare (fXS V c) ∗ owns (c : Thread nD τ) (ms0_15 t) fullShare (fAQ V c t) ∗ owns (c : Thread nD τ) (ms0_16 t) fullShare (fSC V c t.val t.isLt) ∗ owns (c : Thread nD τ) (ms0_17 t) fullShare (fXH V c) ∗ owns (c : Thread nD τ) (ms0_18 t) fullShare (fGP V c t) ∗ owns (c : Thread nD τ) (ms0_19 t) fullShare (fUP V c t) ∗ owns (c : Thread nD τ) (ms0_20 t) fullShare (fAH V c t) ∗ owns (c : Thread nD τ) (ms0_21 t) fullShare (((dat0 V c).before 21 t d21)) ∗ owns (c : Thread nD τ) (ms0_22 t) fullShare (((dat0 V c).before 22 t d22)) ∗ owns (c : Thread nD τ) scM0_0 fullShare (fYH V c t.val t.isLt))) (by
    rw [fYH_pos V c t hz, fSC_pos V c t hz]; exact .rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [H17]; · iexact H17
  isplitl [H18]; · iexists _; iexact H18
  isplitl [H19]; · iexists _; iexact H19
  isplitl [H20]; · iexists _; iexact H20
  isplitl [H21]; · iexact H21
  isplitl [H22]; · iexact H22
  isplitl [H23]; · iexact H23
  iintro ⟨H0, H1, H2, H3, H4, H5, H6, H7, H8, H9, H10, H11, H12, H13, H14, H15, H16, H17, H18, H19, H20, H21, H22, H23⟩
  isplitl [H23 HR Hg]
  · isplitl [H23]; · iexact H23
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexists d13; iexact H13
  isplitl [H14]; · iexists d14; iexact H14
  isplitl [H15]; · iexact H15
  isplitl [H16]; · iexact H16
  isplitl [H17]; · iexists d17; iexact H17
  isplitl [H18]; · iexact H18
  isplitl [H19]; · iexact H19
  isplitl [H20]; · iexact H20
  isplitl [H21]; · iexists d21; iexact H21
  iexists d22; iexact H22

set_option maxHeartbeats 4000000 in
/-- At the last point. -/
theorem sound_body0_C (c : Dev nD) (t : Fin cfg0.N) (h0 : ¬t.val % 19 = 0) (h1 : t.val % 19 = 18) :
    bodyPre0 V c t ⊢ wp frame (wpE (defs₀ (F := F)) Variants.none c none) Set.univ (bodyAt0 t) (fun _ => bodyPost0 V c t) := by
  have hN : t.val < 19 := lt_of_lt_of_eq t.isLt (show cfg0.N = 19 from N_0)
  have hz : t.val ≠ 0 := by omega
  have b13 : ∀ d, (dat0 V c).before 13 t d = fXQ V c := fun d => by
    have := before0_13 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b14 : ∀ d, (dat0 V c).before 14 t d = fXS V c := fun d => by
    have := before0_14 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  have b17 : ∀ d, (dat0 V c).before 17 t d = fXH V c := fun d => by
    have := before0_17 V c (t.val - 1) (by rw [Nat.sub_add_cancel (by omega)]; exact t.isLt) d
    rwa [show (⟨t.val - 1 + 1, by rw [Nat.sub_add_cancel (by omega)]; exact t.isLt⟩ : Fin cfg0.N) = t from Fin.ext (Nat.sub_add_cancel (by omega))] at this
  unfold bodyPre0 bodyPost0 bodyAt0
  simp only [before0_0, before0_1, before0_2, before0_3, before0_4, before0_5, before0_6, before0_7, before0_8, before0_9, before0_10, before0_11, before0_16 V c t hz, b13, b14, b17]
  rw [show (dat0 V c).owesAt () t.succ = (dat0 V c).owesAt () t.castSucc from rfl,
    show (dat0 V c).Φ t.succ = iprop(owns (c : Thread nD τ) scM0_0 fullShare (fYH V c t.val t.isLt) ∗ Pipeline.scopedRestBut spec0 c [cc0_scratch0] ∗ (∃ r, prngReg c r)) from rfl,
    PhiS_castSucc V c t, PhiS_pos V c _ _ hz]
  rw [leaves_live V c 0 t rfl, after0_0]
  rw [leaves_live V c 1 t rfl, after0_1]
  rw [leaves_live V c 2 t rfl, after0_2]
  rw [leaves_live V c 3 t rfl, after0_3]
  rw [leaves_live V c 4 t rfl, after0_4]
  rw [leaves_live V c 5 t rfl, after0_5]
  rw [leaves_live V c 6 t rfl, after0_6]
  rw [leaves_live V c 7 t rfl, after0_7]
  rw [leaves_live V c 8 t rfl, after0_8]
  rw [leaves_live V c 9 t rfl, after0_9]
  rw [leaves_live V c 10 t rfl, after0_10]
  rw [leaves_live V c 11 t rfl, after0_11]
  rw [leaves_live V c 12 t (live0_12 t ((hcond0_1 t).mpr h1)), after0_12]
  rw [leaves_flush V c 13 t (idle0_13 t (fun h => h0 ((hcond0_0 t).mp h))) ((flush0_13 t).mpr h1), after0_13]
  rw [leaves_flush V c 14 t (idle0_14 t (fun h => h0 ((hcond0_0 t).mp h))) ((flush0_14 t).mpr h1), after0_14]
  rw [leaves_live V c 15 t rfl, after0_15]
  rw [leaves_live V c 16 t rfl, after0_16]
  rw [leaves_flush V c 17 t (idle0_17 t (fun h => h0 ((hcond0_0 t).mp h))) ((flush0_17 t).mpr h1), after0_17]
  rw [leaves_live V c 18 t rfl, after0_18]
  rw [leaves_live V c 19 t rfl, after0_19]
  rw [leaves_live V c 20 t rfl, after0_20]
  rw [leaves_live V c 21 t (live0_21 t ((hcond0_1 t).mpr h1)), after0_21]
  rw [leaves_live V c 22 t (live0_22 t ((hcond0_1 t).mpr h1)), after0_22]
  iintro ⟨⟨H23, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_C (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) c (grid0.coords t) (fun h => h0 ((hcond0_0 t).mp h)) ((hcond0_1 t).mpr h1) (fXQ V c) (fXS V c) (fSC V c (t.val - 1) (Nat.lt_of_le_of_lt (Nat.sub_le _ _) t.isLt)) (fXH V c) (fYH V c (t.val - 1) (Nat.lt_of_le_of_lt (Nat.sub_le _ _) t.isLt)) Set.univ _ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ owns (c : Thread nD τ) (ms0_7 t) fullShare (iblk0 V c 7 t) ∗ owns (c : Thread nD τ) (ms0_8 t) fullShare (iblk0 V c 8 t) ∗ owns (c : Thread nD τ) (ms0_9 t) fullShare (iblk0 V c 9 t) ∗ owns (c : Thread nD τ) (ms0_10 t) fullShare (iblk0 V c 10 t) ∗ owns (c : Thread nD τ) (ms0_11 t) fullShare (iblk0 V c 11 t) ∗ owns (c : Thread nD τ) (ms0_12 t) fullShare (fLO V c t) ∗ owns (c : Thread nD τ) (ms0_13 t) fullShare (fXQ V c) ∗ owns (c : Thread nD τ) (ms0_14 t) fullShare (fXS V c) ∗ owns (c : Thread nD τ) (ms0_15 t) fullShare (fAQ V c t) ∗ owns (c : Thread nD τ) (ms0_16 t) fullShare (fSC V c t.val t.isLt) ∗ owns (c : Thread nD τ) (ms0_17 t) fullShare (fXH V c) ∗ owns (c : Thread nD τ) (ms0_18 t) fullShare (fGP V c t) ∗ owns (c : Thread nD τ) (ms0_19 t) fullShare (fUP V c t) ∗ owns (c : Thread nD τ) (ms0_20 t) fullShare (fAH V c t) ∗ owns (c : Thread nD τ) (ms0_21 t) fullShare (fDY V c t) ∗ owns (c : Thread nD τ) (ms0_22 t) fullShare (fDS V c t) ∗ owns (c : Thread nD τ) scM0_0 fullShare (fYH V c t.val t.isLt))) (by
    unfold fLO fDY fDS; rw [fYH_pos V c t hz, fSC_pos V c t hz]; exact .rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexists _; iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexact H23
  iintro ⟨H0, H1, H2, H3, H4, H5, H6, H7, H8, H9, H10, H11, H12, H13, H14, H15, H16, H17, H18, H19, H20, H21, H22, H23⟩
  isplitl [H23 HR Hg]
  · isplitl [H23]; · iexact H23
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 19 = 0
  · exact sound_body0_A V c t h0 (by omega)
  · by_cases h1 : t.val % 19 = 18
    · exact sound_body0_C V c t h0 h1
    · exact sound_body0_B V c t h0 h1

theorem defs₀_row0 (t : Fin cfg0.N) :
    defs₀ (F := F) .tc cfg0.body (cfg0.bodyArgs t (cfg0.slots t)) = bodyAt0 t := by
  unfold defs₀; rw [Defs.onTc_tc]

set_option maxHeartbeats 4000000 in
/-- The pipeline's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back, the running sum forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 19 := N_0; omega), PhiA0_eq]
  iintro ⟨HS, HR, Hg⟩
  isplitl [HS HR]
  · isplitl [HS]; · iexists _; iexact HS
    iexact HR
  iexact Hg

end Cert.KernelIdeal.Gen
-- ==== Proof.KernelIdeal.Hosts.lean ====
/- The host operations before and after the two kernels. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9, main_v10, main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.KernelIdeal.Gen

end
-- ==== Proof.KernelIdeal.Fold.lean ====
/- The buffers at every boundary of the program, folded from the launch. -/
module

public import proofs.«01_k».proof.Proof.KernelIdeal.FwdBody
public import proofs.«01_k».proof.Proof.KernelIdeal.BwdBody
public import proofs.«01_k».proof.Proof.KernelIdeal.Hosts

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered  (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
end Cert.KernelIdeal.Gen

end
-- ==== Proof.Results.lean ====
/- The arguments' arrays as the specification's arguments, and the specification's results as arrays. -/
module

public import proofs.«01_k».proof.Proof.Spec
public import Idealize.ShloMosaic.Lib.Pointwise

@[expose] public section

noncomputable section

namespace Cert.Spec

open Idealize.ShloMosaic

/-- An index whose first extent is one is given by its other coordinates. -/
theorem one_ix2 {n : ℕ} (j : (⟨2, ![1, n]⟩ : Shape).Idx) : ∃ r : Fin n, j = ix2 0 r :=
  ⟨j 1, (eq_ix2 (n0 := 1) (n1 := n) j).trans (congrArg (fun a : Fin 1 => (ix2 a (j 1) : (⟨2, ![1, n]⟩ : Shape).Idx)) (Subsingleton.elim _ _))⟩
theorem one_ix3 {n k : ℕ} (j : (⟨3, ![1, n, k]⟩ : Shape).Idx) : ∃ (r : Fin n) (d : Fin k), j = ix3 0 r d :=
  ⟨j 1, j 2, (eq_ix3 (n0 := 1) (n1 := n) (n2 := k) j).trans
    (congrArg (fun a : Fin 1 => (ix3 a (j 1) (j 2) : (⟨3, ![1, n, k]⟩ : Shape).Idx)) (Subsingleton.elim _ _))⟩

/-- The specification's arguments in the twelve argument arrays. -/
def In.of (x y g : Vec Ideal ⟨3, ![1, 256, 896]⟩ .bf16)
    (gf : Vec Ideal ⟨2, ![896, 4864]⟩ .i8) (gs : Vec Ideal ⟨1, ![4864]⟩ .f32) (gv : Vec Ideal ⟨2, ![896, 4864]⟩ .f32)
    (uf : Vec Ideal ⟨2, ![896, 4864]⟩ .i8) (us : Vec Ideal ⟨1, ![4864]⟩ .f32) (uv : Vec Ideal ⟨2, ![896, 4864]⟩ .f32)
    (df : Vec Ideal ⟨2, ![4864, 896]⟩ .i8) (ds : Vec Ideal ⟨1, ![896]⟩ .f32) (dv : Vec Ideal ⟨2, ![4864, 896]⟩ .f32) : In where
  x r d := x (ix3 0 r d)
  y r d := y (ix3 0 r d)
  g r d := g (ix3 0 r d)
  gf d f := gf (ix2 d f)
  gs f := gs (ix1 f)
  gv d f := gv (ix2 d f)
  uf d f := uf (ix2 d f)
  us f := us (ix1 f)
  uv d f := uv (ix2 d f)
  df f d := df (ix2 f d)
  ds d := ds (ix1 d)
  dv f d := dv (ix2 f d)

namespace In
variable (I : In)

/-- The eight results as arrays. -/
def rLoss : Vec Ideal ⟨2, ![1, 256]⟩ .f32 := fun j => I.loss (j 1)
def rOG : Vec Ideal ⟨2, ![896, 4864]⟩ .f32 := fun j => I.OG (j 0) (j 1)
def rOU : Vec Ideal ⟨2, ![896, 4864]⟩ .f32 := fun j => I.OU (j 0) (j 1)
def rOD : Vec Ideal ⟨2, ![4864, 896]⟩ .f32 := fun j => I.OD (j 0) (j 1)
def rXQ : Vec Ideal ⟨3, ![1, 256, 896]⟩ .i8 := fun j => I.XQ (j 1) (j 2)
def rXS : Vec Ideal ⟨3, ![1, 256, 14]⟩ .f32 := fun j => I.XS (j 1) (j 2)
def rAQ : Vec Ideal ⟨3, ![1, 256, 4864]⟩ .i8 := fun j => I.AQ (j 1) (j 2)
def rAS : Vec Ideal ⟨3, ![1, 256, 76]⟩ .f32 := fun j => I.AS (j 1) (j 2)

end In

end Cert.Spec
-- ==== Proof.KernelIdeal.Out.lean ====
/- The kernel's eight results after the whole program, as the specification's results. -/
module

public import proofs.«01_k».proof.Proof.KernelIdeal.BwdAt
public import proofs.«01_k».proof.Proof.KernelIdeal.Fold
public import proofs.«01_k».proof.Proof.Results
public import Idealize.ShloMosaic.Lib.StableHlo.ReadAt

@[expose] public section

set_option maxRecDepth 16384

noncomputable section

namespace Cert.KernelIdeal.Gen

open Idealize.ShloMosaic Idealize.ShloMosaic.TcCoe Cert.Spec
open Idealize.ShloMosaic.Pipeline (Dat Cfg Window)

variable (m : (ℓ : Loc nD τ sig) → Buf (Elt Ideal) ℓ) (ρ : Dev nD → PrngReg) (c : Dev nD)

/-- The specification's arguments in the kernel's argument arrays. -/
def inM : In := In.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

/-! ## What the forward kernel reads: the arguments, some of them reshaped -/

theorem rd_v0 (r : Fin 256) (d : Fin 896) : (V1 m ρ c main_v0 : Vec Ideal S256x896 .bf16) (ix2 r d)
    = (m ((c : Thread nD τ).loc main_arg0) : Vec Ideal S1x256x896 .bf16) (ix3 0 r d) := by
  unfold V1 W1 hostOps0
  after_reads_at
  all_goals rfl
theorem rd_v1 (r : Fin 256) (d : Fin 896) : (V1 m ρ c main_v1 : Vec Ideal S256x896 .bf16) (ix2 r d)
    = (m ((c : Thread nD τ).loc main_arg1) : Vec Ideal S1x256x896 .bf16) (ix3 0 r d) := by
  unfold V1 W1 hostOps0
  after_reads_at
  all_goals rfl
theorem rd_v2 (r : Fin 256) (d : Fin 896) : (V1 m ρ c main_v2 : Vec Ideal S256x896 .bf16) (ix2 r d)
    = (m ((c : Thread nD τ).loc main_arg2) : Vec Ideal S1x256x896 .bf16) (ix3 0 r d) := by
  unfold V1 W1 hostOps0
  after_reads_at
  all_goals rfl
theorem rd_v3 (f : Fin 4864) : (V1 m ρ c main_v3 : Vec Ideal S1x4864 .f32) (ix2 0 f)
    = (m ((c : Thread nD τ).loc main_arg4) : Vec Ideal S4864 .f32) (ix1 f) := by
  unfold V1 W1 hostOps0
  after_reads_at
  all_goals rfl
theorem rd_v4 (f : Fin 4864) : (V1 m ρ c main_v4 : Vec Ideal S1x4864 .f32) (ix2 0 f)
    = (m ((c : Thread nD τ).loc main_arg7) : Vec Ideal S4864 .f32) (ix1 f) := by
  unfold V1 W1 hostOps0
  after_reads_at
  all_goals rfl
theorem rd_v5 (f : Fin 896) : (V1 m ρ c main_v5 : Vec Ideal S1x896 .f32) (ix2 0 f)
    = (m ((c : Thread nD τ).loc main_arg10) : Vec Ideal S896 .f32) (ix1 f) := by
  unfold V1 W1 hostOps0
  after_reads_at
  all_goals rfl

theorem inV_eq : inV (V1 m ρ) c = inM m c := by
  unfold inV inM In.of
  rw [In.mk.injEq]
  refine ⟨funext fun r => funext fun d => rd_v0 m ρ c r d, funext fun r => funext fun d => rd_v1 m ρ c r d,
    funext fun r => funext fun d => rd_v2 m ρ c r d, ?_, funext fun f => rd_v3 m ρ c f, ?_, ?_, funext fun f => rd_v4 m ρ c f, ?_, ?_,
    funext fun d => rd_v5 m ρ c d, ?_⟩
  · exact congrArg (fun (a : Vec Ideal S896x4864 .i8) d f => a (ix2 d f)) (W1_args m ρ c main_arg3 (by decide))
  · exact congrArg (fun (a : Vec Ideal S896x4864 .f32) d f => a (ix2 d f)) (W1_args m ρ c main_arg5 (by decide))
  · exact congrArg (fun (a : Vec Ideal S896x4864 .i8) d f => a (ix2 d f)) (W1_args m ρ c main_arg6 (by decide))
  · exact congrArg (fun (a : Vec Ideal S896x4864 .f32) d f => a (ix2 d f)) (W1_args m ρ c main_arg8 (by decide))
  · exact congrArg (fun (a : Vec Ideal S4864x896 .i8) d f => a (ix2 d f)) (W1_args m ρ c main_arg9 (by decide))
  · exact congrArg (fun (a : Vec Ideal S4864x896 .f32) d f => a (ix2 d f)) (W1_args m ρ c main_arg11 (by decide))

/-! ## What the backward kernel reads -/

theorem bwdIn : BwdIn (V2 m ρ) c (inM m c) := by
  have I : inV (V1 m ρ) c = inM m c := inV_eq m ρ c
  constructor
  · intro a b
    refine (congrFun (W2_arr m ρ c 17) (ix2 a b : S256x896.Idx)).trans ?_
    rw [arr0_17, ← I]; exact fXH_at _ _ a b
  · intro a b
    refine (congrFun (W2_arr m ρ c 21) (ix2 a b : S256x896.Idx)).trans ?_
    rw [arr0_21, ← I]; exact fDY_at _ _ a ptL ptL_val b
  · intro a b
    refine (congrFun (W2_arr m ρ c 22) (ix2 a b : S256x896.Idx)).trans ?_
    rw [arr0_22, ← I]; exact fDS_at _ _ a ptL ptL_val b
  · intro a b
    refine (congrFun (W2_arr m ρ c 18) (ix2 a b : S256x4864.Idx)).trans ?_
    rw [arr0_18, ← I]; rfl
  · intro a b
    refine (congrFun (W2_arr m ρ c 19) (ix2 a b : S256x4864.Idx)).trans ?_
    rw [arr0_19, ← I]; rfl
  · intro a b
    refine (congrFun (W2_arr m ρ c 20) (ix2 a b : S256x4864.Idx)).trans ?_
    rw [arr0_20, ← I]; rfl
  · intro a b
    exact congrFun (W2_args m ρ c main_arg3 (by decide)) (ix2 a b : S896x4864.Idx)
  · intro a
    exact (congrFun (W2_of m ρ c main_v3 (by decide)) (ix2 0 a : S1x4864.Idx)).trans (rd_v3 m ρ c a)
  · intro a b
    exact congrFun (W2_args m ρ c main_arg5 (by decide)) (ix2 a b : S896x4864.Idx)
  · intro a b
    exact congrFun (W2_args m ρ c main_arg6 (by decide)) (ix2 a b : S896x4864.Idx)
  · intro a
    exact (congrFun (W2_of m ρ c main_v4 (by decide)) (ix2 0 a : S1x4864.Idx)).trans (rd_v4 m ρ c a)
  · intro a b
    exact congrFun (W2_args m ρ c main_arg8 (by decide)) (ix2 a b : S896x4864.Idx)
  · intro a b
    exact congrFun (W2_args m ρ c main_arg9 (by decide)) (ix2 a b : S4864x896.Idx)
  · intro a
    exact (congrFun (W2_of m ρ c main_v5 (by decide)) (ix2 0 a : S1x896.Idx)).trans (rd_v5 m ρ c a)
  · intro a b
    exact congrFun (W2_args m ρ c main_arg11 (by decide)) (ix2 a b : S4864x896.Idx)

/-! ## The results -/

theorem out_rOG : W4 m ρ c (Proc.devRef .tc main_v7_0) = (inM m c).rOG :=
  (W4_of m ρ c main_v7_0 (by decide)).trans ((W3_arr m ρ c 15).trans (arr1_15 (bwdIn m ρ c)))
theorem out_rOU : W4 m ρ c (Proc.devRef .tc main_v7_1) = (inM m c).rOU :=
  (W4_of m ρ c main_v7_1 (by decide)).trans ((W3_arr m ρ c 16).trans (arr1_16 (bwdIn m ρ c)))
theorem out_rOD : W4 m ρ c (Proc.devRef .tc main_v7_2) = (inM m c).rOD :=
  (W4_of m ρ c main_v7_2 (by decide)).trans ((W3_arr m ρ c 17).trans (arr1_17 (bwdIn m ρ c)))
theorem w3_12 : W3 m ρ c (Proc.devRef .tc main_v6_0) = (fLO (V1 m ρ) c ptL : Vec Ideal S256x1 .f32) :=
  (W3_of m ρ c main_v6_0 (by decide)).trans ((W2_arr m ρ c 12).trans (arr0_12 (V1 m ρ) c))
theorem w3_13 : W3 m ρ c (Proc.devRef .tc main_v6_1) = (fXQ (V1 m ρ) c : Vec Ideal S256x896 .i8) :=
  (W3_of m ρ c main_v6_1 (by decide)).trans ((W2_arr m ρ c 13).trans (arr0_13 (V1 m ρ) c))
theorem w3_14 : W3 m ρ c (Proc.devRef .tc main_v6_2) = (fXS (V1 m ρ) c : Vec Ideal S256x14 .f32) :=
  (W3_of m ρ c main_v6_2 (by decide)).trans ((W2_arr m ρ c 14).trans (arr0_14 (V1 m ρ) c))
theorem w3_15 : W3 m ρ c (Proc.devRef .tc main_v6_3) = (fun j => (inV (V1 m ρ) c).AQ (j 0) (j 1) : Vec Ideal S256x4864 .i8) :=
  (W3_of m ρ c main_v6_3 (by decide)).trans ((W2_arr m ρ c 15).trans (arr0_15 (V1 m ρ) c))
theorem w3_16 : W3 m ρ c (Proc.devRef .tc main_v6_4) = (fSC (V1 m ρ) c 18 (by decide) : Vec Ideal S256x128 .f32) :=
  (W3_of m ρ c main_v6_4 (by decide)).trans ((W2_arr m ρ c 16).trans (arr0_16 (V1 m ρ) c))
theorem rd_main_v9 (r : Fin 256) (d : Fin 896) : (W4 m ρ c (Proc.devRef .tc main_v9) : Vec Ideal S1x256x896 .i8) (ix3 0 r d)
    = (W3 m ρ c (Proc.devRef .tc main_v6_1) : Vec Ideal S256x896 .i8) (ix2 r d) := by
  unfold W4 hostOps2
  after_reads_at
  all_goals rfl
theorem out_rXQ : W4 m ρ c (Proc.devRef .tc main_v9) = (inM m c).rXQ := by
  funext j
  obtain ⟨r, d, rfl⟩ := one_ix3 j
  refine (rd_main_v9 m ρ c r d).trans ?_
  rw [w3_13, ← inV_eq m ρ c]
  exact fXQ_at _ _ r d
theorem rd_main_v10 (r : Fin 256) (d : Fin 14) : (W4 m ρ c (Proc.devRef .tc main_v10) : Vec Ideal S1x256x14 .f32) (ix3 0 r d)
    = (W3 m ρ c (Proc.devRef .tc main_v6_2) : Vec Ideal S256x14 .f32) (ix2 r d) := by
  unfold W4 hostOps2
  after_reads_at
  all_goals rfl
theorem out_rXS : W4 m ρ c (Proc.devRef .tc main_v10) = (inM m c).rXS := by
  funext j
  obtain ⟨r, d, rfl⟩ := one_ix3 j
  refine (rd_main_v10 m ρ c r d).trans ?_
  rw [w3_14, ← inV_eq m ρ c]
  exact fXS_at _ _ r d
theorem rd_main_v11 (r : Fin 256) (d : Fin 4864) : (W4 m ρ c (Proc.devRef .tc main_v11) : Vec Ideal S1x256x4864 .i8) (ix3 0 r d)
    = (W3 m ρ c (Proc.devRef .tc main_v6_3) : Vec Ideal S256x4864 .i8) (ix2 r d) := by
  unfold W4 hostOps2
  after_reads_at
  all_goals rfl
theorem out_rAQ : W4 m ρ c (Proc.devRef .tc main_v11) = (inM m c).rAQ := by
  funext j
  obtain ⟨r, d, rfl⟩ := one_ix3 j
  refine (rd_main_v11 m ρ c r d).trans ?_
  rw [w3_15, ← inV_eq m ρ c]
  rfl
theorem rd_main_v13 (r : Fin 256) (d : Fin 76) : (W4 m ρ c (Proc.devRef .tc main_v13) : Vec Ideal S1x256x76 .f32) (ix3 0 r d)
    = (W3 m ρ c (Proc.devRef .tc main_v6_4) : Vec Ideal S256x128 .f32) (ix2 r ⟨d.val, by omega⟩) := by
  unfold W4 hostOps2
  after_reads_at
  all_goals rfl
theorem out_rAS : W4 m ρ c (Proc.devRef .tc main_v13) = (inM m c).rAS := by
  funext j
  obtain ⟨r, d, rfl⟩ := one_ix3 j
  refine (rd_main_v13 m ρ c r d).trans ?_
  rw [w3_16, ← inV_eq m ρ c]
  exact fSC_at _ _ r 18 (by decide) d (by omega)
theorem rd_main_v8 (r : Fin 256) : (W4 m ρ c (Proc.devRef .tc main_v8) : Vec Ideal S1x256 .f32) (ix2 0 r)
    = (W3 m ρ c (Proc.devRef .tc main_v6_0) : Vec Ideal S256x1 .f32) (ix2 r 0) := by
  unfold W4 hostOps2
  after_reads_at
  all_goals rfl
theorem out_rLoss : W4 m ρ c (Proc.devRef .tc main_v8) = (inM m c).rLoss := by
  funext j
  obtain ⟨r, rfl⟩ := one_ix2 j
  refine (rd_main_v8 m ρ c r).trans ?_
  rw [w3_12, ← inV_eq m ρ c]
  exact fLO_at _ _ r ptL ptL_val 0

end Cert.KernelIdeal.Gen
-- ==== Proof.KernelIdeal.State.lean ====
/- The thread state between the segments. -/
module

public import proofs.«01_k».proof.Proof.KernelIdeal.Fold

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.KernelIdeal.Gen

end
-- ==== Proof.KernelIdeal.FwdSeg.lean ====
/- The forward kernel as a segment. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]
    refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.BwdSeg.lean ====
/- The backward kernel as a segment. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Run.lean ====
/- The whole program: what every execution ends in. -/
module

public import proofs.«01_k».proof.Proof.KernelIdeal.FwdSeg
public import proofs.«01_k».proof.Proof.KernelIdeal.BwdSeg

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every execution terminates; it ends with every unscoped buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => by
    have h := h.1
    exact ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩, h.2⟩) (run_all m ρ)

end Cert.KernelIdeal.Gen

end
-- ==== Proof.KernelIdeal.RunAt.lean ====
/- The kernel's run: its eight results are the specification's, its arguments stay. -/
module

public import proofs.«01_k».proof.Proof.KernelIdeal.Out
public import proofs.«01_k».proof.Proof.KernelIdeal.Run

@[expose] public section

noncomputable section

namespace Cert.KernelIdeal.Gen

open Idealize.ShloMosaic Idealize.ShloMosaic.TcCoe Cert.Spec Idealize.SL

variable (m : (ℓ : Loc nD τ sig) → Buf (Elt Ideal) ℓ) (ρ : Dev nD → PrngReg)

/-- Every run of the kernel ends with the specification's results, and with the arguments as launched. -/
theorem run_values : θ_run defs (onTc (τ := τ) (main (F := Ideal))) ⟨m, fun _ => 0, ρ⟩ (fun r => ∀ c : Dev nD,
      r.2.mem ((c.tc : Thread nD τ).loc main_v8) = (inM m c).rLoss
      ∧ r.2.mem ((c.tc : Thread nD τ).loc main_v7_0) = (inM m c).rOG
      ∧ r.2.mem ((c.tc : Thread nD τ).loc main_v7_1) = (inM m c).rOU
      ∧ r.2.mem ((c.tc : Thread nD τ).loc main_v7_2) = (inM m c).rOD
      ∧ r.2.mem ((c.tc : Thread nD τ).loc main_v9) = (inM m c).rXQ
      ∧ r.2.mem ((c.tc : Thread nD τ).loc main_v10) = (inM m c).rXS
      ∧ r.2.mem ((c.tc : Thread nD τ).loc main_v11) = (inM m c).rAQ
      ∧ r.2.mem ((c.tc : Thread nD τ).loc main_v13) = (inM m c).rAS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h.1 c _ (mem_uc main_v8 (by decide))).trans (out_rLoss m ρ c),
    (h.1 c _ (mem_uc main_v7_0 (by decide))).trans (out_rOG m ρ c),
    (h.1 c _ (mem_uc main_v7_1 (by decide))).trans (out_rOU m ρ c),
    (h.1 c _ (mem_uc main_v7_2 (by decide))).trans (out_rOD m ρ c),
    (h.1 c _ (mem_uc main_v9 (by decide))).trans (out_rXQ m ρ c),
    (h.1 c _ (mem_uc main_v10 (by decide))).trans (out_rXS m ρ c),
    (h.1 c _ (mem_uc main_v11 (by decide))).trans (out_rAQ m ρ c),
    (h.1 c _ (mem_uc main_v13 (by decide))).trans (out_rAS m ρ c),
    (h.1 c _ (mem_uc main_arg0 (by decide))).trans (W4_main_arg0 m ρ c),
    (h.1 c _ (mem_uc main_arg1 (by decide))).trans (W4_main_arg1 m ρ c),
    (h.1 c _ (mem_uc main_arg2 (by decide))).trans (W4_main_arg2 m ρ c),
    (h.1 c _ (mem_uc main_arg3 (by decide))).trans (W4_main_arg3 m ρ c),
    (h.1 c _ (mem_uc main_arg4 (by decide))).trans (W4_main_arg4 m ρ c),
    (h.1 c _ (mem_uc main_arg5 (by decide))).trans (W4_main_arg5 m ρ c),
    (h.1 c _ (mem_uc main_arg6 (by decide))).trans (W4_main_arg6 m ρ c),
    (h.1 c _ (mem_uc main_arg7 (by decide))).trans (W4_main_arg7 m ρ c),
    (h.1 c _ (mem_uc main_arg8 (by decide))).trans (W4_main_arg8 m ρ c),
    (h.1 c _ (mem_uc main_arg9 (by decide))).trans (W4_main_arg9 m ρ c),
    (h.1 c _ (mem_uc main_arg10 (by decide))).trans (W4_main_arg10 m ρ c),
    (h.1 c _ (mem_uc main_arg11 (by decide))).trans (W4_main_arg11 m ρ c)⟩) (run_all m ρ)

end Cert.KernelIdeal.Gen
-- ==== Proof.ReferenceIdeal.RefHost.lean ====
/- What the reference's body finds in its blocks, and where its stores end up. -/
module

public import proofs.«01_k».proof.Proof.Gen.ReferenceIdeal.Frame
public import proofs.«01_k».proof.Proof.Results
public import Idealize.ShloMosaic.Lib.StableHlo.ReadAt

@[expose] public section

set_option maxRecDepth 16384

noncomputable section

namespace Cert.ReferenceIdeal.Gen

open Idealize.ShloMosaic Idealize.ShloMosaic.TcCoe Cert.Spec
open Idealize.ShloMosaic.Pipeline (Dat Cfg Window)

variable (m : (ℓ : Loc nD τ sig) → Buf (Elt Ideal) ℓ) (c : Dev nD)

/-- The specification's arguments in the reference's argument arrays. -/
def inR : In := In.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

/-! ## The arguments that the body finds reshaped -/

theorem rd_v0 (r : Fin 256) (d : Fin 896) : (V m c main_v0 : Vec Ideal S256x896 .bf16) (ix2 r d)
    = (m ((c : Thread nD τ).loc main_arg0) : Vec Ideal S1x256x896 .bf16) (ix3 0 r d) := by
  unfold V V0 hostOps0
  after_reads_at
  all_goals rfl
theorem rd_v1 (r : Fin 256) (d : Fin 896) : (V m c main_v1 : Vec Ideal S256x896 .bf16) (ix2 r d)
    = (m ((c : Thread nD τ).loc main_arg1) : Vec Ideal S1x256x896 .bf16) (ix3 0 r d) := by
  unfold V V0 hostOps0
  after_reads_at
  all_goals rfl
theorem rd_v2 (r : Fin 256) (d : Fin 896) : (V m c main_v2 : Vec Ideal S256x896 .bf16) (ix2 r d)
    = (m ((c : Thread nD τ).loc main_arg2) : Vec Ideal S1x256x896 .bf16) (ix3 0 r d) := by
  unfold V V0 hostOps0
  after_reads_at
  all_goals rfl
theorem rd_v3 (f : Fin 4864) : (V m c main_v3 : Vec Ideal S1x4864 .f32) (ix2 0 f)
    = (m ((c : Thread nD τ).loc main_arg4) : Vec Ideal S4864 .f32) (ix1 f) := by
  unfold V V0 hostOps0
  after_reads_at
  all_goals rfl
theorem rd_v4 (f : Fin 4864) : (V m c main_v4 : Vec Ideal S1x4864 .f32) (ix2 0 f)
    = (m ((c : Thread nD τ).loc main_arg7) : Vec Ideal S4864 .f32) (ix1 f) := by
  unfold V V0 hostOps0
  after_reads_at
  all_goals rfl
theorem rd_v5 (f : Fin 896) : (V m c main_v5 : Vec Ideal S1x896 .f32) (ix2 0 f)
    = (m ((c : Thread nD τ).loc main_arg10) : Vec Ideal S896 .f32) (ix1 f) := by
  unfold V V0 hostOps0
  after_reads_at
  all_goals rfl

/-! ## The blocks: whole arrays -/

theorem blk_0 (t : Fin cfg0.N) : (iblk m c 0 t : Vec Ideal S256x896 .bf16) = V m c main_v0 := by
  funext y
  show V m c main_v0 (((cfg0.win 0).rect t).emb y) = _
  congr 1
  funext a
  exact Fin.ext (Pipeline.Window.rect_emb_val_of_index_zero (cfg0.win 0) t a (by fin_cases a <;> rfl) y)
theorem blk_1 (t : Fin cfg0.N) : (iblk m c 1 t : Vec Ideal S256x896 .bf16) = V m c main_v1 := by
  funext y
  show V m c main_v1 (((cfg0.win 1).rect t).emb y) = _
  congr 1
  funext a
  exact Fin.ext (Pipeline.Window.rect_emb_val_of_index_zero (cfg0.win 1) t a (by fin_cases a <;> rfl) y)
theorem blk_2 (t : Fin cfg0.N) : (iblk m c 2 t : Vec Ideal S256x896 .bf16) = V m c main_v2 := by
  funext y
  show V m c main_v2 (((cfg0.win 2).rect t).emb y) = _
  congr 1
  funext a
  exact Fin.ext (Pipeline.Window.rect_emb_val_of_index_zero (cfg0.win 2) t a (by fin_cases a <;> rfl) y)
theorem blk_3 (t : Fin cfg0.N) : (iblk m c 3 t : Vec Ideal S896x4864 .i8) = V m c main_arg3 := by
  funext y
  show V m c main_arg3 (((cfg0.win 3).rect t).emb y) = _
  congr 1
  funext a
  exact Fin.ext (Pipeline.Window.rect_emb_val_of_index_zero (cfg0.win 3) t a (by fin_cases a <;> rfl) y)
theorem blk_4 (t : Fin cfg0.N) : (iblk m c 4 t : Vec Ideal S1x4864 .f32) = V m c main_v3 := by
  funext y
  show V m c main_v3 (((cfg0.win 4).rect t).emb y) = _
  congr 1
  funext a
  exact Fin.ext (Pipeline.Window.rect_emb_val_of_index_zero (cfg0.win 4) t a (by fin_cases a <;> rfl) y)
theorem blk_5 (t : Fin cfg0.N) : (iblk m c 5 t : Vec Ideal S896x4864 .f32) = V m c main_arg5 := by
  funext y
  show V m c main_arg5 (((cfg0.win 5).rect t).emb y) = _
  congr 1
  funext a
  exact Fin.ext (Pipeline.Window.rect_emb_val_of_index_zero (cfg0.win 5) t a (by fin_cases a <;> rfl) y)
theorem blk_6 (t : Fin cfg0.N) : (iblk m c 6 t : Vec Ideal S896x4864 .i8) = V m c main_arg6 := by
  funext y
  show V m c main_arg6 (((cfg0.win 6).rect t).emb y) = _
  congr 1
  funext a
  exact Fin.ext (Pipeline.Window.rect_emb_val_of_index_zero (cfg0.win 6) t a (by fin_cases a <;> rfl) y)
theorem blk_7 (t : Fin cfg0.N) : (iblk m c 7 t : Vec Ideal S1x4864 .f32) = V m c main_v4 := by
  funext y
  show V m c main_v4 (((cfg0.win 7).rect t).emb y) = _
  congr 1
  funext a
  exact Fin.ext (Pipeline.Window.rect_emb_val_of_index_zero (cfg0.win 7) t a (by fin_cases a <;> rfl) y)
theorem blk_8 (t : Fin cfg0.N) : (iblk m c 8 t : Vec Ideal S896x4864 .f32) = V m c main_arg8 := by
  funext y
  show V m c main_arg8 (((cfg0.win 8).rect t).emb y) = _
  congr 1
  funext a
  exact Fin.ext (Pipeline.Window.rect_emb_val_of_index_zero (cfg0.win 8) t a (by fin_cases a <;> rfl) y)
theorem blk_9 (t : Fin cfg0.N) : (iblk m c 9 t : Vec Ideal S4864x896 .i8) = V m c main_arg9 := by
  funext y
  show V m c main_arg9 (((cfg0.win 9).rect t).emb y) = _
  congr 1
  funext a
  exact Fin.ext (Pipeline.Window.rect_emb_val_of_index_zero (cfg0.win 9) t a (by fin_cases a <;> rfl) y)
theorem blk_10 (t : Fin cfg0.N) : (iblk m c 10 t : Vec Ideal S1x896 .f32) = V m c main_v5 := by
  funext y
  show V m c main_v5 (((cfg0.win 10).rect t).emb y) = _
  congr 1
  funext a
  exact Fin.ext (Pipeline.Window.rect_emb_val_of_index_zero (cfg0.win 10) t a (by fin_cases a <;> rfl) y)
theorem blk_11 (t : Fin cfg0.N) : (iblk m c 11 t : Vec Ideal S4864x896 .f32) = V m c main_arg11 := by
  funext y
  show V m c main_arg11 (((cfg0.win 11).rect t).emb y) = _
  congr 1
  funext a
  exact Fin.ext (Pipeline.Window.rect_emb_val_of_index_zero (cfg0.win 11) t a (by fin_cases a <;> rfl) y)

/-! ## The output blocks: whole arrays -/

theorem emb_12 (t : Fin cfg0.N) (y : S256x1.Idx) : ((cfg0.win 12).blk t).view.emb y = y := by
  funext a
  exact Fin.ext (Pipeline.Window.rect_emb_val_of_index_zero (cfg0.win 12) t a (by fin_cases a <;> rfl) y)
theorem emb_13 (t : Fin cfg0.N) (y : S896x4864.Idx) : ((cfg0.win 13).blk t).view.emb y = y := by
  funext a
  exact Fin.ext (Pipeline.Window.rect_emb_val_of_index_zero (cfg0.win 13) t a (by fin_cases a <;> rfl) y)
theorem emb_14 (t : Fin cfg0.N) (y : S896x4864.Idx) : ((cfg0.win 14).blk t).view.emb y = y := by
  funext a
  exact Fin.ext (Pipeline.Window.rect_emb_val_of_index_zero (cfg0.win 14) t a (by fin_cases a <;> rfl) y)
theorem emb_15 (t : Fin cfg0.N) (y : S4864x896.Idx) : ((cfg0.win 15).blk t).view.emb y = y := by
  funext a
  exact Fin.ext (Pipeline.Window.rect_emb_val_of_index_zero (cfg0.win 15) t a (by fin_cases a <;> rfl) y)
theorem emb_16 (t : Fin cfg0.N) (y : S256x896.Idx) : ((cfg0.win 16).blk t).view.emb y = y := by
  funext a
  exact Fin.ext (Pipeline.Window.rect_emb_val_of_index_zero (cfg0.win 16) t a (by fin_cases a <;> rfl) y)
theorem emb_17 (t : Fin cfg0.N) (y : S256x14.Idx) : ((cfg0.win 17).blk t).view.emb y = y := by
  funext a
  exact Fin.ext (Pipeline.Window.rect_emb_val_of_index_zero (cfg0.win 17) t a (by fin_cases a <;> rfl) y)
theorem emb_18 (t : Fin cfg0.N) (y : S256x4864.Idx) : ((cfg0.win 18).blk t).view.emb y = y := by
  funext a
  exact Fin.ext (Pipeline.Window.rect_emb_val_of_index_zero (cfg0.win 18) t a (by fin_cases a <;> rfl) y)
theorem emb_19 (t : Fin cfg0.N) (y : S256x76.Idx) : ((cfg0.win 19).blk t).view.emb y = y := by
  funext a
  exact Fin.ext (Pipeline.Window.rect_emb_val_of_index_zero (cfg0.win 19) t a (by fin_cases a <;> rfl) y)

/-! ## The results that the host reshapes -/

variable (U : Valuation τ sig (Elt Ideal))
theorem rd_v7 (r : Fin 256) : (StableHlo.after (List.flatten [hostOps1]) U (Proc.devRef .tc main_v7) : Vec Ideal S1x256 .f32) (ix2 0 r)
    = (U (Proc.devRef .tc main_v6_0) : Vec Ideal S256x1 .f32) (ix2 r 0) := by
  unfold hostOps1
  after_reads_at
  all_goals rfl
theorem rd_v8 (r : Fin 256) (d : Fin 896) : (StableHlo.after (List.flatten [hostOps1]) U (Proc.devRef .tc main_v8) : Vec Ideal S1x256x896 .i8) (ix3 0 r d)
    = (U (Proc.devRef .tc main_v6_4) : Vec Ideal S256x896 .i8) (ix2 r d) := by
  unfold hostOps1
  after_reads_at
  all_goals rfl
theorem rd_v9 (r : Fin 256) (d : Fin 14) : (StableHlo.after (List.flatten [hostOps1]) U (Proc.devRef .tc main_v9) : Vec Ideal S1x256x14 .f32) (ix3 0 r d)
    = (U (Proc.devRef .tc main_v6_5) : Vec Ideal S256x14 .f32) (ix2 r d) := by
  unfold hostOps1
  after_reads_at
  all_goals rfl
theorem rd_v10 (r : Fin 256) (d : Fin 4864) : (StableHlo.after (List.flatten [hostOps1]) U (Proc.devRef .tc main_v10) : Vec Ideal S1x256x4864 .i8) (ix3 0 r d)
    = (U (Proc.devRef .tc main_v6_6) : Vec Ideal S256x4864 .i8) (ix2 r d) := by
  unfold hostOps1
  after_reads_at
  all_goals rfl
theorem rd_v11 (r : Fin 256) (d : Fin 76) : (StableHlo.after (List.flatten [hostOps1]) U (Proc.devRef .tc main_v11) : Vec Ideal S1x256x76 .f32) (ix3 0 r d)
    = (U (Proc.devRef .tc main_v6_7) : Vec Ideal S256x76 .f32) (ix2 r d) := by
  unfold hostOps1
  after_reads_at
  all_goals rfl

end Cert.ReferenceIdeal.Gen
-- ==== Proof.ReferenceIdeal.RefAt.lean ====
/- The reference's values, element by element, as the specification's. -/
module

public import proofs.«01_k».proof.Proof.Gen.ReferenceIdeal.Frame
public import proofs.«01_k».proof.Proof.Results

@[expose] public section

noncomputable section

namespace Cert.ReferenceIdeal.Gen

open Idealize.ShloMosaic Idealize.ShloMosaic.TcCoe Cert.Spec

/-! ## The weights -/

section Weights
variable (f : Vec Ideal S896x4864 .i8) (v : Vec Ideal S896x4864 .f32) (d : Fin 896) (n : Fin 4864)

theorem wt_g : k0_pay15 (k0_pay10 f v) (ix2 d n) = wt (f (ix2 d n)) (v (ix2 d n)) := by
  pointwise [k0_pay15, k0_pay10, k0_pay9, k0_pay8, k0_pay7]; rfl
theorem wt_u : k0_pay20 f v (ix2 d n) = wt (f (ix2 d n)) (v (ix2 d n)) := by
  pointwise [k0_pay20, k0_pay18, k0_pay17, k0_pay16]; rfl
theorem fac_g : k0_pay14 (k0_pay11 f v) (k0_pay12 v) (k0_pay13 v) (ix2 d n) = fac (f (ix2 d n)) (v (ix2 d n)) := by
  pointwise [k0_pay14, k0_pay11, k0_pay12, k0_pay13, k0_pay9, k0_pay8, k0_pay7]; rfl
theorem fac_u : k0_pay19 f v (ix2 d n) = fac (f (ix2 d n)) (v (ix2 d n)) := by
  pointwise [k0_pay19, k0_pay18, k0_pay17, k0_pay16]; rfl
end Weights

section Down
variable (f : Vec Ideal S4864x896 .i8) (v : Vec Ideal S4864x896 .f32) (n : Fin 4864) (d : Fin 896)
theorem wt_d : k0_pay25 f v (ix2 n d) = wt (f (ix2 n d)) (v (ix2 n d)) := by
  pointwise [k0_pay25, k0_pay23, k0_pay22, k0_pay21]; rfl
theorem fac_d : k0_pay24 f v (ix2 n d) = fac (f (ix2 n d)) (v (ix2 n d)) := by
  pointwise [k0_pay24, k0_pay23, k0_pay22, k0_pay21]; rfl
end Down

/-! ## The tokens and the projections -/

variable (I : In) (r : Fin 256)

section Tokens
variable (x : Vec Ideal S256x896 .bf16) (hx : ∀ r d, x (ix2 r d) = I.x r d)
include hx

theorem x3_at (k : Fin 14) (j : Fin 64) : k0_pay26 x (ix3 r k j) = I.x r ⟨k.val * 64 + j.val, by omega⟩ := by
  pointwise [k0_pay26]
  exact hx _ _
theorem xs_at (k : Fin 14) : k0_pay28 (k0_pay27 x) (ix2 r k) = I.XS r k := by
  have h := x3_at I r x hx
  unfold k0_pay27
  generalize k0_pay26 x = v117 at h ⊢
  pointwise [k0_pay28]
  simp only [h]; rfl
end Tokens

section Codes
variable (v117 : FVec Ideal S256x14x64 .f32) (v119 : FVec Ideal S256x14 .f32)
  (hx : ∀ r k (j : Fin 64), v117 (ix3 r k j) = I.x r ⟨k.val * 64 + j.val, by omega⟩) (hm : ∀ r k, k0_pay28 v119 (ix2 r k) = I.XS r k)
include hx hm

theorem xq_at (d : Fin 896) : k0_pay29 v117 v119 (ix2 r d) = I.XQ r d := by
  have h := hm r
  unfold k0_pay29
  generalize k0_pay28 v119 = u at h ⊢
  pointwise
  rw [h, hx, In.XQ, gcode, In.gscale_x]
  have e : (⟨d.val / 64 * 64 + d.val % 64, by omega⟩ : Fin 896) = d := Fin.ext (by simp only; omega)
  rw [e]; rfl
theorem xh_at (d : Fin 896) : k0_pay30 v117 v119 (ix2 r d) = I.XH r d := by
  have h := hm r
  have q := xq_at I r v117 v119 hx hm
  unfold k0_pay30
  generalize k0_pay28 v119 = u at h ⊢
  generalize k0_pay29 v117 v119 = w at q ⊢
  pointwise
  rw [q, h, In.XQ, In.XH, gdeq, In.gscale_x]
  exact congrArg (fun a : EReal => a * I.XS r ⟨d.val / 64, by omega⟩) (code_int _ _)
end Codes

section Gate
variable (v117 : FVec Ideal S256x14x64 .f32) (v119 : FVec Ideal S256x14 .f32) (hxh : ∀ r d, k0_pay30 v117 v119 (ix2 r d) = I.XH r d)
  (v1 v3 : FVec Ideal S1x4864 .f32) (v41 v77 : FVec Ideal S896x4864 .bf16)
  (h1 : ∀ f, v1 (ix2 0 f) = I.gs f) (h3 : ∀ f, v3 (ix2 0 f) = I.us f)
  (h41 : ∀ d f, v41 (ix2 d f) = wt (I.gf d f) (I.gv d f)) (h77 : ∀ d f, v77 (ix2 d f) = wt (I.uf d f) (I.uv d f))
include hxh

section
include h1 h41
theorem gp_at (f : Fin 4864) : k0_pay31 v1 v41 v117 v119 (ix2 r f) = I.GP r f := by
  have h := hxh r
  unfold k0_pay31
  generalize k0_pay30 v117 v119 = a at h ⊢
  pointwise
  rw [In.GP]
  simp only [h, h1, h41]
theorem lg_at (f : Fin 4864) : k0_pay33 v1 v41 v117 v119 (ix2 r f) = Ideal.logistic (I.GP r f) := by
  have h := gp_at I r v117 v119 hxh v1 v41 h1 h41
  unfold k0_pay33
  generalize k0_pay31 v1 v41 v117 v119 = a at h ⊢
  pointwise
  rw [h]
theorem sl_at (f : Fin 4864) : k0_pay34 v1 v41 v117 v119 (ix2 r f) = I.GP r f * Ideal.logistic (I.GP r f) := by
  have h := gp_at I r v117 v119 hxh v1 v41 h1 h41
  have h' := lg_at I r v117 v119 hxh v1 v41 h1 h41
  unfold k0_pay34
  generalize k0_pay33 v1 v41 v117 v119 = b at h' ⊢
  generalize k0_pay31 v1 v41 v117 v119 = a at h ⊢
  pointwise
  rw [h, h']
end

include h3 h77 in
theorem up_at (f : Fin 4864) : k0_pay32 v3 v77 v117 v119 (ix2 r f) = I.UP r f := by
  have h := hxh r
  unfold k0_pay32
  generalize k0_pay30 v117 v119 = a at h ⊢
  pointwise
  rw [In.UP]
  simp only [h, h3, h77]

/-! ## The activation -/

include h1 h3 h41 h77

theorem a_at (k : Fin 76) (j : Fin 64) : k0_pay35 v1 v3 v41 v77 v117 v119 (ix3 r k j) = I.A r ⟨k.val * 64 + j.val, by omega⟩ := by
  have h := sl_at I r v117 v119 hxh v1 v41 h1 h41
  have h' := up_at I r v117 v119 hxh v3 v77 h3 h77
  unfold k0_pay35
  generalize k0_pay34 v1 v41 v117 v119 = b at h ⊢
  generalize k0_pay32 v3 v77 v117 v119 = a at h' ⊢
  pointwise
  rw [h, h']; rfl
theorem as_at (k : Fin 76) : k0_pay36 v1 v3 v41 v77 v117 v119 (ix2 r k) = I.AS r k := by
  have h := a_at I r v117 v119 hxh v1 v3 v41 v77 h1 h3 h41 h77
  unfold k0_pay36
  generalize k0_pay35 v1 v3 v41 v77 v117 v119 = b at h ⊢
  pointwise
  simp only [h]; rfl
theorem aq_at (f : Fin 4864) : k0_pay38 (Scalar.ofBits .f32 0x42FE0000#32) (k0_pay37 v1 v3 v41 v77 v117 v119) (ix2 r f) = I.AQ r f := by
  have h := a_at I r v117 v119 hxh v1 v3 v41 v77 h1 h3 h41 h77
  have h' := as_at I r v117 v119 hxh v1 v3 v41 v77 h1 h3 h41 h77
  unfold k0_pay38 k0_pay37
  generalize k0_pay36 v1 v3 v41 v77 v117 v119 = a at h' ⊢
  generalize k0_pay35 v1 v3 v41 v77 v117 v119 = b at h ⊢
  pointwise
  rw [h, h', In.AQ, gcode, In.gscale_A]
  have e : (⟨f.val / 64 * 64 + f.val % 64, by omega⟩ : Fin 4864) = f := Fin.ext (by simp only; omega)
  rw [e]; rfl
theorem ah_at (f : Fin 4864) : k0_pay39 (k0_pay36 v1 v3 v41 v77 v117 v119) (Scalar.ofBits .f32 0x42FE0000#32)
    (k0_pay37 v1 v3 v41 v77 v117 v119) (ix2 r f) = I.AH r f := by
  have h := aq_at I r v117 v119 hxh v1 v3 v41 v77 h1 h3 h41 h77
  have h' := as_at I r v117 v119 hxh v1 v3 v41 v77 h1 h3 h41 h77
  unfold k0_pay39
  generalize k0_pay38 _ (k0_pay37 v1 v3 v41 v77 v117 v119) = b at h ⊢
  generalize k0_pay36 v1 v3 v41 v77 v117 v119 = a at h' ⊢
  pointwise
  rw [h, h', In.AQ, In.AH, gdeq, In.gscale_A]
  exact congrArg (fun a : EReal => a * I.AS r ⟨f.val / 64, by omega⟩) (code_int _ _)
end Gate

/-! ## The loss and the gradients, from the dequantised activation -/

section Back
variable (v5 : FVec Ideal S1x896 .f32) (v113 : FVec Ideal S4864x896 .bf16) (v160 : FVec Ideal S256x76 .f32) (k : Ideal .f32)
  (v166 : FVec Ideal S256x76x64 .f32) (y g : Vec Ideal S256x896 .bf16)
  (h5 : ∀ d, v5 (ix2 0 d) = I.ds d) (h113 : ∀ f d, v113 (ix2 f d) = wt (I.df f d) (I.dv f d))
  (ha : ∀ r f, k0_pay39 v160 k v166 (ix2 r f) = I.AH r f)
  (hy : ∀ r d, y (ix2 r d) = I.y r d) (hg : ∀ r d, g (ix2 r d) = I.g r d)
include h5 h113 ha hy

theorem err_at (d : Fin 896) : k0_pay40 v5 v113 v160 k v166 y (ix2 r d) = I.err r d := by
  have h := ha r
  unfold k0_pay40
  generalize k0_pay39 v160 k v166 = a at h ⊢
  pointwise
  rw [In.err, In.YH]
  simp only [h, h5, hy, h113]

include hg
theorem ge_at (d : Fin 896) : k0_pay41 v5 v113 v160 k v166 y g (ix2 r d) = I.g r d * I.g r d * I.err r d := by
  have h := err_at I r v5 v113 v160 k v166 y h5 h113 ha hy
  unfold k0_pay41
  generalize k0_pay40 v5 v113 v160 k v166 y = a at h ⊢
  pointwise
  rw [hg, h]
theorem loss_at (l : Fin 1) : k0_pay42 v5 v113 v160 k v166 y g (ix2 r l) = I.loss r := by
  have h := err_at I r v5 v113 v160 k v166 y h5 h113 ha hy
  have h' := ge_at I r v5 v113 v160 k v166 y g h5 h113 ha hy hg
  unfold k0_pay42
  generalize k0_pay41 v5 v113 v160 k v166 y g = b at h' ⊢
  generalize k0_pay40 v5 v113 v160 k v166 y = a at h ⊢
  pointwise
  rw [In.loss]
  simp only [h, h']
theorem dy_at (d : Fin 896) : k0_pay43 v5 v113 v160 k v166 y g (ix2 r d) = I.DY r d := by
  have h' := ge_at I r v5 v113 v160 k v166 y g h5 h113 ha hy hg
  unfold k0_pay43
  generalize k0_pay41 v5 v113 v160 k v166 y g = b at h' ⊢
  pointwise
  rw [h']; rfl
theorem da_at (f : Fin 4864) : k0_pay45 v5 v113 v160 k v166 y g (ix2 r f) = I.DA r f := by
  have h := dy_at I r v5 v113 v160 k v166 y g h5 h113 ha hy hg
  unfold k0_pay45
  generalize k0_pay43 v5 v113 v160 k v166 y g = b at h ⊢
  pointwise
  rw [In.DA]
  simp only [h, h5, h113, In.DS]
theorem od_at (v112 : FVec Ideal S4864x896 .f32) (h112 : ∀ f d, v112 (ix2 f d) = fac (I.df f d) (I.dv f d)) (f : Fin 4864) (d : Fin 896) :
    k0_pay3 v112 (k0_pay44 v5 v113 v160 k v166 y g) (ix2 f d) = I.OD f d := by
  have h := fun r => dy_at I r v5 v113 v160 k v166 y g h5 h113 ha hy hg
  unfold k0_pay3 k0_pay44
  generalize k0_pay43 v5 v113 v160 k v166 y g = b at h ⊢
  generalize k0_pay39 v160 k v166 = a at ha ⊢
  pointwise
  rw [In.OD]
  simp only [h, h5, h112, ha]

variable (v142 : FVec Ideal S256x896 .bf16) (hxh : ∀ r d, v142 (ix2 r d) = I.XH r d)
include hxh

theorem og_at (v1 : FVec Ideal S1x4864 .f32) (v40 : FVec Ideal S896x4864 .f32) (v145 v148 v149 : FVec Ideal S256x4864 .f32)
    (h1 : ∀ f, v1 (ix2 0 f) = I.gs f) (h40 : ∀ d f, v40 (ix2 d f) = fac (I.gf d f) (I.gv d f))
    (h145 : ∀ r f, v145 (ix2 r f) = I.GP r f) (h148 : ∀ r f, v148 (ix2 r f) = I.UP r f) (h149 : ∀ r f, v149 (ix2 r f) = Ideal.logistic (I.GP r f))
    (d : Fin 896) (f : Fin 4864) :
    k0_pay1 v1 v40 v142 (k0_pay46 v5 v113 v148 v149 v160 k v166 y g) (k0_pay47 v145 v149) (ix2 d f) = I.OG d f := by
  have h := fun r => da_at I r v5 v113 v160 k v166 y g h5 h113 ha hy hg
  unfold k0_pay1 k0_pay46 k0_pay47
  generalize k0_pay45 v5 v113 v160 k v166 y g = b at h ⊢
  pointwise
  rw [In.OG]
  simp only [h, h1, h40, hxh, h145, h148, h149, In.DG]
theorem ou_at (v3 : FVec Ideal S1x4864 .f32) (v76 : FVec Ideal S896x4864 .f32) (v150 : FVec Ideal S256x4864 .f32)
    (h3 : ∀ f, v3 (ix2 0 f) = I.us f) (h76 : ∀ d f, v76 (ix2 d f) = fac (I.uf d f) (I.uv d f))
    (h150 : ∀ r f, v150 (ix2 r f) = I.GP r f * Ideal.logistic (I.GP r f)) (d : Fin 896) (f : Fin 4864) :
    k0_pay2 v3 v76 v142 v150 (k0_pay45 v5 v113 v160 k v166 y g) (ix2 d f) = I.OU d f := by
  have h := fun r => da_at I r v5 v113 v160 k v166 y g h5 h113 ha hy hg
  unfold k0_pay2
  generalize k0_pay45 v5 v113 v160 k v166 y g = b at h ⊢
  pointwise
  rw [In.OU]
  simp only [h, h3, h76, hxh, h150, In.DU]
end Back

end Cert.ReferenceIdeal.Gen
-- ==== Proof.ReferenceIdeal.RefVal.lean ====
/- What the reference's body stores, as the specification's results. -/
module

public import proofs.«01_k».proof.Proof.ReferenceIdeal.RefAt

@[expose] public section

noncomputable section

namespace Cert.ReferenceIdeal.Gen

open Idealize.ShloMosaic Idealize.ShloMosaic.TcCoe Cert.Spec

/-! ## Loads of whole buffers -/

theorem hz2 : (![0, 0] : Fin 2 → ℕ) = fun _ => 0 := by funext a; fin_cases a <;> rfl

theorem ld_0 {e : EltTy} (x : Vec Ideal S1x4864 e) : View.ld x r0_0 = x := View.ld_unit_zero hz2 _ x
theorem ld_1 {e : EltTy} (x : Vec Ideal S1x896 e) : View.ld x r0_1 = x := View.ld_unit_zero hz2 _ x
theorem ld_2 {e : EltTy} (x : Vec Ideal S896x4864 e) : View.ld x r0_2 = x := View.ld_unit_zero hz2 _ x
theorem ld_3 {e : EltTy} (x : Vec Ideal S4864x896 e) : View.ld x r0_3 = x := View.ld_unit_zero hz2 _ x
theorem ld_4 {e : EltTy} (x : Vec Ideal S256x896 e) : View.ld x r0_4 = x := View.ld_unit_zero hz2 _ x

/-- The body's twelve input blocks hold the specification's arguments. -/
structure RefIn (I : In) (x0 : Vec Ideal S256x896 .bf16) (x1 : Vec Ideal S256x896 .bf16) (x2 : Vec Ideal S256x896 .bf16) (x3 : Vec Ideal S896x4864 .i8) (x4 : Vec Ideal S1x4864 .f32) (x5 : Vec Ideal S896x4864 .f32) (x6 : Vec Ideal S896x4864 .i8) (x7 : Vec Ideal S1x4864 .f32) (x8 : Vec Ideal S896x4864 .f32) (x9 : Vec Ideal S4864x896 .i8) (x10 : Vec Ideal S1x896 .f32) (x11 : Vec Ideal S4864x896 .f32) : Prop where
  x : ∀ a b, x0 (ix2 a b) = I.x a b
  y : ∀ a b, x1 (ix2 a b) = I.y a b
  g : ∀ a b, x2 (ix2 a b) = I.g a b
  gf : ∀ a b, x3 (ix2 a b) = I.gf a b
  gs : ∀ f, x4 (ix2 0 f) = I.gs f
  gv : ∀ a b, x5 (ix2 a b) = I.gv a b
  uf : ∀ a b, x6 (ix2 a b) = I.uf a b
  us : ∀ f, x7 (ix2 0 f) = I.us f
  uv : ∀ a b, x8 (ix2 a b) = I.uv a b
  df : ∀ a b, x9 (ix2 a b) = I.df a b
  ds : ∀ f, x10 (ix2 0 f) = I.ds f
  dv : ∀ a b, x11 (ix2 a b) = I.dv a b

variable {I : In} {x0 : Vec Ideal S256x896 .bf16} {x1 : Vec Ideal S256x896 .bf16} {x2 : Vec Ideal S256x896 .bf16} {x3 : Vec Ideal S896x4864 .i8} {x4 : Vec Ideal S1x4864 .f32} {x5 : Vec Ideal S896x4864 .f32} {x6 : Vec Ideal S896x4864 .i8} {x7 : Vec Ideal S1x4864 .f32} {x8 : Vec Ideal S896x4864 .f32} {x9 : Vec Ideal S4864x896 .i8} {x10 : Vec Ideal S1x896 .f32} {x11 : Vec Ideal S4864x896 .f32}
  (H : RefIn I x0 x1 x2 x3 x4 x5 x6 x7 x8 x9 x10 x11)
include H

/-! ## The values that the body names -/

theorem p48 (f : Fin 4864) : k0_pay48 x0 x1 x2 x3 x4 x5 x6 x7 x8 x9 x10 x11 (ix2 0 f) = I.gs f := by
  unfold k0_pay48; rw [ld_0]; pointwise [k0_pay4]; exact H.gs f
theorem p49 (f : Fin 4864) : k0_pay49 x0 x1 x2 x3 x4 x5 x6 x7 x8 x9 x10 x11 (ix2 0 f) = I.us f := by
  unfold k0_pay49; rw [ld_0]; pointwise [k0_pay5]; exact H.us f
theorem p50 (d : Fin 896) : k0_pay50 x0 x1 x2 x3 x4 x5 x6 x7 x8 x9 x10 x11 (ix2 0 d) = I.ds d := by
  unfold k0_pay50; rw [ld_1]; pointwise [k0_pay6]; exact H.ds d
theorem p51 (d : Fin 896) (f : Fin 4864) : k0_pay51 x0 x1 x2 x3 x4 x5 x6 x7 x8 x9 x10 x11 (ix2 d f) = wt (I.gf d f) (I.gv d f) := by
  unfold k0_pay51; rw [ld_2, ld_2, wt_g, H.gf, H.gv]
theorem p52 (d : Fin 896) (f : Fin 4864) : k0_pay52 x0 x1 x2 x3 x4 x5 x6 x7 x8 x9 x10 x11 (ix2 d f) = wt (I.uf d f) (I.uv d f) := by
  unfold k0_pay52; rw [ld_2, ld_2, wt_u, H.uf, H.uv]
theorem p53 (f : Fin 4864) (d : Fin 896) : k0_pay53 x0 x1 x2 x3 x4 x5 x6 x7 x8 x9 x10 x11 (ix2 f d) = wt (I.df f d) (I.dv f d) := by
  unfold k0_pay53; rw [ld_3, ld_3, wt_d, H.df, H.dv]
theorem p54 (r : Fin 256) (k : Fin 14) (j : Fin 64) : k0_pay54 x0 x1 x2 x3 x4 x5 x6 x7 x8 x9 x10 x11 (ix3 r k j) = I.x r ⟨k.val * 64 + j.val, by omega⟩ := by
  unfold k0_pay54; rw [ld_4]; exact x3_at (hx := H.x) ..
theorem p55 (r : Fin 256) (k : Fin 14) : k0_pay28 (k0_pay55 x0 x1 x2 x3 x4 x5 x6 x7 x8 x9 x10 x11) (ix2 r k) = I.XS r k := by
  unfold k0_pay55; rw [ld_4]; exact xs_at (hx := H.x) ..
theorem pXH (r : Fin 256) (d : Fin 896) : k0_pay30 (k0_pay54 x0 x1 x2 x3 x4 x5 x6 x7 x8 x9 x10 x11) (k0_pay55 x0 x1 x2 x3 x4 x5 x6 x7 x8 x9 x10 x11) (ix2 r d) = I.XH r d :=
  xh_at (hx := p54 H) (hm := p55 H) ..
theorem p57 (r : Fin 256) (f : Fin 4864) : k0_pay57 x0 x1 x2 x3 x4 x5 x6 x7 x8 x9 x10 x11 (ix2 r f) = Ideal.logistic (I.GP r f) := by
  unfold k0_pay57; exact lg_at (hxh := pXH H) (h1 := p48 H) (h41 := p51 H) ..
theorem pAH (r : Fin 256) (f : Fin 4864) : k0_pay39 (k0_pay58 x0 x1 x2 x3 x4 x5 x6 x7 x8 x9 x10 x11) (Scalar.ofBits .f32 0x42FE0000#32) (k0_pay59 x0 x1 x2 x3 x4 x5 x6 x7 x8 x9 x10 x11) (ix2 r f) = I.AH r f := by
  unfold k0_pay58 k0_pay59; exact ah_at (hxh := pXH H) (h1 := p48 H) (h3 := p49 H) (h41 := p51 H) (h77 := p52 H) ..

/-! ## The eight stores -/

theorem st_12 : out0_12 x0 x1 x2 x3 x4 x5 x6 x7 x8 x9 x10 x11 = (fun j => I.loss (j 0) : Vec Ideal S256x1 .f32) := by
  funext j
  obtain ⟨a, b, rfl⟩ : ∃ a b, j = ix2 a b := ⟨j 0, j 1, eq_ix2 j⟩
  unfold out0_12
  rw [View.canon_unit_zero hz2]
  simp only [ld_2, ld_3, ld_4]
  exact loss_at (h5 := p50 H) (h113 := p53 H) (ha := pAH H) (hy := H.y) (hg := H.g) ..
theorem st_13 : out0_13 x0 x1 x2 x3 x4 x5 x6 x7 x8 x9 x10 x11 = (fun j => I.OG (j 0) (j 1) : Vec Ideal S896x4864 .f32) := by
  funext j
  obtain ⟨a, b, rfl⟩ : ∃ a b, j = ix2 a b := ⟨j 0, j 1, eq_ix2 j⟩
  unfold out0_13 k0_pay56
  rw [View.canon_unit_zero hz2]
  simp only [ld_2, ld_3, ld_4]
  refine og_at (h5 := p50 H) (h113 := p53 H) (ha := pAH H) (hy := H.y) (hg := H.g) (hxh := pXH H) (h1 := p48 H)
    (h40 := fun d f => ?_) (h145 := fun r f => gp_at (hxh := pXH H) (h1 := p48 H) (h41 := p51 H) ..)
    (h148 := fun r f => up_at (hxh := pXH H) (h3 := p49 H) (h77 := p52 H) ..) (h149 := p57 H) ..
  rw [fac_g, H.gf, H.gv]
theorem st_14 : out0_14 x0 x1 x2 x3 x4 x5 x6 x7 x8 x9 x10 x11 = (fun j => I.OU (j 0) (j 1) : Vec Ideal S896x4864 .f32) := by
  funext j
  obtain ⟨a, b, rfl⟩ : ∃ a b, j = ix2 a b := ⟨j 0, j 1, eq_ix2 j⟩
  unfold out0_14 k0_pay56
  rw [View.canon_unit_zero hz2]
  simp only [ld_2, ld_3, ld_4]
  refine ou_at (h5 := p50 H) (h113 := p53 H) (ha := pAH H) (hy := H.y) (hg := H.g) (hxh := pXH H) (h3 := p49 H)
    (h76 := fun d f => ?_) (h150 := fun r f => sl_at (hxh := pXH H) (h1 := p48 H) (h41 := p51 H) ..) ..
  rw [fac_u, H.uf, H.uv]
theorem st_15 : out0_15 x0 x1 x2 x3 x4 x5 x6 x7 x8 x9 x10 x11 = (fun j => I.OD (j 0) (j 1) : Vec Ideal S4864x896 .f32) := by
  funext j
  obtain ⟨a, b, rfl⟩ : ∃ a b, j = ix2 a b := ⟨j 0, j 1, eq_ix2 j⟩
  unfold out0_15
  rw [View.canon_unit_zero hz2]
  simp only [ld_2, ld_3, ld_4]
  refine od_at (h5 := p50 H) (h113 := p53 H) (ha := pAH H) (hy := H.y) (hg := H.g) (h112 := fun f d => ?_) ..
  rw [fac_d, H.df, H.dv]
theorem st_16 : out0_16 x0 x1 x2 x3 x4 x5 x6 x7 x8 x9 x10 x11 = (fun j => I.XQ (j 0) (j 1) : Vec Ideal S256x896 .i8) := by
  funext j
  obtain ⟨a, b, rfl⟩ : ∃ a b, j = ix2 a b := ⟨j 0, j 1, eq_ix2 j⟩
  unfold out0_16
  rw [View.canon_unit_zero hz2]
  exact xq_at (hx := p54 H) (hm := p55 H) ..
theorem st_17 : out0_17 x0 x1 x2 x3 x4 x5 x6 x7 x8 x9 x10 x11 = (fun j => I.XS (j 0) (j 1) : Vec Ideal S256x14 .f32) := by
  funext j
  obtain ⟨a, b, rfl⟩ : ∃ a b, j = ix2 a b := ⟨j 0, j 1, eq_ix2 j⟩
  unfold out0_17
  rw [View.canon_unit_zero hz2]
  exact p55 H a b
theorem st_18 : out0_18 x0 x1 x2 x3 x4 x5 x6 x7 x8 x9 x10 x11 = (fun j => I.AQ (j 0) (j 1) : Vec Ideal S256x4864 .i8) := by
  funext j
  obtain ⟨a, b, rfl⟩ : ∃ a b, j = ix2 a b := ⟨j 0, j 1, eq_ix2 j⟩
  unfold out0_18
  rw [View.canon_unit_zero hz2]
  unfold k0_pay59; exact aq_at (hxh := pXH H) (h1 := p48 H) (h3 := p49 H) (h41 := p51 H) (h77 := p52 H) ..
theorem st_19 : out0_19 x0 x1 x2 x3 x4 x5 x6 x7 x8 x9 x10 x11 = (fun j => I.AS (j 0) (j 1) : Vec Ideal S256x76 .f32) := by
  funext j
  obtain ⟨a, b, rfl⟩ : ∃ a b, j = ix2 a b := ⟨j 0, j 1, eq_ix2 j⟩
  unfold out0_19
  rw [View.canon_unit_zero hz2]
  unfold k0_pay58; exact as_at (hxh := pXH H) (h1 := p48 H) (h3 := p49 H) (h41 := p51 H) (h77 := p52 H) ..

end Cert.ReferenceIdeal.Gen
-- ==== Proof.ReferenceIdeal.RefRun.lean ====
/- The reference's run: its eight results are the specification's, its arguments stay. -/
module

public import proofs.«01_k».proof.Proof.ReferenceIdeal.RefHost
public import proofs.«01_k».proof.Proof.ReferenceIdeal.RefVal
public import Idealize.ShloMosaic.Lib.Pipeline.ValueKit.Geometry

@[expose] public section

noncomputable section

namespace Cert.ReferenceIdeal.Gen

open Idealize.ShloMosaic Idealize.ShloMosaic.TcCoe Cert.Spec Idealize.SL
open Idealize.ShloMosaic.Pipeline (Dat Cfg Window)

variable (m : (ℓ : Loc nD τ sig) → Buf (Elt Ideal) ℓ) (ρ : Dev nD → PrngReg) (c : Dev nD)

/-- The body's blocks hold the specification's arguments. -/
theorem refIn (t : Fin cfg0.N) : RefIn (inR m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  constructor
  · intro a b; rw [blk_0]; exact rd_v0 m c a b
  · intro a b; rw [blk_1]; exact rd_v1 m c a b
  · intro a b; rw [blk_2]; exact rd_v2 m c a b
  · intro a b; rw [blk_3]; exact congrFun (V_main_arg3 m c) (ix2 a b : S896x4864.Idx)
  · intro f; rw [blk_4]; exact rd_v3 m c f
  · intro a b; rw [blk_5]; exact congrFun (V_main_arg5 m c) (ix2 a b : S896x4864.Idx)
  · intro a b; rw [blk_6]; exact congrFun (V_main_arg6 m c) (ix2 a b : S896x4864.Idx)
  · intro f; rw [blk_7]; exact rd_v4 m c f
  · intro a b; rw [blk_8]; exact congrFun (V_main_arg8 m c) (ix2 a b : S896x4864.Idx)
  · intro a b; rw [blk_9]; exact congrFun (V_main_arg9 m c) (ix2 a b : S4864x896.Idx)
  · intro f; rw [blk_10]; exact rd_v5 m c f
  · intro a b; rw [blk_11]; exact congrFun (V_main_arg11 m c) (ix2 a b : S4864x896.Idx)

/-! ## The arrays after the region -/

theorem arr_12 : (dats m 0 c).arrAt 12 cfg0.N = (fun j => (inR m c).loss (j 0) : Vec Ideal S256x1 .f32) := by
  refine (dats m 0 c).arrAt_eq_of_covers 12 _ (by decide +kernel) fun t hf y => ?_
  rw [emb_12]
  show ((dats m 0 c).after 12 t : Vec Ideal S256x1 .f32) y = _
  rw [after0_12]
  exact congrFun (st_12 (refIn m c t)) y
theorem arr_13 : (dats m 0 c).arrAt 13 cfg0.N = (fun j => (inR m c).OG (j 0) (j 1) : Vec Ideal S896x4864 .f32) := by
  refine (dats m 0 c).arrAt_eq_of_covers 13 _ (by decide +kernel) fun t hf y => ?_
  rw [emb_13]
  show ((dats m 0 c).after 13 t : Vec Ideal S896x4864 .f32) y = _
  rw [after0_13]
  exact congrFun (st_13 (refIn m c t)) y
theorem arr_14 : (dats m 0 c).arrAt 14 cfg0.N = (fun j => (inR m c).OU (j 0) (j 1) : Vec Ideal S896x4864 .f32) := by
  refine (dats m 0 c).arrAt_eq_of_covers 14 _ (by decide +kernel) fun t hf y => ?_
  rw [emb_14]
  show ((dats m 0 c).after 14 t : Vec Ideal S896x4864 .f32) y = _
  rw [after0_14]
  exact congrFun (st_14 (refIn m c t)) y
theorem arr_15 : (dats m 0 c).arrAt 15 cfg0.N = (fun j => (inR m c).OD (j 0) (j 1) : Vec Ideal S4864x896 .f32) := by
  refine (dats m 0 c).arrAt_eq_of_covers 15 _ (by decide +kernel) fun t hf y => ?_
  rw [emb_15]
  show ((dats m 0 c).after 15 t : Vec Ideal S4864x896 .f32) y = _
  rw [after0_15]
  exact congrFun (st_15 (refIn m c t)) y
theorem arr_16 : (dats m 0 c).arrAt 16 cfg0.N = (fun j => (inR m c).XQ (j 0) (j 1) : Vec Ideal S256x896 .i8) := by
  refine (dats m 0 c).arrAt_eq_of_covers 16 _ (by decide +kernel) fun t hf y => ?_
  rw [emb_16]
  show ((dats m 0 c).after 16 t : Vec Ideal S256x896 .i8) y = _
  rw [after0_16]
  exact congrFun (st_16 (refIn m c t)) y
theorem arr_17 : (dats m 0 c).arrAt 17 cfg0.N = (fun j => (inR m c).XS (j 0) (j 1) : Vec Ideal S256x14 .f32) := by
  refine (dats m 0 c).arrAt_eq_of_covers 17 _ (by decide +kernel) fun t hf y => ?_
  rw [emb_17]
  show ((dats m 0 c).after 17 t : Vec Ideal S256x14 .f32) y = _
  rw [after0_17]
  exact congrFun (st_17 (refIn m c t)) y
theorem arr_18 : (dats m 0 c).arrAt 18 cfg0.N = (fun j => (inR m c).AQ (j 0) (j 1) : Vec Ideal S256x4864 .i8) := by
  refine (dats m 0 c).arrAt_eq_of_covers 18 _ (by decide +kernel) fun t hf y => ?_
  rw [emb_18]
  show ((dats m 0 c).after 18 t : Vec Ideal S256x4864 .i8) y = _
  rw [after0_18]
  exact congrFun (st_18 (refIn m c t)) y
theorem arr_19 : (dats m 0 c).arrAt 19 cfg0.N = (fun j => (inR m c).AS (j 0) (j 1) : Vec Ideal S256x76 .f32) := by
  refine (dats m 0 c).arrAt_eq_of_covers 19 _ (by decide +kernel) fun t hf y => ?_
  rw [emb_19]
  show ((dats m 0 c).after 19 t : Vec Ideal S256x76 .f32) y = _
  rw [after0_19]
  exact congrFun (st_19 (refIn m c t)) y

/-! ## The results -/

/-- A result that the region returns and the host reshapes. -/
theorem tail_arr (w : Fin cfg0.W) : Pipeline.withArrays spec0 c (V0 m c) (fun w => (dats m 0 c).arrAt w cfg0.N)
    (Proc.devRef .tc (Pipeline.arrRef spec0 w)) = (dats m 0 c).arrAt w cfg0.N :=
  Pipeline.withArrays_arr spec0 launch0.win.arr_inj c _ _ w

theorem out_rLoss : Pipeline.afterTail₀ cfgs (dats m) 0 (V0 m) [hostOps1] c main_v7 = (inR m c).rLoss := by
  funext j
  obtain ⟨r, rfl⟩ := one_ix2 j
  refine (rd_v7 _ r).trans ?_
  exact congrFun ((tail_arr m c 12).trans (arr_12 m c)) (ix2 r 0 : S256x1.Idx)
theorem out_rXQ : Pipeline.afterTail₀ cfgs (dats m) 0 (V0 m) [hostOps1] c main_v8 = (inR m c).rXQ := by
  funext j
  obtain ⟨r, d, rfl⟩ := one_ix3 j
  refine (rd_v8 _ r d).trans ?_
  exact congrFun ((tail_arr m c 16).trans (arr_16 m c)) (ix2 r d : S256x896.Idx)
theorem out_rXS : Pipeline.afterTail₀ cfgs (dats m) 0 (V0 m) [hostOps1] c main_v9 = (inR m c).rXS := by
  funext j
  obtain ⟨r, d, rfl⟩ := one_ix3 j
  refine (rd_v9 _ r d).trans ?_
  exact congrFun ((tail_arr m c 17).trans (arr_17 m c)) (ix2 r d : S256x14.Idx)
theorem out_rAQ : Pipeline.afterTail₀ cfgs (dats m) 0 (V0 m) [hostOps1] c main_v10 = (inR m c).rAQ := by
  funext j
  obtain ⟨r, d, rfl⟩ := one_ix3 j
  refine (rd_v10 _ r d).trans ?_
  exact congrFun ((tail_arr m c 18).trans (arr_18 m c)) (ix2 r d : S256x4864.Idx)
theorem out_rAS : Pipeline.afterTail₀ cfgs (dats m) 0 (V0 m) [hostOps1] c main_v11 = (inR m c).rAS := by
  funext j
  obtain ⟨r, d, rfl⟩ := one_ix3 j
  refine (rd_v11 _ r d).trans ?_
  exact congrFun ((tail_arr m c 19).trans (arr_19 m c)) (ix2 r d : S256x76.Idx)

/-- Every run of the reference ends with the specification's results. -/
theorem run_results : θ_run defs (onTc (τ := τ) (main (F := Ideal))) ⟨m, fun _ => 0, ρ⟩ (fun r => ∀ c : Dev nD,
      r.2.mem ((c.tc : Thread nD τ).loc main_v7) = (inR m c).rLoss
      ∧ r.2.mem ((c.tc : Thread nD τ).loc main_v6_1) = (inR m c).rOG
      ∧ r.2.mem ((c.tc : Thread nD τ).loc main_v6_2) = (inR m c).rOU
      ∧ r.2.mem ((c.tc : Thread nD τ).loc main_v6_3) = (inR m c).rOD
      ∧ r.2.mem ((c.tc : Thread nD τ).loc main_v8) = (inR m c).rXQ
      ∧ r.2.mem ((c.tc : Thread nD τ).loc main_v9) = (inR m c).rXS
      ∧ r.2.mem ((c.tc : Thread nD τ).loc main_v10) = (inR m c).rAQ
      ∧ r.2.mem ((c.tc : Thread nD τ).loc main_v11) = (inR m c).rAS) :=
  (θ_run defs _ _).mono (fun r h c => ⟨((h c).2 main_v7 (Pipeline.mem_restRefs_of main_v7 (by decide) (by decide))).trans (out_rLoss m c),
    ((h c).1 13).trans (arr_13 m c),
    ((h c).1 14).trans (arr_14 m c),
    ((h c).1 15).trans (arr_15 m c),
    ((h c).2 main_v8 (Pipeline.mem_restRefs_of main_v8 (by decide) (by decide))).trans (out_rXQ m c),
    ((h c).2 main_v9 (Pipeline.mem_restRefs_of main_v9 (by decide) (by decide))).trans (out_rXS m c),
    ((h c).2 main_v10 (Pipeline.mem_restRefs_of main_v10 (by decide) (by decide))).trans (out_rAQ m c),
    ((h c).2 main_v11 (Pipeline.mem_restRefs_of main_v11 (by decide) (by decide))).trans (out_rAS m c)⟩) (run_main m ρ)

/-- Every run of the reference ends with the specification's results, and with the arguments as launched. -/
theorem run_values : θ_run defs (onTc (τ := τ) (main (F := Ideal))) ⟨m, fun _ => 0, ρ⟩ (fun r => ∀ c : Dev nD,
      r.2.mem ((c.tc : Thread nD τ).loc main_v7) = (inR m c).rLoss
      ∧ r.2.mem ((c.tc : Thread nD τ).loc main_v6_1) = (inR m c).rOG
      ∧ r.2.mem ((c.tc : Thread nD τ).loc main_v6_2) = (inR m c).rOU
      ∧ r.2.mem ((c.tc : Thread nD τ).loc main_v6_3) = (inR m c).rOD
      ∧ r.2.mem ((c.tc : Thread nD τ).loc main_v8) = (inR m c).rXQ
      ∧ r.2.mem ((c.tc : Thread nD τ).loc main_v9) = (inR m c).rXS
      ∧ r.2.mem ((c.tc : Thread nD τ).loc main_v10) = (inR m c).rAQ
      ∧ r.2.mem ((c.tc : Thread nD τ).loc main_v11) = (inR m c).rAS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨a, b, d, e, f, g, i, j⟩ := h.1 c
    exact ⟨a, b, d, e, f, g, i, j, h.2 c⟩) (θ_run_and (run_results m ρ) (unchanged m ρ))

end Cert.ReferenceIdeal.Gen
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.RunAt
public import proofs.«01_k».proof.Proof.ReferenceIdeal.RefRun

@[expose] public section

noncomputable section

namespace Cert.Proof

open Idealize.ShloMosaic Idealize.SL.Sem Cert.Kernel

/-- From equal arguments, both programs are given the same arguments of the specification. -/
theorem in_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Gen.inR m' c = Cert.KernelIdeal.Gen.inM m c := by
  obtain ⟨h0, h1, h2, h3, h4, h5, h6, h7, h8, h9, h10, h11⟩ := h
  unfold Cert.ReferenceIdeal.Gen.inR Cert.KernelIdeal.Gen.inM
  rw [h0, h1, h2, h3, h4, h5, h6, h7, h8, h9, h10, h11]

/-- Kernel and reference compute the same eight arrays over the extended reals: both end with the specification's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.inM m c).rLoss, fun c => (Cert.KernelIdeal.Gen.inM m c).rOG,
    fun c => (Cert.KernelIdeal.Gen.inM m c).rOU, fun c => (Cert.KernelIdeal.Gen.inM m c).rOD,
    fun c => (Cert.KernelIdeal.Gen.inM m c).rXQ, fun c => (Cert.KernelIdeal.Gen.inM m c).rXS,
    fun c => (Cert.KernelIdeal.Gen.inM m c).rAQ, fun c => (Cert.KernelIdeal.Gen.inM m c).rAS,
    Cert.KernelIdeal.Gen.run_values m g, ?_⟩
  refine (θ_run _ _ _).mono (fun r h c => ?_) (Cert.ReferenceIdeal.Gen.run_values m' g')
  have h := h c
  rw [in_eq m m' c (hagree c)] at h
  exact h

/-- Every claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
